-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v6_4)) (v5 : (c : Dev Cert.KernelIdeal.nD) → Buf (Elt Ideal) ((c.tc : Thread Cert.KernelIdeal.nD Cert.KernelIdeal.τ).loc Cert.KernelIdeal.main_v6_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_v6_4) = v4 c
          ∧ r.2.mem ((c.tc : Thread Cert.KernelIdeal.nD Cert.KernelIdeal.τ).loc Cert.KernelIdeal.main_v6_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_v72) = v2 c
          ∧ r.2.mem ((c.tc : Thread Cert.ReferenceIdeal.nD Cert.ReferenceIdeal.τ).loc Cert.ReferenceIdeal.main_v15) = v3 c
          ∧ r.2.mem ((c.tc : Thread Cert.ReferenceIdeal.nD Cert.ReferenceIdeal.τ).loc Cert.ReferenceIdeal.main_v25) = v4 c
          ∧ r.2.mem ((c.tc : Thread Cert.ReferenceIdeal.nD Cert.ReferenceIdeal.τ).loc Cert.ReferenceIdeal.main_v73) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x4096 : Shape := ⟨3, ![2, 1024, 4096]⟩
abbrev S4096 : Shape := ⟨1, ![4096]⟩
abbrev S2048x4096 : Shape := ⟨2, ![2048, 4096]⟩
abbrev S1x4096 : Shape := ⟨2, ![1, 4096]⟩
abbrev S2048x32 : Shape := ⟨2, ![2048, 32]⟩
abbrev S2048x512 : Shape := ⟨2, ![2048, 512]⟩
abbrev S2x1024 : Shape := ⟨2, ![2, 1024]⟩
abbrev S128x4096 : Shape := ⟨2, ![128, 4096]⟩
abbrev S128x32 : Shape := ⟨2, ![128, 32]⟩
abbrev S128x512 : Shape := ⟨2, ![128, 512]⟩
abbrev S32x4096 : Shape := ⟨2, ![32, 4096]⟩
abbrev S8x256x256 : Shape := ⟨3, ![8, 256, 256]⟩
abbrev S256x256 : Shape := ⟨2, ![256, 256]⟩
abbrev S1x256x256 : Shape := ⟨3, ![1, 256, 256]⟩
abbrev S32x128 : Shape := ⟨2, ![32, 128]⟩
abbrev S1x128 : Shape := ⟨2, ![1, 128]⟩
abbrev S32x256 : Shape := ⟨2, ![32, 256]⟩
abbrev S1x256 : Shape := ⟨2, ![1, 256]⟩
abbrev S32 : Shape := ⟨1, ![32]⟩
abbrev S32x1 : Shape := ⟨2, ![32, 1]⟩
abbrev S128 : Shape := ⟨1, ![128]⟩
abbrev S32x32 : Shape := ⟨2, ![32, 32]⟩
abbrev S2x128 : Shape := ⟨2, ![2, 128]⟩

abbrev nBuf : Space → Nat
  | .hbm => 18
  | .vmem => 22
  | .smem => 0
  | _ => 0

abbrev bufTy : (tb : Table) → Fin (tcTables nBuf tb) → BufTy
  | .hbm, ⟨0, _⟩ => ⟨S2x1024x4096, .bf16⟩
  | .hbm, ⟨1, _⟩ => ⟨S2x1024x4096, .bf16⟩
  | .hbm, ⟨2, _⟩ => ⟨S4096, .f32⟩
  | .hbm, ⟨3, _⟩ => ⟨S2x1024x4096, .i32⟩
  | .hbm, ⟨4, _⟩ => ⟨S4096, .f32⟩
  | .hbm, ⟨5, _⟩ => ⟨S4096, .f32⟩
  | .hbm, ⟨6, _⟩ => ⟨S2048x4096, .bf16⟩
  | .hbm, ⟨7, _⟩ => ⟨S2048x4096, .bf16⟩
  | .hbm, ⟨8, _⟩ => ⟨S2048x4096, .i32⟩
  | .hbm, ⟨9, _⟩ => ⟨S1x4096, .f32⟩
  | .hbm, ⟨10, _⟩ => ⟨S1x4096, .f32⟩
  | .hbm, ⟨11, _⟩ => ⟨S1x4096, .f32⟩
  | .hbm, ⟨12, _⟩ => ⟨S2048x4096, .fp8e4m3⟩
  | .hbm, ⟨13, _⟩ => ⟨S2048x32, .f32⟩
  | .hbm, ⟨14, _⟩ => ⟨S2048x512, .i8⟩
  | .hbm, ⟨15, _⟩ => ⟨S2x1024, .f32⟩
  | .hbm, ⟨16, _⟩ => ⟨S2x1024, .f32⟩
  | .hbm, ⟨17, _⟩ => ⟨S2048x4096, .bf16⟩
  | .local _ .vmem, ⟨0, _⟩ => ⟨S128x4096, .bf16⟩
  | .local _ .vmem, ⟨1, _⟩ => ⟨S128x4096, .bf16⟩
  | .local _ .vmem, ⟨2, _⟩ => ⟨S128x4096, .bf16⟩
  | .local _ .vmem, ⟨3, _⟩ => ⟨S128x4096, .bf16⟩
  | .local _ .vmem, ⟨4, _⟩ => ⟨S128x4096, .i32⟩
  | .local _ .vmem, ⟨5, _⟩ => ⟨S128x4096, .i32⟩
  | .local _ .vmem, ⟨6, _⟩ => ⟨S1x4096, .f32⟩
  | .local _ .vmem, ⟨7, _⟩ => ⟨S1x4096, .f32⟩
  | .local _ .vmem, ⟨8, _⟩ => ⟨S1x4096, .f32⟩
  | .local _ .vmem, ⟨9, _⟩ => ⟨S128x4096, .fp8e4m3⟩
  | .local _ .vmem, ⟨10, _⟩ => ⟨S128x4096, .fp8e4m3⟩
  | .local _ .vmem, ⟨11, _⟩ => ⟨S128x32, .f32⟩
  | .local _ .vmem, ⟨12, _⟩ => ⟨S128x32, .f32⟩
  | .local _ .vmem, ⟨13, _⟩ => ⟨S128x512, .i8⟩
  | .local _ .vmem, ⟨14, _⟩ => ⟨S128x512, .i8⟩
  | .local _ .vmem, ⟨15, _⟩ => ⟨S2x1024, .f32⟩
  | .local _ .vmem, ⟨16, _⟩ => ⟨S2x1024, .f32⟩
  | .local _ .vmem, ⟨17, _⟩ => ⟨S128x4096, .bf16⟩
  | .local _ .vmem, ⟨18, _⟩ => ⟨S128x4096, .bf16⟩
  | .local _ .vmem, ⟨19, _⟩ => ⟨S32x4096, .f32⟩
  | .local _ .vmem, ⟨20, _⟩ => ⟨S32x4096, .f32⟩
  | .local _ .vmem, ⟨21, _⟩ => ⟨S8x256x256, .bf16⟩
  | _, _ => ⟨S2x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev main_v6_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c8_i32_4051 : BitVec 32 := 8#32
  let c0_i32_4052 : BitVec 32 := 0#32
  let v7999 : BitVec 1 := Scalar.cmpi .eq c8_i32_4051 c0_i32_4052
  let c1_i32_4053 : BitVec 32 := 1#32
  let v8000 : BitVec 32 := Scalar.select v7999 c1_i32_4053 c8_i32_4051
  let v8001 : BitVec 32 := Scalar.remsi arg0 v8000
  let c0_i32_4055 : BitVec 32 := 0#32
  let v8003 : BitVec 1 := Scalar.cmpi .slt v8001 c0_i32_4055
  let c0_i32_4056 : BitVec 32 := 0#32
  let v8004 : BitVec 1 := Scalar.cmpi .slt v8000 c0_i32_4056
  let v8005 : BitVec 1 := Scalar.xori v8003 v8004
  let c0_i32_4054 : BitVec 32 := 0#32
  let v8002 : BitVec 1 := Scalar.cmpi .ne v8001 c0_i32_4054
  let v8006 : BitVec 1 := Scalar.andi v8005 v8002
  let v8007 : BitVec 32 := Scalar.addi v8001 v8000
  let v8008 : BitVec 32 := Scalar.select v8006 v8007 v8001
  let c128_i32 : BitVec 32 := 128#32
  let v8009 : BitVec 32 := Scalar.muli v8008 c128_i32
  v8009
def k0_off1 (i : grid0.Coords) : Fin 2 → Nat :=
  let c0_4064 : Index := 0#32
  let arg0 : BitVec 32 := BitVec.ofNat 32 (i 0).val
  let c8_i32_4051 : BitVec 32 := 8#32
  let c0_i32_4052 : BitVec 32 := 0#32
  let v7999 : BitVec 1 := Scalar.cmpi .eq c8_i32_4051 c0_i32_4052
  let c1_i32_4053 : BitVec 32 := 1#32
  let v8000 : BitVec 32 := Scalar.select v7999 c1_i32_4053 c8_i32_4051
  let v8001 : BitVec 32 := Scalar.remsi arg0 v8000
  let c0_i32_4055 : BitVec 32 := 0#32
  let v8003 : BitVec 1 := Scalar.cmpi .slt v8001 c0_i32_4055
  let c0_i32_4056 : BitVec 32 := 0#32
  let v8004 : BitVec 1 := Scalar.cmpi .slt v8000 c0_i32_4056
  let v8005 : BitVec 1 := Scalar.xori v8003 v8004
  let c0_i32_4054 : BitVec 32 := 0#32
  let v8002 : BitVec 1 := Scalar.cmpi .ne v8001 c0_i32_4054
  let v8006 : BitVec 1 := Scalar.andi v8005 v8002
  let v8007 : BitVec 32 := Scalar.addi v8001 v8000
  let v8008 : BitVec 32 := Scalar.select v8006 v8007 v8001
  let c128_i32 : BitVec 32 := 128#32
  let v8009 : BitVec 32 := Scalar.muli v8008 c128_i32
  let v8010 : BitVec 32 := v8009
  let v8031 : Index := Scalar.indexCast v8010
  ![0, v8031.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x4096 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S128x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S2x1024x4096 : Shape := ⟨3, ![2, 1024, 4096]⟩
abbrev S4096 : Shape := ⟨1, ![4096]⟩
abbrev S_ : Shape := ⟨0, ![]⟩
abbrev S1x1x4096 : Shape := ⟨3, ![1, 1, 4096]⟩
abbrev S2x1024 : Shape := ⟨2, ![2, 1024]⟩
abbrev S2x1024x1 : Shape := ⟨3, ![2, 1024, 1]⟩
abbrev S2x1024x32x128 : Shape := ⟨4, ![2, 1024, 32, 128]⟩
abbrev S2x1024x32 : Shape := ⟨3, ![2, 1024, 32]⟩
abbrev S2x1024x32x1 : Shape := ⟨4, ![2, 1024, 32, 1]⟩
abbrev S2x1024x512x8 : Shape := ⟨4, ![2, 1024, 512, 8]⟩
abbrev S8 : Shape := ⟨1, ![8]⟩
abbrev S1x1x1x8 : Shape := ⟨4, ![1, 1, 1, 8]⟩
abbrev S2x1024x512 : Shape := ⟨3, ![2, 1024, 512]⟩
abbrev S2048x4096 : Shape := ⟨2, ![2048, 4096]⟩
abbrev S2048x32 : Shape := ⟨2, ![2048, 32]⟩
abbrev S2048x512 : Shape := ⟨2, ![2048, 512]⟩

abbrev nBuf : Space → Nat
  | .hbm => 109
  | .vmem => 0
  | .smem => 0
  | _ => 0

abbrev bufTy : (tb : Table) → Fin (tcTables nBuf tb) → BufTy
  | .hbm, ⟨0, _⟩ => ⟨S2x1024x4096, .bf16⟩
  | .hbm, ⟨1, _⟩ => ⟨S2x1024x4096, .bf16⟩
  | .hbm, ⟨2, _⟩ => ⟨S4096, .f32⟩
  | .hbm, ⟨3, _⟩ => ⟨S2x1024x4096, .i32⟩
  | .hbm, ⟨4, _⟩ => ⟨S4096, .f32⟩
  | .hbm, ⟨5, _⟩ => ⟨S4096, .f32⟩
  | .hbm, ⟨6, _⟩ => ⟨S_, .i32⟩
  | .hbm, ⟨7, _⟩ => ⟨S2x1024x4096, .i32⟩
  | .hbm, ⟨8, _⟩ => ⟨S2x1024x4096, .i1⟩
  | .hbm, ⟨9, _⟩ => ⟨S2x1024x4096, .f32⟩
  | .hbm, ⟨10, _⟩ => ⟨S1x1x4096, .f32⟩
  | .hbm, ⟨11, _⟩ => ⟨S2x1024x4096, .f32⟩
  | .hbm, ⟨12, _⟩ => ⟨S2x1024x4096, .f32⟩
  | .hbm, ⟨13, _⟩ => ⟨S_, .f32⟩
  | .hbm, ⟨14, _⟩ => ⟨S2x1024x4096, .f32⟩
  | .hbm, ⟨15, _⟩ => ⟨S2x1024x4096, .f32⟩
  | .hbm, ⟨16, _⟩ => ⟨S_, .f32⟩
  | .hbm, ⟨17, _⟩ => ⟨S_, .f32⟩
  | .hbm, ⟨18, _⟩ => ⟨S2x1024x4096, .f32⟩
  | .hbm, ⟨19, _⟩ => ⟨S2x1024x4096, .f32⟩
  | .hbm, ⟨20, _⟩ => ⟨S2x1024x4096, .f32⟩
  | .hbm, ⟨21, _⟩ => ⟨S2x1024x4096, .f32⟩
  | .hbm, ⟨22, _⟩ => ⟨S2x1024x4096, .bf16⟩
  | .hbm, ⟨23, _⟩ => ⟨S2x1024x4096, .f32⟩
  | .hbm, ⟨24, _⟩ => ⟨S_, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024x1, .f32⟩
  | .hbm, ⟨30, _⟩ => ⟨S2x1024x4096, .f32⟩
  | .hbm, ⟨31, _⟩ => ⟨S2x1024x4096, .f32⟩
  | .hbm, ⟨32, _⟩ => ⟨S2x1024x4096, .f32⟩
  | .hbm, ⟨33, _⟩ => ⟨S_, .f32⟩
  | .hbm, ⟨34, _⟩ => ⟨S2x1024, .f32⟩
  | .hbm, ⟨35, _⟩ => ⟨S_, .f32⟩
  | .hbm, ⟨36, _⟩ => ⟨S2x1024, .f32⟩
  | .hbm, ⟨37, _⟩ => ⟨S2x1024, .f32⟩
  | .hbm, ⟨38, _⟩ => ⟨S_, .f32⟩
  | .hbm, ⟨39, _⟩ => ⟨S2x1024, .f32⟩
  | .hbm, ⟨40, _⟩ => ⟨S2x1024, .f32⟩
  | .hbm, ⟨41, _⟩ => ⟨S2x1024, .f32⟩
  | .hbm, ⟨42, _⟩ => ⟨S2x1024x1, .f32⟩
  | .hbm, ⟨43, _⟩ => ⟨S2x1024x4096, .f32⟩
  | .hbm, ⟨44, _⟩ => ⟨S2x1024x4096, .f32⟩
  | .hbm, ⟨45, _⟩ => ⟨S1x1x4096, .f32⟩
  | .hbm, ⟨46, _⟩ => ⟨S2x1024x4096, .f32⟩
  | .hbm, ⟨47, _⟩ => ⟨S2x1024x4096, .f32⟩
  | .hbm, ⟨48, _⟩ => ⟨S1x1x4096, .f32⟩
  | .hbm, ⟨49, _⟩ => ⟨S2x1024x4096, .f32⟩
  | .hbm, ⟨50, _⟩ => ⟨S2x1024x4096, .f32⟩
  | .hbm, ⟨51, _⟩ => ⟨S2x1024x32x128, .f32⟩
  | .hbm, ⟨52, _⟩ => ⟨S2x1024x32x128, .f32⟩
  | .hbm, ⟨53, _⟩ => ⟨S_, .f32⟩
  | .hbm, ⟨54, _⟩ => ⟨S2x1024x32, .f32⟩
  | .hbm, ⟨55, _⟩ => ⟨S_, .f32⟩
  | .hbm, ⟨56, _⟩ => ⟨S2x1024x32, .f32⟩
  | .hbm, ⟨57, _⟩ => ⟨S2x1024x32, .f32⟩
  | .hbm, ⟨58, _⟩ => ⟨S_, .f32⟩
  | .hbm, ⟨59, _⟩ => ⟨S2x1024x32, .f32⟩
  | .hbm, ⟨60, _⟩ => ⟨S2x1024x32, .f32⟩
  | .hbm, ⟨61, _⟩ => ⟨S_, .f32⟩
  | .hbm, ⟨62, _⟩ => ⟨S2x1024x32, .f32⟩
  | .hbm, ⟨63, _⟩ => ⟨S2x1024x32, .i1⟩
  | .hbm, ⟨64, _⟩ => ⟨S2x1024x32, .f32⟩
  | .hbm, ⟨65, _⟩ => ⟨S_, .f32⟩
  | .hbm, ⟨66, _⟩ => ⟨S_, .f32⟩
  | .hbm, ⟨67, _⟩ => ⟨S2x1024x32, .f32⟩
  | .hbm, ⟨68, _⟩ => ⟨S2x1024x32, .f32⟩
  | .hbm, ⟨69, _⟩ => ⟨S2x1024x32, .f32⟩
  | .hbm, ⟨70, _⟩ => ⟨S_, .f32⟩
  | .hbm, ⟨71, _⟩ => ⟨S2x1024x32, .f32⟩
  | .hbm, ⟨72, _⟩ => ⟨S2x1024x32, .f32⟩
  | .hbm, ⟨73, _⟩ => ⟨S_, .f32⟩
  | .hbm, ⟨74, _⟩ => ⟨S_, .f32⟩
  | .hbm, ⟨75, _⟩ => ⟨S2x1024x32, .f32⟩
  | .hbm, ⟨76, _⟩ => ⟨S2x1024x32, .f32⟩
  | .hbm, ⟨77, _⟩ => ⟨S_, .f32⟩
  | .hbm, ⟨78, _⟩ => ⟨S2x1024x32, .f32⟩
  | .hbm, ⟨79, _⟩ => ⟨S2x1024x32, .f32⟩
  | .hbm, ⟨80, _⟩ => ⟨S_, .f32⟩
  | .hbm, ⟨81, _⟩ => ⟨S2x1024x32, .f32⟩
  | .hbm, ⟨82, _⟩ => ⟨S2x1024x32, .f32⟩
  | .hbm, ⟨83, _⟩ => ⟨S2x1024x32, .f32⟩
  | .hbm, ⟨84, _⟩ => ⟨S2x1024x32x1, .f32⟩
  | .hbm, ⟨85, _⟩ => ⟨S2x1024x32x128, .f32⟩
  | .hbm, ⟨86, _⟩ => ⟨S2x1024x32x128, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S2x1024x32x128, .f32⟩
  | .hbm, ⟨91, _⟩ => ⟨S2x1024x32x128, .f32⟩
  | .hbm, ⟨92, _⟩ => ⟨S_, .f32⟩
  | .hbm, ⟨93, _⟩ => ⟨S2x1024x32x128, .f32⟩
  | .hbm, ⟨94, _⟩ => ⟨S2x1024x32x128, .f32⟩
  | .hbm, ⟨95, _⟩ => ⟨S2x1024x32x128, .fp8e4m3⟩
  | .hbm, ⟨96, _⟩ => ⟨S2x1024x512x8, .i1⟩
  | .hbm, ⟨97, _⟩ => ⟨S2x1024x512x8, .i32⟩
  | .hbm, ⟨98, _⟩ => ⟨S8, .i32⟩
  | .hbm, ⟨99, _⟩ => ⟨S1x1x1x8, .i32⟩
  | .hbm, ⟨100, _⟩ => ⟨S2x1024x512x8, .i32⟩
  | .hbm, ⟨101, _⟩ => ⟨S2x1024x512x8, .i32⟩
  | .hbm, ⟨102, _⟩ => ⟨S_, .i32⟩
  | .hbm, ⟨103, _⟩ => ⟨S2x1024x512, .i32⟩
  | .hbm, ⟨104, _⟩ => ⟨S2x1024x512, .i8⟩
  | .hbm, ⟨105, _⟩ => ⟨S2048x4096, .fp8e4m3⟩
  | .hbm, ⟨106, _⟩ => ⟨S2048x32, .f32⟩
  | .hbm, ⟨107, _⟩ => ⟨S2048x512, .i8⟩
  | .hbm, ⟨108, _⟩ => ⟨S2048x4096, .bf16⟩
  | _, _ => ⟨S2x1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_11 : Ref sig .tc := ⟨.hbm, 70, rfl⟩
abbrev main_v49 : Ref sig .tc := ⟨.hbm, 71, rfl⟩
abbrev main_v50 : Ref sig .tc := ⟨.hbm, 72, rfl⟩
abbrev main_cst_12 : Ref sig .tc := ⟨.hbm, 73, rfl⟩
abbrev main_call1_v0 : Ref sig .tc := ⟨.hbm, 74, rfl⟩
abbrev main_call1_v1 : Ref sig .tc := ⟨.hbm, 75, rfl⟩
abbrev main_v51 : Ref sig .tc := ⟨.hbm, 76, rfl⟩
abbrev main_cst_13 : Ref sig .tc := ⟨.hbm, 77, rfl⟩
abbrev main_v52 : Ref sig .tc := ⟨.hbm, 78, rfl⟩
abbrev main_v53 : Ref sig .tc := ⟨.hbm, 79, rfl⟩
abbrev main_cst_14 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_15 : Ref sig .tc := ⟨.hbm, 87, rfl⟩
abbrev main_cst_16 : Ref sig .tc := ⟨.hbm, 88, rfl⟩
abbrev main_call2_v0 : Ref sig .tc := ⟨.hbm, 89, rfl⟩
abbrev main_call2_v1 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_c_17 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩

abbrev nD : Nat := 1
abbrev τ : Topo := Topo.v7x

variable {F : FTy → Type} [FloatOps F]
-- ==== Proof.Kernel.Loop.lean ====
/- The body of the kernel as loops: the same operations on the same values in the same order as the
   printed straight line, written once per strip of 256 columns and once per block of 128. -/
module

public import proofs.«01_k».proof.Proof.Gen.Kernel

@[expose] public section

noncomputable section

namespace Cert.Kernel.Loop

open Idealize.ShloMosaic Idealize.SL.Sem Cert.Kernel.Gen

variable {F : FTy → Type} [FloatOps F]

/-! ## Pure values -/

/-- The weights of strip `c` of a mask tile: lane `n = 32·c + j / 8` of row `j` holds `2 ^ (j % 8)`; `k` is `32·c`. -/
def packW (k : BitVec 32) : FVec F S256x256 .bf16 :=
  have v1 : IVec S256x256 32 := iota .tc S256x256 32 [0] iota_S256x256_d0_w32
  have v2 : IVec S256x256 32 := iota .tc S256x256 32 [1] iota_S256x256_d1_w32
  have v3 : IVec S256x256 32 := broadcast S256x256 8#32
  have v4 : IVec S256x256 32 := divsi v1 v3
  have v5 : IVec S256x256 32 := broadcast S256x256 0#32
  have v6 : IVec S256x256 1 := cmpi .sgt v1 v5
  have v7 : IVec S256x256 32 := extui 32 v6 natLt_1_32
  have v8 : IVec S256x256 32 := broadcast S256x256 0#32
  have v9 : IVec S256x256 1 := cmpi .slt v1 v8
  have v10 : IVec S256x256 32 := extui 32 v9 natLt_1_32
  have v11 : IVec S256x256 32 := subi v7 v10
  let v12 : BitVec 1 := Scalar.cmpi .sgt 8#32 0#32
  let v13 : BitVec 32 := Scalar.extui v12
  let v14 : BitVec 1 := Scalar.cmpi .slt 8#32 0#32
  let v15 : BitVec 32 := Scalar.extui v14
  let v16 : BitVec 32 := Scalar.subi v13 v15
  have v17 : IVec S256x256 32 := broadcast S256x256 v16
  have v18 : IVec S256x256 1 := cmpi .ne v11 v17
  have v19 : IVec S256x256 32 := broadcast S256x256 8#32
  have v20 : IVec S256x256 32 := remsi v1 v19
  have v21 : IVec S256x256 32 := broadcast S256x256 0#32
  have v22 : IVec S256x256 1 := cmpi .ne v20 v21
  have v23 : IVec S256x256 1 := andi v18 v22
  have v24 : IVec S256x256 32 := broadcast S256x256 1#32
  have v25 : IVec S256x256 32 := subi v4 v24
  have v26 : IVec S256x256 32 := select v23 v25 v4
  have v27 : IVec S256x256 32 := broadcast S256x256 k
  have v28 : IVec S256x256 32 := addi v27 v26
  let v29 : BitVec 1 := Scalar.cmpi .eq 8#32 0#32
  let v30 : BitVec 32 := Scalar.select v29 1#32 8#32
  have v31 : IVec S256x256 32 := broadcast S256x256 v30
  have v32 : IVec S256x256 32 := remsi v1 v31
  have v33 : IVec S256x256 32 := broadcast S256x256 0#32
  have v34 : IVec S256x256 1 := cmpi .ne v32 v33
  have v35 : IVec S256x256 32 := broadcast S256x256 0#32
  have v36 : IVec S256x256 1 := cmpi .slt v32 v35
  let v37 : BitVec 1 := Scalar.cmpi .slt v30 0#32
  have v38 : IVec S256x256 1 := broadcast S256x256 v37
  have v39 : IVec S256x256 1 := broadcastTo S256x256 v38 broadcasts_S256x256_S256x256
  have v40 : IVec S256x256 1 := xori v36 v39
  have v41 : IVec S256x256 1 := andi v40 v34
  have v42 : IVec S256x256 32 := broadcast S256x256 v30
  have v43 : IVec S256x256 32 := addi v32 v42
  have v44 : IVec S256x256 32 := select v41 v43 v32
  have v45 : IVec S256x256 32 := broadcast S256x256 1#32
  have v46 : IVec S256x256 32 := shli v45 v44
  have v47 : IVec S256x256 1 := cmpi .eq v2 v28
  have v48 : IVec S256x256 32 := broadcast S256x256 0#32
  have v49 : IVec S256x256 32 := select v47 v46 v48
  have v50 : FVec F S256x256 .f32 := sitofp .f32 v49
  have v51 : FVec F S256x256 .bf16 := truncf .bf16 v50 bitsLt_bf16_f32
  v51

/-- Which elements are kept. -/
def keepV (r : Vec F S32x256 .i32) : IVec S32x256 1 :=
  cmpi .uge (shapeCast S32x256 r shapeCasts_S32x256_S32x256 : IVec S32x256 32) (broadcast S32x256 429496730#32)

/-- The residual sum of a strip, rounded to bf16. -/
def hV (r : Vec F S32x256 .i32) (a : Vec F S32x256 .bf16) (bias : Vec F S1x256 .f32) (x : Vec F S32x256 .bf16) : FVec F S32x256 .bf16 :=
  truncf .bf16 (addf (extf .f32 (shapeCast S32x256 x shapeCasts_S32x256_S32x256 : FVec F S32x256 .bf16) bitsLt_bf16_f32)
    (select (keepV r)
      (mulf (addf (extf .f32 (shapeCast S32x256 a shapeCasts_S32x256_S32x256 : FVec F S32x256 .bf16) bitsLt_bf16_f32)
          (broadcastTo S32x256 (shapeCast S1x256 bias shapeCasts_S1x256_S1x256 : FVec F S1x256 .f32) broadcasts_S1x256_S32x256))
        (broadcast S32x256 (Scalar.ofBits .f32 0x3F8E38E4#32)))
      (broadcast S32x256 (Scalar.ofBits .f32 0x00000000#32)))) bitsLt_bf16_f32

/-- The running sum per lane after a strip. -/
def totalV (tot : FVec F S32x128 .f32) (h : FVec F S32x256 .f32) : FVec F S32x128 .f32 :=
  addf (addf tot (extractStridedSlice S32x128 ![0, 0] h slices_S32x256_o0_0_S32x128))
    (extractStridedSlice S32x128 ![0, 128] h slices_S32x256_o0_128_S32x128)

/-- The packed mask bytes after a strip, as f32. -/
def packV (p : FVec F S32x256 .f32) (k : IVec S32x256 1) (w : Vec F S1x256x256 .bf16) : FVec F S32x256 .f32 :=
  addf p (matmul dot_S32x256_S256x256_S32x256_1_0_0_1_n_n none
    (truncf .bf16 (select k (broadcast S32x256 (Scalar.ofBits .f32 0x3F800000#32 : F .f32)) (broadcast S32x256 (Scalar.ofBits .f32 0x00000000#32))) bitsLt_bf16_f32)
    (shapeCast S256x256 w shapeCasts_S1x256x256_S256x256 : FVec F S256x256 .bf16) (constant S32x256 .f32 0x00000000#32))

/-- The bytes of a mask tile. -/
def byteV (p : FVec F S32x256 .f32) : IVec S32x256 8 := trunci 8 (fptosi 32 p) natLt_8_32

/-- The mean over the 4096 columns, of the sums per lane. -/
def meanV (tot : FVec F S32x128 .f32) : FVec F S32x1 .f32 :=
  mulf (shapeCast S32x1 (multiReduction .add [1] S32 tot 0x00000000#32 reduces_S32x128_S32 (.inl rfl) rfl : FVec F S32 .f32) shapeCasts_S32_S32x1)
    (broadcast S32x1 (Scalar.ofBits .f32 0x39800000#32))

def centreV (mean : FVec F S32x1 .f32) (h : Vec F S32x128 .f32) : FVec F S32x128 .f32 :=
  subf h (broadcastTo S32x128 mean broadcasts_S32x1_S32x128)

def rstdV (sq : FVec F S32x128 .f32) : FVec F S32x1 .f32 :=
  rsqrt (addf (meanV sq) (broadcast S32x1 (Scalar.ofBits .f32 0x3727C5AC#32)))

def hereV (k : BitVec 32) : IVec S32x128 1 :=
  cmpi .eq (iota .tc S32x128 32 [1] iota_S32x128_d1_w32)
    (addi (iota .tc S32x128 32 [0] iota_S32x128_d0_w32) (broadcast S32x128 k))

/-- A column of 32 values laid along the lanes `k + i`, added to the row. -/
def rowV (k : BitVec 32) (row : FVec F S1x128 .f32) (v : FVec F S32x1 .f32) : FVec F S1x128 .f32 :=
  addf row (shapeCast S1x128 (multiReduction .add [0] S128
    (select (hereV k) (broadcastTo S32x128 (shapeCast S32x1 v shapeCasts_S32x1_S32x1 : FVec F S32x1 .f32) broadcasts_S32x1_S32x128)
      (broadcast S32x128 (Scalar.ofBits .f32 0x00000000#32 : F .f32))) 0x00000000#32 reduces_S32x128_S128 (.inl rfl) rfl : FVec F S128 .f32) shapeCasts_S128_S1x128)

def yV (rstd : FVec F S32x1 .f32) (h : Vec F S32x128 .f32) (g b : Vec F S1x128 .f32) : FVec F S32x128 .f32 :=
  addf (mulf (mulf h (broadcastTo S32x128 rstd broadcasts_S32x1_S32x128))
      (broadcastTo S32x128 (shapeCast S1x128 g shapeCasts_S1x128_S1x128 : FVec F S1x128 .f32) broadcasts_S1x128_S32x128))
    (broadcastTo S32x128 (shapeCast S1x128 b shapeCasts_S1x128_S1x128 : FVec F S1x128 .f32) broadcasts_S1x128_S32x128)

/-- The largest magnitude of block `k`, put in lane `k`. -/
def amaxV (k : BitVec 32) (amax : FVec F S32x128 .f32) (y : FVec F S32x128 .f32) : FVec F S32x128 .f32 :=
  select (cmpi .eq (iota .tc S32x128 32 [1] iota_S32x128_d1_w32 : IVec S32x128 32) (broadcast S32x128 k))
    (broadcastTo S32x128 (shapeCast S32x1 (shapeCast S32x1
      (multiReduction .maximumf [1] S32 (absf y) 0xFF800000#32 reduces_S32x128_S32 (.inl rfl) rfl : FVec F S32 .f32) shapeCasts_S32_S32x1 : FVec F S32x1 .f32) shapeCasts_S32x1_S32x1 : FVec F S32x1 .f32) broadcasts_S32x1_S32x128)
    amax

/-- The exponent field of `v`, by comparisons and products by powers of two. -/
def fieldV (v : FVec F S32x128 .f32) : IVec S32x128 32 :=
  have v1 : FVec F S32x128 .f32 := broadcast S32x128 (Scalar.ofBits .f32 0x7B000000#32 : F .f32)
  have v2 : FVec F S32x128 .f32 := minimumf v v1
  have v3 : FVec F S32x128 .f32 := broadcast S32x128 (Scalar.ofBits .f32 0x3F800000#32 : F .f32)
  have v4 : IVec S32x128 1 := cmpf .olt v2 v3
  have v5 : FVec F S32x128 .f32 := broadcast S32x128 (Scalar.ofBits .f32 0x7E800000#32 : F .f32)
  have v6 : FVec F S32x128 .f32 := mulf v2 v5
  have v7 : FVec F S32x128 .f32 := select v4 v6 v2
  have v8 : IVec S32x128 32 := broadcast S32x128 1#32
  have v9 : IVec S32x128 32 := broadcast S32x128 127#32
  have v10 : IVec S32x128 32 := select v4 v8 v9
  have v11 : FVec F S32x128 .f32 := broadcast S32x128 (Scalar.ofBits .f32 0x5F800000#32 : F .f32)
  have v12 : IVec S32x128 1 := cmpf .oge v7 v11
  have v13 : FVec F S32x128 .f32 := broadcast S32x128 (Scalar.ofBits .f32 0x1F800000#32 : F .f32)
  have v14 : FVec F S32x128 .f32 := mulf v7 v13
  have v15 : FVec F S32x128 .f32 := select v12 v14 v7
  have v16 : IVec S32x128 32 := broadcast S32x128 64#32
  have v17 : IVec S32x128 32 := addi v10 v16
  have v18 : IVec S32x128 32 := select v12 v17 v10
  have v19 : FVec F S32x128 .f32 := broadcast S32x128 (Scalar.ofBits .f32 0x4F800000#32 : F .f32)
  have v20 : IVec S32x128 1 := cmpf .oge v15 v19
  have v21 : FVec F S32x128 .f32 := broadcast S32x128 (Scalar.ofBits .f32 0x2F800000#32 : F .f32)
  have v22 : FVec F S32x128 .f32 := mulf v15 v21
  have v23 : FVec F S32x128 .f32 := select v20 v22 v15
  have v24 : IVec S32x128 32 := broadcast S32x128 32#32
  have v25 : IVec S32x128 32 := addi v18 v24
  have v26 : IVec S32x128 32 := select v20 v25 v18
  have v27 : FVec F S32x128 .f32 := broadcast S32x128 (Scalar.ofBits .f32 0x47800000#32 : F .f32)
  have v28 : IVec S32x128 1 := cmpf .oge v23 v27
  have v29 : FVec F S32x128 .f32 := broadcast S32x128 (Scalar.ofBits .f32 0x37800000#32 : F .f32)
  have v30 : FVec F S32x128 .f32 := mulf v23 v29
  have v31 : FVec F S32x128 .f32 := select v28 v30 v23
  have v32 : IVec S32x128 32 := broadcast S32x128 16#32
  have v33 : IVec S32x128 32 := addi v26 v32
  have v34 : IVec S32x128 32 := select v28 v33 v26
  have v35 : FVec F S32x128 .f32 := broadcast S32x128 (Scalar.ofBits .f32 0x43800000#32 : F .f32)
  have v36 : IVec S32x128 1 := cmpf .oge v31 v35
  have v37 : FVec F S32x128 .f32 := broadcast S32x128 (Scalar.ofBits .f32 0x3B800000#32 : F .f32)
  have v38 : FVec F S32x128 .f32 := mulf v31 v37
  have v39 : FVec F S32x128 .f32 := select v36 v38 v31
  have v40 : IVec S32x128 32 := broadcast S32x128 8#32
  have v41 : IVec S32x128 32 := addi v34 v40
  have v42 : IVec S32x128 32 := select v36 v41 v34
  have v43 : FVec F S32x128 .f32 := broadcast S32x128 (Scalar.ofBits .f32 0x41800000#32 : F .f32)
  have v44 : IVec S32x128 1 := cmpf .oge v39 v43
  have v45 : FVec F S32x128 .f32 := broadcast S32x128 (Scalar.ofBits .f32 0x3D800000#32 : F .f32)
  have v46 : FVec F S32x128 .f32 := mulf v39 v45
  have v47 : FVec F S32x128 .f32 := select v44 v46 v39
  have v48 : IVec S32x128 32 := broadcast S32x128 4#32
  have v49 : IVec S32x128 32 := addi v42 v48
  have v50 : IVec S32x128 32 := select v44 v49 v42
  have v51 : FVec F S32x128 .f32 := broadcast S32x128 (Scalar.ofBits .f32 0x40800000#32 : F .f32)
  have v52 : IVec S32x128 1 := cmpf .oge v47 v51
  have v53 : FVec F S32x128 .f32 := broadcast S32x128 (Scalar.ofBits .f32 0x3E800000#32 : F .f32)
  have v54 : FVec F S32x128 .f32 := mulf v47 v53
  have v55 : FVec F S32x128 .f32 := select v52 v54 v47
  have v56 : IVec S32x128 32 := broadcast S32x128 2#32
  have v57 : IVec S32x128 32 := addi v50 v56
  have v58 : IVec S32x128 32 := select v52 v57 v50
  have v59 : FVec F S32x128 .f32 := broadcast S32x128 (Scalar.ofBits .f32 0x40000000#32 : F .f32)
  have v60 : IVec S32x128 1 := cmpf .oge v55 v59
  have v61 : IVec S32x128 32 := broadcast S32x128 1#32
  have v62 : IVec S32x128 32 := addi v58 v61
  have v63 : IVec S32x128 32 := select v60 v62 v58
  have v64 : FVec F S32x128 .f32 := broadcast S32x128 (Scalar.ofBits .f32 0x00800000#32 : F .f32)
  have v65 : IVec S32x128 1 := cmpf .olt v2 v64
  have v66 : IVec S32x128 32 := broadcast S32x128 0#32
  have v67 : IVec S32x128 32 := select v65 v66 v63
  v67

/-- The exponent `e` of each block, from the largest magnitudes. -/
def expV (amax : FVec F S32x128 .f32) : IVec S32x128 32 :=
  select (cmpi .eq (fieldV (mulf amax (broadcast S32x128 (Scalar.ofBits .f32 0x3B124925#32)))) (broadcast S32x128 0#32))
    (broadcast S32x128 0#32) (subi (fieldV (mulf amax (broadcast S32x128 (Scalar.ofBits .f32 0x3B124925#32)))) (broadcast S32x128 126#32))

/-- `2 ^ e`. -/
def scaleV (amax : FVec F S32x128 .f32) : FVec F S32x32 .f32 :=
  extractStridedSlice S32x32 ![0, 0] (bitcastToFloat .f32 (shli (addi (broadcast S32x128 127#32) (expV amax)) (broadcast S32x128 23#32)) : FVec F S32x128 .f32) slices_S32x128_o0_0_S32x32

/-- `2 ^ -e`. -/
def invV (amax : FVec F S32x128 .f32) : FVec F S32x128 .f32 :=
  bitcastToFloat .f32 (shli (subi (broadcast S32x128 127#32) (expV amax)) (broadcast S32x128 23#32))

theorem slices_col (b : Fin 32) : S32x128.Slices ![0, b.val] S32x1 := by revert b; decide

def codeV (b : Fin 32) (inv : FVec F S32x128 .f32) (y : Vec F S32x128 .f32) : FVec F S32x128 .fp8e4m3 :=
  truncf .fp8e4m3 (minimumf (broadcast S32x128 (Scalar.ofBits .f32 0x43E00000#32))
    (maximumf (broadcast S32x128 (Scalar.ofBits .f32 0xC3E00000#32))
      (mulf y (broadcastTo S32x128 (extractStridedSlice S32x1 ![0, b.val] inv (slices_col b) : FVec F S32x1 .f32) broadcasts_S32x1_S32x128)))) bitsLt_fp8e4m3_f32

/-- The batch a point's rows are of. -/
def batchW (i : grid0.Coords) : BitVec 32 :=
  let v1 : BitVec 32 := Scalar.divsi (BitVec.ofNat 32 (i 0).val) 8#32
  let v2 : BitVec 1 := Scalar.cmpi .sgt (BitVec.ofNat 32 (i 0).val) 0#32
  let v3 : BitVec 32 := Scalar.extui v2
  let v4 : BitVec 1 := Scalar.cmpi .slt (BitVec.ofNat 32 (i 0).val) 0#32
  let v5 : BitVec 32 := Scalar.extui v4
  let v6 : BitVec 32 := Scalar.subi v3 v5
  let v7 : BitVec 1 := Scalar.cmpi .sgt 8#32 0#32
  let v8 : BitVec 32 := Scalar.extui v7
  let v9 : BitVec 1 := Scalar.cmpi .slt 8#32 0#32
  let v10 : BitVec 32 := Scalar.extui v9
  let v11 : BitVec 32 := Scalar.subi v8 v10
  let v12 : BitVec 1 := Scalar.cmpi .ne v6 v11
  let v13 : BitVec 32 := Scalar.remsi (BitVec.ofNat 32 (i 0).val) 8#32
  let v14 : BitVec 1 := Scalar.cmpi .ne v13 0#32
  let v15 : BitVec 1 := Scalar.andi v12 v14
  let v16 : BitVec 32 := Scalar.subi v1 1#32
  let v17 : BitVec 32 := Scalar.select v15 v16 v1
  v17

/-- The row of values stored over the batch's row, the other row kept. -/
def mergeV (i : grid0.Coords) (row : FVec F S1x128 .f32) (old : Vec F S2x128 .f32) : FVec F S2x128 .f32 :=
  select (cmpi .eq (iota .tc S2x128 32 [0] iota_S2x128_d0_w32 : IVec S2x128 32) (broadcast S2x128 (batchW i)))
    (broadcastTo S2x128 (shapeCast S1x128 row shapeCasts_S1x128_S1x128 : FVec F S1x128 .f32) broadcasts_S1x128_S2x128)
    (shapeCast S2x128 old shapeCasts_S2x128_S2x128)

/-- The test of the first point. -/
abbrev firstW (i : grid0.Coords) : BitVec 1 :=
  Scalar.cmpi .ne (Scalar.extui (Scalar.cmpi .eq (BitVec.ofNat 32 (i 0).val) 0#32) : BitVec 32) 0#32

/-! ## Where a strip, a block and a tile lie -/

theorem inb_strip (s : Fin 4) (t : Fin 2) (c : Fin 8) : ∀ a, (![32 * s.val, 256 * (8 * t.val + c.val)] : Fin 2 → Nat) a + S32x256.size a ≤ S128x4096.size a := by
  revert s t c; decide +kernel
theorem inb_strip1 (t : Fin 2) (c : Fin 8) : ∀ a, (![0, 256 * (8 * t.val + c.val)] : Fin 2 → Nat) a + S1x256.size a ≤ S1x4096.size a := by
  revert t c; decide +kernel
theorem inb_strip32 (t : Fin 2) (c : Fin 8) : ∀ a, (![0, 256 * (8 * t.val + c.val)] : Fin 2 → Nat) a + S32x256.size a ≤ S32x4096.size a := by
  revert t c; decide +kernel
theorem inb_w (c : Fin 8) : ∀ a, (![c.val, 0, 0] : Fin 3 → Nat) a + S1x256x256.size a ≤ S8x256x256.size a := by
  revert c; decide +kernel
theorem inb_tile (s : Fin 4) (t : Fin 2) : ∀ a, (![32 * s.val, 256 * t.val] : Fin 2 → Nat) a + S32x256.size a ≤ S128x512.size a := by
  revert s t; decide +kernel
theorem inb_block32 (b : Fin 32) : ∀ a, (![0, 128 * b.val] : Fin 2 → Nat) a + S32x128.size a ≤ S32x4096.size a := by
  revert b; decide +kernel
theorem inb_block1 (b : Fin 32) : ∀ a, (![0, 128 * b.val] : Fin 2 → Nat) a + S1x128.size a ≤ S1x4096.size a := by
  revert b; decide +kernel
theorem inb_block (s : Fin 4) (b : Fin 32) : ∀ a, (![32 * s.val, 128 * b.val] : Fin 2 → Nat) a + S32x128.size a ≤ S128x4096.size a := by
  revert s b; decide +kernel
theorem inb_scale (s : Fin 4) : ∀ a, (![32 * s.val, 0] : Fin 2 → Nat) a + S32x32.size a ≤ S128x32.size a := by
  revert s; decide +kernel

abbrev rStrip (s : Fin 4) (t : Fin 2) (c : Fin 8) : Rect S128x4096 := Rect.unit (s := S128x4096) ![32 * s.val, 256 * (8 * t.val + c.val)] S32x256.size (inb_strip s t c)
abbrev rStrip1 (t : Fin 2) (c : Fin 8) : Rect S1x4096 := Rect.unit (s := S1x4096) ![0, 256 * (8 * t.val + c.val)] S1x256.size (inb_strip1 t c)
abbrev rStrip32 (t : Fin 2) (c : Fin 8) : Rect S32x4096 := Rect.unit (s := S32x4096) ![0, 256 * (8 * t.val + c.val)] S32x256.size (inb_strip32 t c)
abbrev rW (c : Fin 8) : Rect S8x256x256 := Rect.unit (s := S8x256x256) ![c.val, 0, 0] S1x256x256.size (inb_w c)
abbrev rTile (s : Fin 4) (t : Fin 2) : Rect S128x512 := Rect.unit (s := S128x512) ![32 * s.val, 256 * t.val] S32x256.size (inb_tile s t)
abbrev rBlock32 (b : Fin 32) : Rect S32x4096 := Rect.unit (s := S32x4096) ![0, 128 * b.val] S32x128.size (inb_block32 b)
abbrev rBlock1 (b : Fin 32) : Rect S1x4096 := Rect.unit (s := S1x4096) ![0, 128 * b.val] S1x128.size (inb_block1 b)
abbrev rBlock (s : Fin 4) (b : Fin 32) : Rect S128x4096 := Rect.unit (s := S128x4096) ![32 * s.val, 128 * b.val] S32x128.size (inb_block s b)
abbrev rScale (s : Fin 4) : Rect S128x32 := Rect.unit (s := S128x32) ![32 * s.val, 0] S32x32.size (inb_scale s)
abbrev rRow (i : grid0.Coords) : Rect S2x1024 := Rect.unit (s := S2x1024) (k0_off1 i) S2x128.size (k0_off1_inb i)

theorem packed_strip (s : Fin 4) (t : Fin 2) (c : Fin 8) : (rStrip s t c).PackedRows (EltTy.packing .bf16) := by
  revert s t c; decide +kernel
theorem packed_w (c : Fin 8) : (rW c).PackedRows (EltTy.packing .bf16) := by revert c; decide +kernel
theorem packed_tile (s : Fin 4) (t : Fin 2) : (rTile s t).PackedRows (EltTy.packing .i8) := by revert s t; decide +kernel
theorem packed_block (s : Fin 4) (b : Fin 32) : (rBlock s b).PackedRows (EltTy.packing .fp8e4m3) := by revert s b; decide +kernel

/-! ## The loops -/

/-- `f k st`, `f (k + 1)`, … for `m` steps. -/
def forFrom {E : Type → Type _} {σ : Type} {n : Nat} (f : Fin n → σ → Prog E σ) : (m k : Nat) → k + m = n → σ → Prog E σ
  | 0, _, _, st => pure st
  | m + 1, k, h, st => f ⟨k, by omega⟩ st >>= forFrom f m (k + 1) (by omega)

/-- `f 0`, …, `f (n - 1)` in turn, each on what the one before leaves. -/
abbrev forN {E : Type → Type _} {σ : Type} (n : Nat) (f : Fin n → σ → Prog E σ) (st : σ) : Prog E σ :=
  forFrom f n 0 (Nat.zero_add n) st

section

variable (i : grid0.Coords)
  (arg1 : Memref sig .tc .vmem S128x4096 .bf16) (harg1 : arg1.IsWhole)
  (arg2 : Memref sig .tc .vmem S128x4096 .bf16) (harg2 : arg2.IsWhole)
  (arg3 : Memref sig .tc .vmem S128x4096 .i32) (harg3 : arg3.IsWhole)
  (arg4 : Memref sig .tc .vmem S1x4096 .f32) (harg4 : arg4.IsWhole)
  (arg5 : Memref sig .tc .vmem S1x4096 .f32) (harg5 : arg5.IsWhole)
  (arg6 : Memref sig .tc .vmem S1x4096 .f32) (harg6 : arg6.IsWhole)
  (arg7 : Memref sig .tc .vmem S128x4096 .fp8e4m3) (harg7 : arg7.IsWhole)
  (arg8 : Memref sig .tc .vmem S128x32 .f32) (harg8 : arg8.IsWhole)
  (arg9 : Memref sig .tc .vmem S128x512 .i8) (harg9 : arg9.IsWhole)
  (arg10 : Memref sig .tc .vmem S2x1024 .f32) (harg10 : arg10.IsWhole)
  (arg11 : Memref sig .tc .vmem S2x1024 .f32) (harg11 : arg11.IsWhole)
  (arg12 : Memref sig .tc .vmem S128x4096 .bf16) (harg12 : arg12.IsWhole)
  (arg13 : Memref sig .tc .vmem S32x4096 .f32) (harg13 : arg13.IsWhole)
  (arg14 : Memref sig .tc .vmem S32x4096 .f32) (harg14 : arg14.IsWhole)
  (arg15 : Memref sig .tc .vmem S8x256x256 .bf16) (harg15 : arg15.IsWhole)

abbrev P (F : FTy → Type) [FloatOps F] (α : Type) := Prog (TpuEff nD τ sig (Elt F) Λ₀ .tc) α

/-- Fill one strip's weights. -/
def fill (c : Fin 8) (_ : PUnit) : P F PUnit := do
  let _ : Vec F S1x256x256 .bf16 ← Prog.lift (.load arg15 (rW c).toLoadRect (View.loadsAt_vmem h_S1x256x256))
  Prog.lift (.store arg15 (rW c) (shapeCast S1x256x256 (packW (F := F) (BitVec.ofNat 32 (32 * c.val))) shapeCasts_S256x256_S1x256x256 : FVec F S1x256x256 .bf16) Finset.univ (View.stores_vmem h_S1x256x256 (harg15.storeExact_slice rfl _ (packed_w c)) (fun _ => rfl)) (.inl rfl))

/-- Strip `c` of mask tile `t`, in rows `32·s …`. -/
def strip (s : Fin 4) (t : Fin 2) (c : Fin 8) (st : FVec F S32x128 .f32 × FVec F S32x256 .f32) : P F (FVec F S32x128 .f32 × FVec F S32x256 .f32) := do
  let r : Vec F S32x256 .i32 ← Prog.lift (.load arg3 (rStrip s t c).toLoadRect (View.loadsAt_vmem h_S32x256))
  let a : Vec F S32x256 .bf16 ← Prog.lift (.load arg2 (rStrip s t c).toLoadRect (View.loadsAt_vmem h_S32x256))
  let b : Vec F S1x256 .f32 ← Prog.lift (.load arg4 (rStrip1 t c).toLoadRect (View.loadsAt_vmem h_S1x256))
  let x : Vec F S32x256 .bf16 ← Prog.lift (.load arg1 (rStrip s t c).toLoadRect (View.loadsAt_vmem h_S32x256))
  let _ : Vec F S32x256 .bf16 ← Prog.lift (.load arg12 (rStrip s t c).toLoadRect (View.loadsAt_vmem h_S32x256))
  Prog.lift (.store arg12 (rStrip s t c) (hV r a b x) Finset.univ (View.stores_vmem h_S32x256 (harg12.storeExact_slice rfl _ (packed_strip s t c)) (fun _ => rfl)) (.inl rfl))
  let _ : Vec F S32x256 .f32 ← Prog.lift (.load arg13 (rStrip32 t c).toLoadRect (View.loadsAt_vmem h_S32x256))
  Prog.lift (.store arg13 (rStrip32 t c) (shapeCast S32x256 (extf .f32 (hV r a b x) bitsLt_bf16_f32 : FVec F S32x256 .f32) shapeCasts_S32x256_S32x256 : FVec F S32x256 .f32) Finset.univ (View.stores_vmem_bits_univ h_S32x256 rfl) (.inl rfl))
  let w : Vec F S1x256x256 .bf16 ← Prog.lift (.load arg15 (rW c).toLoadRect (View.loadsAt_vmem h_S1x256x256))
  pure (totalV st.1 (extf .f32 (hV r a b x) bitsLt_bf16_f32), packV st.2 (keepV r) w)

/-- Store a mask tile's bytes. -/
def maskStore (s : Fin 4) (t : Fin 2) (p : FVec F S32x256 .f32) : P F PUnit := do
  let _ : Vec F S32x256 .i8 ← Prog.lift (.load arg9 (rTile s t).toLoadRect (View.loadsAt_vmem h_S32x256))
  Prog.lift (.store arg9 (rTile s t) (byteV p) Finset.univ (View.stores_vmem h_S32x256 (harg9.storeExact_slice rfl _ (packed_tile s t)) (fun _ => rfl)) (.inl rfl))

/-- Centre one block and add its squares. -/
def centre (mean : FVec F S32x1 .f32) (b : Fin 32) (sq : FVec F S32x128 .f32) : P F (FVec F S32x128 .f32) := do
  let h : Vec F S32x128 .f32 ← Prog.lift (.load arg13 (rBlock32 b).toLoadRect (View.loadsAt_vmem h_S32x128))
  let _ : Vec F S32x128 .f32 ← Prog.lift (.load arg13 (rBlock32 b).toLoadRect (View.loadsAt_vmem h_S32x128))
  Prog.lift (.store arg13 (rBlock32 b) (shapeCast S32x128 (centreV mean h) shapeCasts_S32x128_S32x128 : FVec F S32x128 .f32) Finset.univ (View.stores_vmem_bits_univ h_S32x128 rfl) (.inl rfl))
  pure (addf sq (mulf (centreV mean h) (centreV mean h)))

/-- Normalise one block and take its largest magnitude. -/
def normal (rstd : FVec F S32x1 .f32) (b : Fin 32) (amax : FVec F S32x128 .f32) : P F (FVec F S32x128 .f32) := do
  let h : Vec F S32x128 .f32 ← Prog.lift (.load arg13 (rBlock32 b).toLoadRect (View.loadsAt_vmem h_S32x128))
  let g : Vec F S1x128 .f32 ← Prog.lift (.load arg5 (rBlock1 b).toLoadRect (View.loadsAt_vmem h_S1x128))
  let be : Vec F S1x128 .f32 ← Prog.lift (.load arg6 (rBlock1 b).toLoadRect (View.loadsAt_vmem h_S1x128))
  let _ : Vec F S32x128 .f32 ← Prog.lift (.load arg14 (rBlock32 b).toLoadRect (View.loadsAt_vmem h_S32x128))
  Prog.lift (.store arg14 (rBlock32 b) (shapeCast S32x128 (yV rstd h g be) shapeCasts_S32x128_S32x128 : FVec F S32x128 .f32) Finset.univ (View.stores_vmem_bits_univ h_S32x128 rfl) (.inl rfl))
  pure (amaxV (BitVec.ofNat 32 b.val) amax (yV rstd h g be))

/-- Round one block's codes. -/
def code (s : Fin 4) (inv : FVec F S32x128 .f32) (b : Fin 32) (_ : PUnit) : P F PUnit := do
  let y : Vec F S32x128 .f32 ← Prog.lift (.load arg14 (rBlock32 b).toLoadRect (View.loadsAt_vmem h_S32x128))
  let _ : Vec F S32x128 .fp8e4m3 ← Prog.lift (.load arg7 (rBlock s b).toLoadRect (View.loadsAt_vmem h_S32x128))
  Prog.lift (.store arg7 (rBlock s b) (codeV b inv y) Finset.univ (View.stores_vmem h_S32x128 (harg7.storeExact_slice rfl _ (packed_block s b)) (fun _ => rfl)) (.inl rfl))

/-- Store the scales of 32 rows. -/
def scaleStore (s : Fin 4) (amax : FVec F S32x128 .f32) : P F PUnit := do
  let _ : Vec F S32x32 .f32 ← Prog.lift (.load arg8 (rScale s).toLoadRect (View.loadsAt_vmem h_S32x32))
  Prog.lift (.store arg8 (rScale s) (scaleV amax) Finset.univ (View.stores_vmem_bits_univ h_S32x32 rfl) (.inl rfl))

abbrev zero128 : FVec F S32x128 .f32 := broadcast S32x128 (Scalar.ofBits .f32 0x00000000#32)
abbrev zero256 : FVec F S32x256 .f32 := broadcast S32x256 (Scalar.ofBits .f32 0x00000000#32)
abbrev zeroRow : FVec F S1x128 .f32 := broadcast S1x128 (Scalar.ofBits .f32 0x00000000#32)

/-- Rows `32·s …` of a point; the pair is the rows of means and of reciprocal deviations. -/
def sub (s : Fin 4) (st : FVec F S1x128 .f32 × FVec F S1x128 .f32) : P F (FVec F S1x128 .f32 × FVec F S1x128 .f32) := do
  let p0 ← forN 8 (strip arg1 arg2 arg3 arg4 arg12 harg12 arg13 arg15 s 0) (zero128, zero256)
  let p1 ← forN 8 (strip arg1 arg2 arg3 arg4 arg12 harg12 arg13 arg15 s 1) (p0.1, zero256)
  maskStore arg9 harg9 s 0 p0.2
  maskStore arg9 harg9 s 1 p1.2
  let sq ← forN 32 (centre arg13 (meanV p1.1)) zero128
  let amax ← forN 32 (normal arg5 arg6 arg13 arg14 (rstdV sq)) zero128
  scaleStore arg8 s amax
  forN 32 (code arg7 harg7 arg14 s (invV amax)) ⟨⟩
  pure (rowV (BitVec.ofNat 32 (32 * s.val)) st.1 (meanV p1.1), rowV (BitVec.ofNat 32 (32 * s.val)) st.2 (rstdV sq))

/-- Merge the point's means and reciprocal deviations into the whole arrays. -/
def merge (st : FVec F S1x128 .f32 × FVec F S1x128 .f32) : P F PUnit := do
  let m : Vec F S2x128 .f32 ← Prog.lift (.load arg10 (rRow i).toLoadRect (View.loadsAt_vmem h_S2x128))
  let _ : Vec F S2x128 .f32 ← Prog.lift (.load arg10 (rRow i).toLoadRect (View.loadsAt_vmem h_S2x128))
  Prog.lift (.store arg10 (rRow i) (mergeV i st.1 m) Finset.univ (View.stores_vmem_bits_univ h_S2x128 rfl) (.inl rfl))
  let r : Vec F S2x128 .f32 ← Prog.lift (.load arg11 (rRow i).toLoadRect (View.loadsAt_vmem h_S2x128))
  let _ : Vec F S2x128 .f32 ← Prog.lift (.load arg11 (rRow i).toLoadRect (View.loadsAt_vmem h_S2x128))
  Prog.lift (.store arg11 (rRow i) (mergeV i st.2 r) Finset.univ (View.stores_vmem_bits_univ h_S2x128 rfl) (.inl rfl))

/-- A point's work after the weights are filled. -/
def work : P F PUnit := do
  let st ← forN 4 (sub arg1 arg2 arg3 arg4 arg5 arg6 arg7 harg7 arg8 arg9 harg9 arg12 harg12 arg13 arg14 arg15) (zeroRow, zeroRow)
  merge i arg10 arg11 st

end

end Cert.Kernel.Loop

end
-- ==== Proof.Own.lean ====
/- Programs that step through owned memrefs: what a load and a store do to the contents owned, and how such steps and loops of them
   compose. The state owned is any type `B`, held by any assertion `H`; no shape or kernel appears here. -/
module

public import Idealize.ShloMosaic.Lib.Pipeline.Frame
public import Idealize.ShloMosaic.Lib.Tactic
public import Idealize.ShloMosaic.Rules

@[expose] public section

noncomputable section

namespace Cert.Own

open Idealize.ShloMosaic Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Idealize.SL.Sem.Labels}
variable {U : Type} [URA U]

local notation "𝕄" => MT nD τ sig Unit Val ℕ U ℕ

variable {defs : Defs nD τ sig Val Λ} {𝒱 : Variants} {c : Thread nD τ}

/-- Run on the state `b`, the program answers `a` and leaves the state `b'`. -/
def Runs (defs : Defs nD τ sig Val Λ) (𝒱 : Variants) (c : Thread nD τ) {B α : Type} (H : B → sProp 𝕄) (p : Prog (TpuEff nD τ sig Val Λ c.2) α) (b : B) (a : α) (b' : B) : Prop :=
  ∀ K : α → sProp 𝕄, (H b' ⊢ K a) → H b ⊢ wp frame (wpE defs 𝒱 c none) Set.univ p K

variable {B α β : Type}

theorem Runs.pure {H : B → sProp 𝕄} (a : α) (b : B) : Runs defs 𝒱 c H (Pure.pure a) b a b := fun _ h => h.trans (le_wp_ret _ _ _ _ _)

theorem Runs.bind {H : B → sProp 𝕄} {p : Prog (TpuEff nD τ sig Val Λ c.2) α} {k : α → Prog (TpuEff nD τ sig Val Λ c.2) β} {b b' b'' : B} {a : α} {a' : β}
    (h : Runs defs 𝒱 c H p b a b') (h' : Runs defs 𝒱 c H (k a) b' a' b'') : Runs defs 𝒱 c H (p >>= k) b a' b'' := fun K hK => by
  rw [wp_bind]; exact h _ (h' K hK)

/-- The contents a load at `r` gives. -/
def ld {s : Shape} {e : Type} (r : Rect s) (X : s.Idx → e) : r.shape.Idx → e := fun j => X (r.emb j)

variable {cs : CoreSpace} {s : Shape} {e : EltTy}

theorem Runs.load {H : B → sProp 𝕄} {m : Memref sig c.2.kind cs s e} {r : Rect s} {hl : m.view.LoadsAt r.toLoadRect} {b : B} {X : s.Idx → Val e}
    (h : H b ⊢ iprop(owns c m fullShare X ∗ (owns c m fullShare X -∗ H b))) :
    Runs defs 𝒱 c H (Prog.lift (.load m r.toLoadRect hl)) b (ld r X) b := fun K hK => by
  refine h.trans ?_
  unfold owns
  iintro ⟨⟨%f, %hf, Hm⟩, Hb⟩
  iapply (wp_load 𝒱 c none Set.univ (defs := defs) (m := m) (r := r.toLoadRect) (hl := hl) (k := fun x => .ret x) (Q := K)
    (View.setOn_subset_set _ _)) $$ Hm
  iintro Hm
  have e : View.readAt Val m.view r.toLoadRect f = ld r X := by subst hf; rfl
  rw [e]
  iapply (le_wp_ret _ _ _ _ _)
  iapply hK
  iapply Hb
  iexists f; isplitr; · ipureintro; exact hf
  iexact Hm

theorem Runs.store {H : B → sProp 𝕄} {m : Memref sig c.2.kind cs s e} {r : Rect s} {w : r.shape.Idx → Val e} {hx : (m.access r).Stores Finset.univ}
    {hm : Finset.univ = Finset.univ ∨ ∀ a, r.stride a = 1} {b b' : B} {X : s.Idx → Val e}
    (h : H b ⊢ iprop(owns c m fullShare X ∗ (owns c m fullShare (r.overlay X w) -∗ H b'))) :
    Runs defs 𝒱 c H (Prog.lift (.store m r w Finset.univ hx hm)) b ⟨⟩ b' := fun K hK => by
  refine h.trans ?_
  unfold owns
  iintro ⟨⟨%f, %hf, Hm⟩, Hb⟩
  iapply (wp_store 𝒱 c none Set.univ (defs := defs) (m := m) (r := r) (w := w) (hx := hx) (hm := hm) (k := fun x => .ret x) (Q := K)
    (S := m.view.set) (f := f) (((m.access r).setOn_subset_set _).trans (View.set_slice_subset _ _))) $$ Hm
  iintro Hm
  iapply (le_wp_ret _ _ _ _ _)
  iapply hK
  iapply Hb
  iexists ((m.access r).write Val f w Finset.univ)
  isplitr
  · ipureintro
    funext j
    by_cases hj : j ∈ r.set
    · rw [← Rect.map_emb_univ] at hj
      obtain ⟨i, -, rfl⟩ := Finset.mem_map.mp hj
      rw [Rect.overlay_emb]
      exact View.read_slice_write_emb r f w (Finset.mem_univ i)
    · rw [Rect.overlay_of_not_mem _ _ _ hj, ← hf]
      exact View.read_slice_write_of_not_mem r f w _ (by rw [Rect.map_emb_univ]; exact hj)
  iexact Hm

/-- `f k`, …, `f (k + m - 1)` in turn. -/
def steps {σ : Type} {n : Nat} (f : Fin n → σ → σ) : (m k : Nat) → k + m = n → σ → σ
  | 0, _, _, st => st
  | m + 1, k, h, st => steps f m (k + 1) (by omega) (f ⟨k, by omega⟩ st)

/-- The value after the first `k` steps. -/
def upto {σ : Type} {n : Nat} (f : Fin n → σ → σ) (st : σ) : Nat → σ
  | 0 => st
  | k + 1 => if h : k < n then f ⟨k, h⟩ (upto f st k) else upto f st k

theorem upto_succ {σ : Type} {n : Nat} (f : Fin n → σ → σ) (st : σ) (k : Fin n) : upto f st (k + 1) = f k (upto f st k) := by
  rw [upto, dif_pos k.isLt]

/-- What each step keeps, all of them keep. -/
theorem upto_inv {σ : Type} {n : Nat} (f : Fin n → σ → σ) (P : σ → Prop) (h : ∀ k st, P st → P (f k st)) {st : σ} (h₀ : P st) : ∀ k, P (upto f st k)
  | 0 => h₀
  | k + 1 => by
    rw [upto]; split
    · exact h _ _ (upto_inv f P h h₀ k)
    · exact upto_inv f P h h₀ k

theorem steps_eq {σ : Type} {n : Nat} (f : Fin n → σ → σ) (st : σ) : ∀ (m k : Nat) (h : k + m = n), steps f m k h (upto f st k) = upto f st n
  | 0, k, h => by subst h; rfl
  | m + 1, k, h => by
    rw [steps, ← upto_succ f st ⟨k, by omega⟩]; exact steps_eq f st m (k + 1) _

theorem upto_zero {σ : Type} {n : Nat} (f : Fin n → σ → σ) (st : σ) : upto f st 0 = st := rfl

attribute [irreducible] upto

end Cert.Own

end
-- ==== Proof.Kernel.Run.lean ====
/- What a point's work does to the buffers it is given, as a function of their contents, and that the loops of `Loop.lean` do it. -/
module

public import proofs.«01_k».proof.Proof.Kernel.Loop
public import proofs.«01_k».proof.Proof.Own

@[expose] public section

noncomputable section

namespace Cert.Kernel.Loop

open Idealize.ShloMosaic Idealize.ShloMosaic.TcCoe Cert.Own Cert.Kernel.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The contents of the body's fifteen buffers. -/
structure Bufs (F : FTy → Type) where
  x : S128x4096.Idx → Elt F .bf16
  a : S128x4096.Idx → Elt F .bf16
  rand : S128x4096.Idx → Elt F .i32
  bias : S1x4096.Idx → Elt F .f32
  gamma : S1x4096.Idx → Elt F .f32
  beta : S1x4096.Idx → Elt F .f32
  codes : S128x4096.Idx → Elt F .fp8e4m3
  scales : S128x32.Idx → Elt F .f32
  mask : S128x512.Idx → Elt F .i8
  mean : S2x1024.Idx → Elt F .f32
  rstd : S2x1024.Idx → Elt F .f32
  h : S128x4096.Idx → Elt F .bf16
  hf : S32x4096.Idx → Elt F .f32
  y : S32x4096.Idx → Elt F .f32
  w : S8x256x256.Idx → Elt F .bf16

/-- The body's fifteen buffers. -/
structure Args where
  a1 : Memref sig .tc .vmem S128x4096 .bf16
  a2 : Memref sig .tc .vmem S128x4096 .bf16
  a3 : Memref sig .tc .vmem S128x4096 .i32
  a4 : Memref sig .tc .vmem S1x4096 .f32
  a5 : Memref sig .tc .vmem S1x4096 .f32
  a6 : Memref sig .tc .vmem S1x4096 .f32
  a7 : Memref sig .tc .vmem S128x4096 .fp8e4m3
  a8 : Memref sig .tc .vmem S128x32 .f32
  a9 : Memref sig .tc .vmem S128x512 .i8
  a10 : Memref sig .tc .vmem S2x1024 .f32
  a11 : Memref sig .tc .vmem S2x1024 .f32
  a12 : Memref sig .tc .vmem S128x4096 .bf16
  a13 : Memref sig .tc .vmem S32x4096 .f32
  a14 : Memref sig .tc .vmem S32x4096 .f32
  a15 : Memref sig .tc .vmem S8x256x256 .bf16

variable (d : Dev nD) (g : Args)

/-- The core holds the buffers at these contents. -/
def held (b : Bufs F) : sProp 𝕄 :=
  iprop(owns (d : Thread nD τ) g.a1 fullShare b.x ∗ owns (d : Thread nD τ) g.a2 fullShare b.a ∗ owns (d : Thread nD τ) g.a3 fullShare b.rand ∗ owns (d : Thread nD τ) g.a4 fullShare b.bias ∗ owns (d : Thread nD τ) g.a5 fullShare b.gamma ∗ owns (d : Thread nD τ) g.a6 fullShare b.beta ∗ owns (d : Thread nD τ) g.a7 fullShare b.codes ∗ owns (d : Thread nD τ) g.a8 fullShare b.scales ∗ owns (d : Thread nD τ) g.a9 fullShare b.mask ∗ owns (d : Thread nD τ) g.a10 fullShare b.mean ∗ owns (d : Thread nD τ) g.a11 fullShare b.rstd ∗ owns (d : Thread nD τ) g.a12 fullShare b.h ∗ owns (d : Thread nD τ) g.a13 fullShare b.hf ∗ owns (d : Thread nD τ) g.a14 fullShare b.y ∗ owns (d : Thread nD τ) g.a15 fullShare b.w)

theorem put1 (b : Bufs F) :
    held d g b ⊢ iprop(owns (d : Thread nD τ) g.a1 fullShare b.x ∗ (owns (d : Thread nD τ) g.a1 fullShare b.x -∗ held d g b)) := by
  unfold held
  iintro ⟨H1, H2, H3, H4, H5, H6, H7, H8, H9, H10, H11, H12, H13, H14, H15⟩
  isplitl [H1]; · iexact H1
  iintro H1
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15
theorem put2 (b : Bufs F) :
    held d g b ⊢ iprop(owns (d : Thread nD τ) g.a2 fullShare b.a ∗ (owns (d : Thread nD τ) g.a2 fullShare b.a -∗ held d g b)) := by
  unfold held
  iintro ⟨H1, H2, H3, H4, H5, H6, H7, H8, H9, H10, H11, H12, H13, H14, H15⟩
  isplitl [H2]; · iexact H2
  iintro H2
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15
theorem put3 (b : Bufs F) :
    held d g b ⊢ iprop(owns (d : Thread nD τ) g.a3 fullShare b.rand ∗ (owns (d : Thread nD τ) g.a3 fullShare b.rand -∗ held d g b)) := by
  unfold held
  iintro ⟨H1, H2, H3, H4, H5, H6, H7, H8, H9, H10, H11, H12, H13, H14, H15⟩
  isplitl [H3]; · iexact H3
  iintro H3
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15
theorem put4 (b : Bufs F) :
    held d g b ⊢ iprop(owns (d : Thread nD τ) g.a4 fullShare b.bias ∗ (owns (d : Thread nD τ) g.a4 fullShare b.bias -∗ held d g b)) := by
  unfold held
  iintro ⟨H1, H2, H3, H4, H5, H6, H7, H8, H9, H10, H11, H12, H13, H14, H15⟩
  isplitl [H4]; · iexact H4
  iintro H4
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15
theorem put5 (b : Bufs F) :
    held d g b ⊢ iprop(owns (d : Thread nD τ) g.a5 fullShare b.gamma ∗ (owns (d : Thread nD τ) g.a5 fullShare b.gamma -∗ held d g b)) := by
  unfold held
  iintro ⟨H1, H2, H3, H4, H5, H6, H7, H8, H9, H10, H11, H12, H13, H14, H15⟩
  isplitl [H5]; · iexact H5
  iintro H5
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15
theorem put6 (b : Bufs F) :
    held d g b ⊢ iprop(owns (d : Thread nD τ) g.a6 fullShare b.beta ∗ (owns (d : Thread nD τ) g.a6 fullShare b.beta -∗ held d g b)) := by
  unfold held
  iintro ⟨H1, H2, H3, H4, H5, H6, H7, H8, H9, H10, H11, H12, H13, H14, H15⟩
  isplitl [H6]; · iexact H6
  iintro H6
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15
theorem put7 (b : Bufs F) (X : S128x4096.Idx → Elt F .fp8e4m3) :
    held d g b ⊢ iprop(owns (d : Thread nD τ) g.a7 fullShare b.codes ∗ (owns (d : Thread nD τ) g.a7 fullShare X -∗ held d g { b with codes := X })) := by
  unfold held
  iintro ⟨H1, H2, H3, H4, H5, H6, H7, H8, H9, H10, H11, H12, H13, H14, H15⟩
  isplitl [H7]; · iexact H7
  iintro H7
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15
theorem put8 (b : Bufs F) (X : S128x32.Idx → Elt F .f32) :
    held d g b ⊢ iprop(owns (d : Thread nD τ) g.a8 fullShare b.scales ∗ (owns (d : Thread nD τ) g.a8 fullShare X -∗ held d g { b with scales := X })) := by
  unfold held
  iintro ⟨H1, H2, H3, H4, H5, H6, H7, H8, H9, H10, H11, H12, H13, H14, H15⟩
  isplitl [H8]; · iexact H8
  iintro H8
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15
theorem put9 (b : Bufs F) (X : S128x512.Idx → Elt F .i8) :
    held d g b ⊢ iprop(owns (d : Thread nD τ) g.a9 fullShare b.mask ∗ (owns (d : Thread nD τ) g.a9 fullShare X -∗ held d g { b with mask := X })) := by
  unfold held
  iintro ⟨H1, H2, H3, H4, H5, H6, H7, H8, H9, H10, H11, H12, H13, H14, H15⟩
  isplitl [H9]; · iexact H9
  iintro H9
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15
theorem put10 (b : Bufs F) (X : S2x1024.Idx → Elt F .f32) :
    held d g b ⊢ iprop(owns (d : Thread nD τ) g.a10 fullShare b.mean ∗ (owns (d : Thread nD τ) g.a10 fullShare X -∗ held d g { b with mean := X })) := by
  unfold held
  iintro ⟨H1, H2, H3, H4, H5, H6, H7, H8, H9, H10, H11, H12, H13, H14, H15⟩
  isplitl [H10]; · iexact H10
  iintro H10
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15
theorem put11 (b : Bufs F) (X : S2x1024.Idx → Elt F .f32) :
    held d g b ⊢ iprop(owns (d : Thread nD τ) g.a11 fullShare b.rstd ∗ (owns (d : Thread nD τ) g.a11 fullShare X -∗ held d g { b with rstd := X })) := by
  unfold held
  iintro ⟨H1, H2, H3, H4, H5, H6, H7, H8, H9, H10, H11, H12, H13, H14, H15⟩
  isplitl [H11]; · iexact H11
  iintro H11
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15
theorem put12 (b : Bufs F) (X : S128x4096.Idx → Elt F .bf16) :
    held d g b ⊢ iprop(owns (d : Thread nD τ) g.a12 fullShare b.h ∗ (owns (d : Thread nD τ) g.a12 fullShare X -∗ held d g { b with h := X })) := by
  unfold held
  iintro ⟨H1, H2, H3, H4, H5, H6, H7, H8, H9, H10, H11, H12, H13, H14, H15⟩
  isplitl [H12]; · iexact H12
  iintro H12
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15
theorem put13 (b : Bufs F) (X : S32x4096.Idx → Elt F .f32) :
    held d g b ⊢ iprop(owns (d : Thread nD τ) g.a13 fullShare b.hf ∗ (owns (d : Thread nD τ) g.a13 fullShare X -∗ held d g { b with hf := X })) := by
  unfold held
  iintro ⟨H1, H2, H3, H4, H5, H6, H7, H8, H9, H10, H11, H12, H13, H14, H15⟩
  isplitl [H13]; · iexact H13
  iintro H13
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15
theorem put14 (b : Bufs F) (X : S32x4096.Idx → Elt F .f32) :
    held d g b ⊢ iprop(owns (d : Thread nD τ) g.a14 fullShare b.y ∗ (owns (d : Thread nD τ) g.a14 fullShare X -∗ held d g { b with y := X })) := by
  unfold held
  iintro ⟨H1, H2, H3, H4, H5, H6, H7, H8, H9, H10, H11, H12, H13, H14, H15⟩
  isplitl [H14]; · iexact H14
  iintro H14
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15
theorem put15 (b : Bufs F) (X : S8x256x256.Idx → Elt F .bf16) :
    held d g b ⊢ iprop(owns (d : Thread nD τ) g.a15 fullShare b.w ∗ (owns (d : Thread nD τ) g.a15 fullShare X -∗ held d g { b with w := X })) := by
  unfold held
  iintro ⟨H1, H2, H3, H4, H5, H6, H7, H8, H9, H10, H11, H12, H13, H14, H15⟩
  isplitl [H15]; · iexact H15
  iintro H15
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

variable {d g} {𝒱 : Variants}

theorem Runs.forFrom {B σ : Type} {H : B → sProp 𝕄} {n : Nat} (f : Fin n → σ → P F σ) (p : Fin n → σ × B → σ × B)
    (h : ∀ k st b, Runs (defs₀ (F := F)) 𝒱 (d : Thread nD τ) H (f k st) b (p k (st, b)).1 (p k (st, b)).2) :
    ∀ (m k : Nat) (hk : k + m = n) (st : σ) (b : B),
      Runs (defs₀ (F := F)) 𝒱 (d : Thread nD τ) H (forFrom f m k hk st) b (steps p m k hk (st, b)).1 (steps p m k hk (st, b)).2
  | 0, _, _, st, b => Runs.pure st b
  | m + 1, k, hk, st, b => Runs.bind (h ⟨k, by omega⟩ st b) (Runs.forFrom f p h m (k + 1) _ _ _)

theorem Runs.forN {B σ : Type} {H : B → sProp 𝕄} {n : Nat} (f : Fin n → σ → P F σ) (p : Fin n → σ × B → σ × B)
    (h : ∀ k st b, Runs (defs₀ (F := F)) 𝒱 (d : Thread nD τ) H (f k st) b (p k (st, b)).1 (p k (st, b)).2) (st : σ) (b : B) :
    Runs (defs₀ (F := F)) 𝒱 (d : Thread nD τ) H (forN n f st) b (upto p (st, b) n).1 (upto p (st, b) n).2 := by
  have e := steps_eq p (st, b) n 0 (Nat.zero_add n)
  rw [← e, upto_zero]; exact Runs.forFrom f p h n 0 _ st b

/-! ## The steps on contents -/

def fillP (c : Fin 8) (q : PUnit.{1} × Bufs F) : PUnit.{1} × Bufs F :=
  (⟨⟩, { q.2 with w := (rW c).overlay q.2.w (shapeCast S1x256x256 (packW (F := F) (BitVec.ofNat 32 (32 * c.val))) shapeCasts_S256x256_S1x256x256 : FVec F S1x256x256 .bf16) })

/-- The residual sum of a strip, from the contents. -/
def stripH (s : Fin 4) (t : Fin 2) (c : Fin 8) (b : Bufs F) : FVec F S32x256 .bf16 :=
  hV (ld (rStrip s t c) b.rand) (ld (rStrip s t c) b.a) (ld (rStrip1 t c) b.bias) (ld (rStrip s t c) b.x)

def stripP (s : Fin 4) (t : Fin 2) (c : Fin 8) (q : (FVec F S32x128 .f32 × FVec F S32x256 .f32) × Bufs F) :
    (FVec F S32x128 .f32 × FVec F S32x256 .f32) × Bufs F :=
  ((totalV q.1.1 (extf .f32 (stripH s t c q.2) bitsLt_bf16_f32), packV q.1.2 (keepV (ld (rStrip s t c) q.2.rand)) (ld (rW c) q.2.w)),
    { q.2 with
      h := (rStrip s t c).overlay q.2.h (stripH s t c q.2)
      hf := (rStrip32 t c).overlay q.2.hf (shapeCast S32x256 (extf .f32 (stripH s t c q.2) bitsLt_bf16_f32 : FVec F S32x256 .f32) shapeCasts_S32x256_S32x256 : FVec F S32x256 .f32) })

def maskP (s : Fin 4) (t : Fin 2) (p : FVec F S32x256 .f32) (b : Bufs F) : Bufs F :=
  { b with mask := (rTile s t).overlay b.mask (byteV p) }

def centreP (mean : FVec F S32x1 .f32) (k : Fin 32) (q : FVec F S32x128 .f32 × Bufs F) : FVec F S32x128 .f32 × Bufs F :=
  (addf q.1 (mulf (centreV mean (ld (rBlock32 k) q.2.hf)) (centreV mean (ld (rBlock32 k) q.2.hf))),
    { q.2 with hf := (rBlock32 k).overlay q.2.hf (shapeCast S32x128 (centreV mean (ld (rBlock32 k) q.2.hf)) shapeCasts_S32x128_S32x128 : FVec F S32x128 .f32) })

def normalP (rstd : FVec F S32x1 .f32) (k : Fin 32) (q : FVec F S32x128 .f32 × Bufs F) : FVec F S32x128 .f32 × Bufs F :=
  (amaxV (BitVec.ofNat 32 k.val) q.1 (yV rstd (ld (rBlock32 k) q.2.hf) (ld (rBlock1 k) q.2.gamma) (ld (rBlock1 k) q.2.beta)),
    { q.2 with y := (rBlock32 k).overlay q.2.y (shapeCast S32x128 (yV rstd (ld (rBlock32 k) q.2.hf) (ld (rBlock1 k) q.2.gamma) (ld (rBlock1 k) q.2.beta)) shapeCasts_S32x128_S32x128 : FVec F S32x128 .f32) })

def codeP (s : Fin 4) (inv : FVec F S32x128 .f32) (k : Fin 32) (q : PUnit.{1} × Bufs F) : PUnit.{1} × Bufs F :=
  (⟨⟩, { q.2 with codes := (rBlock s k).overlay q.2.codes (codeV k inv (ld (rBlock32 k) q.2.y)) })

def scaleP (s : Fin 4) (amax : FVec F S32x128 .f32) (b : Bufs F) : Bufs F :=
  { b with scales := (rScale s).overlay b.scales (scaleV amax) }

def mergeP (i : grid0.Coords) (st : FVec F S1x128 .f32 × FVec F S1x128 .f32) (b : Bufs F) : Bufs F :=
  { b with mean := (rRow i).overlay b.mean (mergeV i st.1 (ld (rRow i) b.mean)), rstd := (rRow i).overlay b.rstd (mergeV i st.2 (ld (rRow i) b.rstd)) }

/-! ### The stages of 32 rows -/

/-- After the first mask tile's strips. -/
def st0 (s : Fin 4) (b : Bufs F) := upto (stripP s 0) (((zero128, zero256) : FVec F S32x128 .f32 × FVec F S32x256 .f32), b) 8
/-- After the second's. -/
def st1 (s : Fin 4) (b : Bufs F) := upto (stripP s 1) (((st0 s b).1.1, zero256), (st0 s b).2) 8
/-- After the mask is stored. -/
def st2 (s : Fin 4) (b : Bufs F) : Bufs F := maskP s 1 (st1 s b).1.2 (maskP s 0 (st0 s b).1.2 (st1 s b).2)
/-- The rows' means. -/
def rowMean (s : Fin 4) (b : Bufs F) : FVec F S32x1 .f32 := meanV (st1 s b).1.1
/-- After the rows are centred. -/
def st3 (s : Fin 4) (b : Bufs F) := upto (centreP (rowMean s b)) (zero128, st2 s b) 32
/-- The rows' reciprocal deviations. -/
def rowRstd (s : Fin 4) (b : Bufs F) : FVec F S32x1 .f32 := rstdV (st3 s b).1
/-- After the rows are normalised. -/
def st4 (s : Fin 4) (b : Bufs F) := upto (normalP (rowRstd s b)) (zero128, (st3 s b).2) 32
/-- After the codes are stored. -/
def st5 (s : Fin 4) (b : Bufs F) : Bufs F := (upto (codeP s (invV (st4 s b).1)) (⟨⟩, scaleP s (st4 s b).1 (st4 s b).2) 32).2

def subP (s : Fin 4) (q : (FVec F S1x128 .f32 × FVec F S1x128 .f32) × Bufs F) : (FVec F S1x128 .f32 × FVec F S1x128 .f32) × Bufs F :=
  ((rowV (BitVec.ofNat 32 (32 * s.val)) q.1.1 (rowMean s q.2), rowV (BitVec.ofNat 32 (32 * s.val)) q.1.2 (rowRstd s q.2)), st5 s q.2)

/-- After the four groups of 32 rows. -/
def rowsP (b : Bufs F) := upto subP (((zeroRow, zeroRow) : FVec F S1x128 .f32 × FVec F S1x128 .f32), b) 4

/-- A point's work. -/
def workP (i : grid0.Coords) (b : Bufs F) : Bufs F := mergeP i (rowsP b).1 (rowsP b).2

/-- The weights filled. -/
def fillsP (b : Bufs F) : Bufs F := (upto fillP (⟨⟩, b) 8).2

/-! ## The loops do them -/

section

variable (i : grid0.Coords) (harg7 : g.a7.IsWhole) (harg9 : g.a9.IsWhole) (harg12 : g.a12.IsWhole) (harg15 : g.a15.IsWhole) (b : Bufs F)

theorem T_fill (c : Fin 8) (u : PUnit.{1}) : Runs (defs₀ (F := F)) 𝒱 (d : Thread nD τ) (held d g) (fill g.a15 harg15 c u) b (fillP c (u, b)).1 (fillP c (u, b)).2 := by
  unfold fill
  refine Runs.bind (Runs.load (put15 d g b _)) ?_
  exact Runs.store (put15 d g b _)

theorem T_strip (s : Fin 4) (t : Fin 2) (c : Fin 8) (st : FVec F S32x128 .f32 × FVec F S32x256 .f32) :
    Runs (defs₀ (F := F)) 𝒱 (d : Thread nD τ) (held d g) (strip g.a1 g.a2 g.a3 g.a4 g.a12 harg12 g.a13 g.a15 s t c st) b (stripP s t c (st, b)).1 (stripP s t c (st, b)).2 := by
  unfold strip
  refine Runs.bind (Runs.load (put3 d g b)) ?_
  refine Runs.bind (Runs.load (put2 d g b)) ?_
  refine Runs.bind (Runs.load (put4 d g b)) ?_
  refine Runs.bind (Runs.load (put1 d g b)) ?_
  refine Runs.bind (Runs.load (put12 d g b _)) ?_
  refine Runs.bind (Runs.store (put12 d g b _)) ?_
  refine Runs.bind (Runs.load (put13 d g _ _)) ?_
  refine Runs.bind (Runs.store (put13 d g _ _)) ?_
  refine Runs.bind (Runs.load (put15 d g _ _)) ?_
  dsimp only [stripP, stripH]
  exact Runs.pure _ _

theorem T_mask (s : Fin 4) (t : Fin 2) (p : FVec F S32x256 .f32) :
    Runs (defs₀ (F := F)) 𝒱 (d : Thread nD τ) (held d g) (maskStore g.a9 harg9 s t p) b ⟨⟩ (maskP s t p b) := by
  unfold maskStore
  refine Runs.bind (Runs.load (put9 d g b _)) ?_
  exact Runs.store (put9 d g b _)

theorem T_centre (mean : FVec F S32x1 .f32) (k : Fin 32) (sq : FVec F S32x128 .f32) :
    Runs (defs₀ (F := F)) 𝒱 (d : Thread nD τ) (held d g) (centre g.a13 mean k sq) b (centreP mean k (sq, b)).1 (centreP mean k (sq, b)).2 := by
  unfold centre
  refine Runs.bind (Runs.load (put13 d g b _)) ?_
  refine Runs.bind (Runs.load (put13 d g b _)) ?_
  refine Runs.bind (Runs.store (put13 d g b _)) ?_
  exact Runs.pure _ _

theorem T_normal (rstd : FVec F S32x1 .f32) (k : Fin 32) (amax : FVec F S32x128 .f32) :
    Runs (defs₀ (F := F)) 𝒱 (d : Thread nD τ) (held d g) (normal g.a5 g.a6 g.a13 g.a14 rstd k amax) b (normalP rstd k (amax, b)).1 (normalP rstd k (amax, b)).2 := by
  unfold normal
  refine Runs.bind (Runs.load (put13 d g b _)) ?_
  refine Runs.bind (Runs.load (put5 d g b)) ?_
  refine Runs.bind (Runs.load (put6 d g b)) ?_
  refine Runs.bind (Runs.load (put14 d g b _)) ?_
  refine Runs.bind (Runs.store (put14 d g b _)) ?_
  exact Runs.pure _ _

theorem T_code (s : Fin 4) (inv : FVec F S32x128 .f32) (k : Fin 32) (u : PUnit.{1}) :
    Runs (defs₀ (F := F)) 𝒱 (d : Thread nD τ) (held d g) (code g.a7 harg7 g.a14 s inv k u) b (codeP s inv k (u, b)).1 (codeP s inv k (u, b)).2 := by
  unfold code
  refine Runs.bind (Runs.load (put14 d g b _)) ?_
  refine Runs.bind (Runs.load (put7 d g b _)) ?_
  exact Runs.store (put7 d g b _)

theorem T_scale (s : Fin 4) (amax : FVec F S32x128 .f32) :
    Runs (defs₀ (F := F)) 𝒱 (d : Thread nD τ) (held d g) (scaleStore g.a8 s amax) b ⟨⟩ (scaleP s amax b) := by
  unfold scaleStore
  refine Runs.bind (Runs.load (put8 d g b _)) ?_
  exact Runs.store (put8 d g b _)

theorem T_sub (s : Fin 4) (st : FVec F S1x128 .f32 × FVec F S1x128 .f32) :
    Runs (defs₀ (F := F)) 𝒱 (d : Thread nD τ) (held d g) (sub g.a1 g.a2 g.a3 g.a4 g.a5 g.a6 g.a7 harg7 g.a8 g.a9 harg9 g.a12 harg12 g.a13 g.a14 g.a15 s st) b
      (subP s (st, b)).1 (subP s (st, b)).2 := by
  unfold sub
  refine Runs.bind (Runs.forN _ (stripP s 0) (fun k st b => T_strip harg12 b s 0 k st) _ b) ?_
  refine Runs.bind (Runs.forN _ (stripP s 1) (fun k st b => T_strip harg12 b s 1 k st) _ _) ?_
  refine Runs.bind (T_mask harg9 _ s 0 _) ?_
  refine Runs.bind (T_mask harg9 _ s 1 _) ?_
  refine Runs.bind (Runs.forN _ (centreP (rowMean s b)) (fun k st b' => T_centre b' (rowMean s b) k st) _ _) ?_
  refine Runs.bind (Runs.forN _ (normalP (rowRstd s b)) (fun k st b' => T_normal b' (rowRstd s b) k st) _ _) ?_
  refine Runs.bind (T_scale _ s _) ?_
  refine Runs.bind (Runs.forN _ (codeP s (invV (st4 s b).1)) (fun k st b' => T_code harg7 b' s (invV (st4 s b).1) k st) _ _) ?_
  exact Runs.pure _ _

theorem T_merge (st : FVec F S1x128 .f32 × FVec F S1x128 .f32) :
    Runs (defs₀ (F := F)) 𝒱 (d : Thread nD τ) (held d g) (merge i g.a10 g.a11 st) b ⟨⟩ (mergeP i st b) := by
  unfold merge
  refine Runs.bind (Runs.load (put10 d g b _)) ?_
  refine Runs.bind (Runs.load (put10 d g b _)) ?_
  refine Runs.bind (Runs.store (put10 d g b _)) ?_
  refine Runs.bind (Runs.load (put11 d g _ _)) ?_
  refine Runs.bind (Runs.load (put11 d g _ _)) ?_
  exact Runs.store (put11 d g _ _)

/-- A point's work takes the buffers to `workP` of them. -/
theorem T_work : Runs (defs₀ (F := F)) 𝒱 (d : Thread nD τ) (held d g)
    (work i g.a1 g.a2 g.a3 g.a4 g.a5 g.a6 g.a7 harg7 g.a8 g.a9 harg9 g.a10 g.a11 g.a12 harg12 g.a13 g.a14 g.a15) b ⟨⟩ (workP i b) := by
  unfold work
  refine Runs.bind (Runs.forN _ subP (fun k st b => T_sub harg7 harg9 harg12 b k st) _ b) ?_
  exact T_merge i _ _

/-- Filling the weights takes them to `fillsP` of them. -/
theorem T_fills : Runs (defs₀ (F := F)) 𝒱 (d : Thread nD τ) (held d g) (forN 8 (fill g.a15 harg15) ⟨⟩) b ⟨⟩ (fillsP b) :=
  Runs.forN _ fillP (fun k u b => T_fill harg15 b k u) ⟨⟩ b

end

end Cert.Kernel.Loop

end
-- ==== Proof.Kernel.Eq.lean ====
/- The printed body is the loops of `Loop.lean`. -/
module

public import proofs.«01_k».proof.Proof.Kernel.Loop
public import Idealize.ShloMosaic.Lib.Tactic

@[expose] public section

set_option maxRecDepth 1000000
set_option maxHeartbeats 0

noncomputable section

namespace Cert.Kernel.Loop

open Idealize.ShloMosaic Idealize.SL.Sem Cert.Kernel.Gen

variable {F : FTy → Type} [FloatOps F]
variable (i : grid0.Coords)
  (arg1 : Memref sig .tc .vmem S128x4096 .bf16) (harg1 : arg1.IsWhole)
  (arg2 : Memref sig .tc .vmem S128x4096 .bf16) (harg2 : arg2.IsWhole)
  (arg3 : Memref sig .tc .vmem S128x4096 .i32) (harg3 : arg3.IsWhole)
  (arg4 : Memref sig .tc .vmem S1x4096 .f32) (harg4 : arg4.IsWhole)
  (arg5 : Memref sig .tc .vmem S1x4096 .f32) (harg5 : arg5.IsWhole)
  (arg6 : Memref sig .tc .vmem S1x4096 .f32) (harg6 : arg6.IsWhole)
  (arg7 : Memref sig .tc .vmem S128x4096 .fp8e4m3) (harg7 : arg7.IsWhole)
  (arg8 : Memref sig .tc .vmem S128x32 .f32) (harg8 : arg8.IsWhole)
  (arg9 : Memref sig .tc .vmem S128x512 .i8) (harg9 : arg9.IsWhole)
  (arg10 : Memref sig .tc .vmem S2x1024 .f32) (harg10 : arg10.IsWhole)
  (arg11 : Memref sig .tc .vmem S2x1024 .f32) (harg11 : arg11.IsWhole)
  (arg12 : Memref sig .tc .vmem S128x4096 .bf16) (harg12 : arg12.IsWhole)
  (arg13 : Memref sig .tc .vmem S32x4096 .f32) (harg13 : arg13.IsWhole)
  (arg14 : Memref sig .tc .vmem S32x4096 .f32) (harg14 : arg14.IsWhole)
  (arg15 : Memref sig .tc .vmem S8x256x256 .bf16) (harg15 : arg15.IsWhole)

/-- At the first point the weights are filled first. -/
theorem body_pos (h : firstW i = 1#1) :
    cc0_bias_dropout_add_ln_fp8 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 =
      (forN 8 (fill arg15 harg15) ⟨⟩ >>= fun _ =>
        work i arg1 arg2 arg3 arg4 arg5 arg6 arg7 harg7 arg8 arg9 harg9 arg10 arg11 arg12 harg12 arg13 arg14 arg15) := by
  unfold cc0_bias_dropout_add_ln_fp8 k0_part223 k0_part11
  rw [dif_pos h]
  sl_kernel_rfl

/-- At the others they are not. -/
theorem body_neg (h : ¬ firstW i = 1#1) :
    cc0_bias_dropout_add_ln_fp8 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 =
      (work i arg1 arg2 arg3 arg4 arg5 arg6 arg7 harg7 arg8 arg9 harg9 arg10 arg11 arg12 harg12 arg13 arg14 arg15) := by
  unfold cc0_bias_dropout_add_ln_fp8 k0_part223 k0_part11
  rw [dif_neg h]
  sl_kernel_rfl

end Cert.Kernel.Loop

end
-- ==== Proof.Kernel.Body.lean ====
/- The body at a grid point, what it may leave in each window's buffer, and the run of the program. -/
module

public import proofs.«01_k».proof.Proof.Kernel.Run
public import proofs.«01_k».proof.Proof.Kernel.Eq
public import proofs.«01_k».proof.Proof.Gen.Kernel.Launch
public import proofs.«01_k».proof.Proof.Gen.Kernel.Points
public import proofs.«01_k».proof.Proof.Gen.Kernel.Frame

@[expose] public section

noncomputable section

namespace Cert.Kernel.Loop

open Idealize.ShloMosaic Idealize.ShloMosaic.TcCoe Cert.Own Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig Unit (Elt F) ℕ (UR sig nD τ) ℕ

/-! ## What a point's work leaves alone -/

/-- The inputs and the weights are the same. -/
structure Same (b b' : Bufs F) : Prop where
  x : b'.x = b.x
  a : b'.a = b.a
  rand : b'.rand = b.rand
  bias : b'.bias = b.bias
  gamma : b'.gamma = b.gamma
  beta : b'.beta = b.beta
  w : b'.w = b.w

theorem Same.rfl' (b : Bufs F) : Same b b := ⟨rfl, rfl, rfl, rfl, rfl, rfl, rfl⟩

theorem Same.trans {b b' b'' : Bufs F} (h : Same b b') (h' : Same b' b'') : Same b b'' :=
  ⟨h'.x.trans h.x, h'.a.trans h.a, h'.rand.trans h.rand, h'.bias.trans h.bias, h'.gamma.trans h.gamma, h'.beta.trans h.beta, h'.w.trans h.w⟩

theorem same_upto {σ : Type} {n : Nat} (f : Fin n → σ × Bufs F → σ × Bufs F) (h : ∀ k q, Same q.2 (f k q).2) (q : σ × Bufs F) :
    ∀ m, Same q.2 (upto f q m).2 :=
  fun m => upto_inv f (fun q' => Same q.2 q'.2) (fun k q' hq => hq.trans (h k q')) (Same.rfl' _) m

theorem same_strip (s : Fin 4) (t : Fin 2) (k : Fin 8) (q : (FVec F S32x128 .f32 × FVec F S32x256 .f32) × Bufs F) : Same q.2 (stripP s t k q).2 := by unfold stripP; constructor <;> rfl
theorem same_mask (s : Fin 4) (t : Fin 2) (p : FVec F S32x256 .f32) (b : Bufs F) : Same b (maskP s t p b) := by unfold maskP; constructor <;> rfl
theorem same_centre (v : FVec F S32x1 .f32) (k : Fin 32) (q : FVec F S32x128 .f32 × Bufs F) : Same q.2 (centreP v k q).2 := by unfold centreP; constructor <;> rfl
theorem same_normal (v : FVec F S32x1 .f32) (k : Fin 32) (q : FVec F S32x128 .f32 × Bufs F) : Same q.2 (normalP v k q).2 := by unfold normalP; constructor <;> rfl
theorem same_code (s : Fin 4) (v : FVec F S32x128 .f32) (k : Fin 32) (q : PUnit × Bufs F) : Same q.2 (codeP s v k q).2 := by unfold codeP; constructor <;> rfl
theorem same_scale (s : Fin 4) (v : FVec F S32x128 .f32) (b : Bufs F) : Same b (scaleP s v b) := by unfold scaleP; constructor <;> rfl
theorem same_merge (i : grid0.Coords) (st : FVec F S1x128 .f32 × FVec F S1x128 .f32) (b : Bufs F) : Same b (mergeP i st b) := by unfold mergeP; constructor <;> rfl

theorem same_st0 (s : Fin 4) (b : Bufs F) : Same b (st0 s b).2 := by unfold st0; exact same_upto (stripP s 0) (same_strip s 0) ((zero128, zero256), b) 8
theorem same_st1 (s : Fin 4) (b : Bufs F) : Same b (st1 s b).2 := by
  unfold st1; exact (same_st0 s b).trans (same_upto (stripP s 1) (same_strip s 1) (((st0 s b).1.1, zero256), (st0 s b).2) 8)
theorem same_st2 (s : Fin 4) (b : Bufs F) : Same b (st2 s b) := by
  unfold st2; exact (same_st1 s b).trans ((same_mask _ _ _ _).trans (same_mask _ _ _ _))
theorem same_st3 (s : Fin 4) (b : Bufs F) : Same b (st3 s b).2 := by
  unfold st3; exact (same_st2 s b).trans (same_upto (centreP (rowMean s b)) (same_centre _) (zero128, st2 s b) 32)
theorem same_st4 (s : Fin 4) (b : Bufs F) : Same b (st4 s b).2 := by
  unfold st4; exact (same_st3 s b).trans (same_upto (normalP (rowRstd s b)) (same_normal _) (zero128, (st3 s b).2) 32)
theorem same_st5 (s : Fin 4) (b : Bufs F) : Same b (st5 s b) := by
  unfold st5
  exact ((same_st4 s b).trans (same_scale s (st4 s b).1 (st4 s b).2)).trans
    (same_upto (codeP s (invV (st4 s b).1)) (same_code s _) (⟨⟩, scaleP s (st4 s b).1 (st4 s b).2) 32)
theorem same_rows (b : Bufs F) : Same b (rowsP b).2 := by
  unfold rowsP; exact same_upto subP (fun s q => same_st5 s q.2) ((zeroRow, zeroRow), b) 4
theorem same_work (i : grid0.Coords) (b : Bufs F) : Same b (workP i b) := by
  unfold workP; exact (same_rows b).trans (same_merge _ _ _)

theorem setW (b q : Bufs F) (z : S8x256x256.Idx → Elt F .bf16) (h : q = { b with w := q.w }) :
    ({ q with w := z } : Bufs F) = { b with w := ({ q with w := z } : Bufs F).w } := by rw [h]

theorem fill_keeps (b : Bufs F) (k : Fin 8) (q : PUnit.{1} × Bufs F) (h : q.2 = { b with w := q.2.w }) :
    (fillP k q).2 = { b with w := (fillP k q).2.w } := by
  unfold fillP; exact setW b q.2 _ h

theorem fills_eq (b : Bufs F) : fillsP b = { b with w := (fillsP b).w } := by
  unfold fillsP
  exact upto_inv fillP (fun q => q.2 = { b with w := q.2.w }) (fill_keeps b) rfl 8

/-! ## The body -/

/-- The buffers of the body at point `t`. -/
def args (t : Fin cfg0.N) : Args :=
  ⟨st0_0 t, st0_1 t, st0_2 t, st0_3 t, st0_4 t, st0_5 t, st0_6 t, st0_7 t, st0_8 t, st0_9 t, st0_10 t, st0_11 t, Memref.whole cc0_scratch0, Memref.whole cc0_scratch1, Memref.whole cc0_scratch2⟩

/-- The contents that the work starts on: at the first point the weights are filled first. -/
def start (t : Fin cfg0.N) (b : Bufs F) : Bufs F := if firstW (grid0.coords t) = 1#1 then fillsP b else b

theorem first_iff : ∀ t : Fin cfg0.N, firstW (grid0.coords t) = 1#1 ↔ t.val = 0 := by decide +kernel

variable (c : Dev nD) (𝒱 : Variants)

theorem body_runs (t : Fin cfg0.N) (b : Bufs F) :
    Runs (defs₀ (F := F)) 𝒱 (c : Thread nD τ) (held c (args t)) (bodyAt0 (F := F) t) b ⟨⟩ (workP (grid0.coords t) (start t b)) := by
  unfold bodyAt0 start
  by_cases h : firstW (grid0.coords t) = 1#1
  · rw [if_pos h, body_pos _ _ _ _ _ _ _ _ _ _ _ _ _ _ _ _ _ _ _ _ _ _ _ _ _ _ _ _ _ _ _ h]
    exact Runs.bind (T_fills (g := args t) _ b) (T_work (g := args t) (grid0.coords t) _ _ _ _)
  · rw [if_neg h, body_neg _ _ _ _ _ _ _ _ _ _ _ _ _ _ _ _ _ _ _ _ _ _ _ _ _ _ _ _ _ _ _ h]
    exact T_work (g := args t) (grid0.coords t) _ _ _ b

variable (m : (ℓ : Loc nD τ sig) → Buf (Elt F) ℓ)

/-- The contents that the work at point `t` starts on: the inputs' blocks, and the weights. -/
structure Good (t : Fin cfg0.N) (b : Bufs F) : Prop where
  x : b.x = iblk m c 0 t
  a : b.a = iblk m c 1 t
  rand : b.rand = iblk m c 2 t
  bias : b.bias = iblk m c 3 t
  gamma : b.gamma = iblk m c 4 t
  beta : b.beta = iblk m c 5 t
  w : ∃ b₀ : Bufs F, b.w = (fillsP b₀).w

/-- What the body may leave in each window's buffer at point `t`, of what it found there. -/
def leaves : (w : Fin 12) → Fin cfg0.N → (Y X : (spec0 w).block.Idx → Elt F (spec0 w).elt) → Prop
  | 0 => fun _ Y X => X = Y
  | 1 => fun _ Y X => X = Y
  | 2 => fun _ Y X => X = Y
  | 3 => fun _ Y X => X = Y
  | 4 => fun _ Y X => X = Y
  | 5 => fun _ Y X => X = Y
  | 6 => fun t _ X => ∃ b : Bufs F, Good c m t b ∧ X = (workP (grid0.coords t) b).codes
  | 7 => fun t _ X => ∃ b : Bufs F, Good c m t b ∧ X = (workP (grid0.coords t) b).scales
  | 8 => fun t _ X => ∃ b : Bufs F, Good c m t b ∧ X = (workP (grid0.coords t) b).mask
  | 9 => fun t Y X => ∃ b : Bufs F, Good c m t b ∧ b.mean = Y ∧ X = (workP (grid0.coords t) b).mean
  | 10 => fun t Y X => ∃ b : Bufs F, Good c m t b ∧ b.rstd = Y ∧ X = (workP (grid0.coords t) b).rstd
  | 11 => fun t _ X => ∃ b : Bufs F, Good c m t b ∧ X = (workP (grid0.coords t) b).h
  | ⟨_ + 12, h⟩ => absurd h (Nat.not_lt.2 (Nat.le_add_left _ _))

/-- Between points the core holds the scratch buffers; after the first point the last holds the weights. -/
def inv (t : Fin (cfg0.N + 1)) : sProp 𝕄 :=
  iprop(∃ hf y w, ⌜t.val ≠ 0 → ∃ b₀ : Bufs F, w = (fillsP b₀).w⌝
    ∗ ((c : Thread nD τ).loc cc0_scratch0 ↦{fullShare} hf) ∗ ((c : Thread nD τ).loc cc0_scratch1 ↦{fullShare} y)
    ∗ ((c : Thread nD τ).loc cc0_scratch2 ↦{fullShare} w) ∗ ∃ r, prngReg c r)

/-- The proof's data. -/
def rdat : RDat τ (Elt F) Unit ℕ (UR sig nD τ) ℕ cfg0 c where
  A w := V m c (Pipeline.arrRef spec0 w)
  after := leaves c m
  Φ := inv c
  q _ := fullShare
  owed _ := 0

theorem finds0 (t : Fin cfg0.N) (Y) (h : (rdat c m).Finds 0 t Y) : Y = iblk m c 0 t := by
  obtain ⟨d, rfl⟩ := (rdat c m).finds_in_eq_fetched 0 rfl (fun _ _ _ => rfl) (fun _ _ _ h => h) t Y h
  rfl

theorem finds1 (t : Fin cfg0.N) (Y) (h : (rdat c m).Finds 1 t Y) : Y = iblk m c 1 t := by
  obtain ⟨d, rfl⟩ := (rdat c m).finds_in_eq_fetched 1 rfl (fun _ _ _ => rfl) (fun _ _ _ h => h) t Y h
  rfl

theorem finds2 (t : Fin cfg0.N) (Y) (h : (rdat c m).Finds 2 t Y) : Y = iblk m c 2 t := by
  obtain ⟨d, rfl⟩ := (rdat c m).finds_in_eq_fetched 2 rfl (fun _ _ _ => rfl) (fun _ _ _ h => h) t Y h
  rfl

theorem finds3 (t : Fin cfg0.N) (Y) (h : (rdat c m).Finds 3 t Y) : Y = iblk m c 3 t := by
  obtain ⟨d, rfl⟩ := (rdat c m).finds_in_eq_fetched 3 rfl (fun _ _ _ => rfl) (fun _ _ _ h => h) t Y h
  rfl

theorem finds4 (t : Fin cfg0.N) (Y) (h : (rdat c m).Finds 4 t Y) : Y = iblk m c 4 t := by
  obtain ⟨d, rfl⟩ := (rdat c m).finds_in_eq_fetched 4 rfl (fun _ _ _ => rfl) (fun _ _ _ h => h) t Y h
  rfl

theorem finds5 (t : Fin cfg0.N) (Y) (h : (rdat c m).Finds 5 t Y) : Y = iblk m c 5 t := by
  obtain ⟨d, rfl⟩ := (rdat c m).finds_in_eq_fetched 5 rfl (fun _ _ _ => rfl) (fun _ _ _ h => h) t Y h
  rfl

theorem body_ok : (rdat c m).BodyObligation defs₀ 𝒱 () Set.univ := fun t Y hY => by
  show _ ⊢ wp frame (wpE (defs₀ (F := F)) 𝒱 (c : Thread nD τ) none) Set.univ (bodyAt0 (F := F) t) _
  have e : (rdat c m).owesAt () t.succ = (rdat c m).owesAt () t.castSucc := rfl
  rw [e]
  refine BIBase.Entails.trans (Q := iprop(∃ b : Bufs F, ⌜Good c m t (start t b) ∧ (start t b).mean = Y 9 ∧ (start t b).rstd = Y 10⌝ ∗ held c (args t) b
    ∗ (rdat c m).owesAt () t.castSucc ∗ ∃ r, prngReg c r)) ?_ ?_
  · rw [show (bigSep Finset.univ fun w : Fin cfg0.W => owns (c : Thread nD τ) ((cfg0.win w).stage (cfg0.slots t w)) fullShare (Y w) : sProp 𝕄) = _ from bigSep_W0 _]
    show iprop(inv c t.castSucc ∗ _) ⊢ _
    unfold inv
    iintro ⟨⟨%hf, %y, %w, %hw, S0, S1, S2, P⟩, Ho, H0, H1, H2, H3, H4, H5, H6, H7, H8, H9, H10, H11⟩
    iexists (⟨Y 0, Y 1, Y 2, Y 3, Y 4, Y 5, Y 6, Y 7, Y 8, Y 9, Y 10, Y 11, hf, y, w⟩ : Bufs F)
    isplitr
    · ipureintro
      unfold start
      by_cases h : firstW (grid0.coords t) = 1#1
      · rw [if_pos h, fills_eq]
        exact ⟨⟨finds0 c m t _ (hY 0), finds1 c m t _ (hY 1), finds2 c m t _ (hY 2), finds3 c m t _ (hY 3), finds4 c m t _ (hY 4), finds5 c m t _ (hY 5), ⟨_, rfl⟩⟩, rfl, rfl⟩
      · rw [if_neg h]
        exact ⟨⟨finds0 c m t _ (hY 0), finds1 c m t _ (hY 1), finds2 c m t _ (hY 2), finds3 c m t _ (hY 3), finds4 c m t _ (hY 4), finds5 c m t _ (hY 5),
          hw (fun ht => h ((first_iff t).mpr ht))⟩, rfl, rfl⟩
    isplitr [Ho P]
    · unfold held args
      rw [show (owns (c : Thread nD τ) (Memref.whole cc0_scratch0) fullShare hf : sProp 𝕄) = _ from owns_whole _ _ _ _,
        show (owns (c : Thread nD τ) (Memref.whole cc0_scratch1) fullShare y : sProp 𝕄) = _ from owns_whole _ _ _ _,
        show (owns (c : Thread nD τ) (Memref.whole cc0_scratch2) fullShare w : sProp 𝕄) = _ from owns_whole _ _ _ _]
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [S0]; · iexact S0
      isplitl [S1]; · iexact S1
      iexact S2
    isplitl [Ho]; · iexact Ho
    iexact P
  · iintro ⟨%b, %hb, H, R⟩
    obtain ⟨hb, h9, h10⟩ := hb
    have hs := same_work (grid0.coords t) (start t b)
    have hr := body_runs c 𝒱 t b (fun _ => held c (args t) (workP (grid0.coords t) (start t b))) .rfl
    refine BIBase.Entails.trans (sep_mono_left hr) ((wp_frame_r _ _ _).trans (wp_mono _ _ _ fun _ => ?_))
    rw [show (bigSep Finset.univ fun w : Fin cfg0.W => iprop(∃ X, ⌜(rdat c m).after w t (Y w) X⌝ ∗ owns (c : Thread nD τ) ((cfg0.win w).stage (cfg0.slots t w)) fullShare X) : sProp 𝕄) = _ from bigSep_W0 _]
    show _ ⊢ iprop(inv c t.succ ∗ _)
    have a6 : leaves c m 6 t (Y 6) (workP (grid0.coords t) (start t b)).codes := ⟨_, hb, rfl⟩
    have a7 : leaves c m 7 t (Y 7) (workP (grid0.coords t) (start t b)).scales := ⟨_, hb, rfl⟩
    have a8 : leaves c m 8 t (Y 8) (workP (grid0.coords t) (start t b)).mask := ⟨_, hb, rfl⟩
    have a9 : leaves c m 9 t (Y 9) (workP (grid0.coords t) (start t b)).mean := ⟨_, hb, h9, rfl⟩
    have a10 : leaves c m 10 t (Y 10) (workP (grid0.coords t) (start t b)).rstd := ⟨_, hb, h10, rfl⟩
    have a11 : leaves c m 11 t (Y 11) (workP (grid0.coords t) (start t b)).h := ⟨_, hb, rfl⟩
    have a0 : leaves c m 0 t (Y 0) (workP (grid0.coords t) (start t b)).x := hs.x.trans (hb.x.trans (finds0 c m t _ (hY 0)).symm)
    have a1 : leaves c m 1 t (Y 1) (workP (grid0.coords t) (start t b)).a := hs.a.trans (hb.a.trans (finds1 c m t _ (hY 1)).symm)
    have a2 : leaves c m 2 t (Y 2) (workP (grid0.coords t) (start t b)).rand := hs.rand.trans (hb.rand.trans (finds2 c m t _ (hY 2)).symm)
    have a3 : leaves c m 3 t (Y 3) (workP (grid0.coords t) (start t b)).bias := hs.bias.trans (hb.bias.trans (finds3 c m t _ (hY 3)).symm)
    have a4 : leaves c m 4 t (Y 4) (workP (grid0.coords t) (start t b)).gamma := hs.gamma.trans (hb.gamma.trans (finds4 c m t _ (hY 4)).symm)
    have a5 : leaves c m 5 t (Y 5) (workP (grid0.coords t) (start t b)).beta := hs.beta.trans (hb.beta.trans (finds5 c m t _ (hY 5)).symm)
    have aw : ∃ b₀ : Bufs F, (workP (grid0.coords t) (start t b)).w = (fillsP b₀).w := by rw [hs.w]; exact hb.w
    generalize workP (grid0.coords t) (start t b) = b' at *
    unfold held args inv
    dsimp only
    rw [show (owns (c : Thread nD τ) (Memref.whole cc0_scratch0) fullShare b'.hf : sProp 𝕄) = _ from owns_whole _ _ _ _,
      show (owns (c : Thread nD τ) (Memref.whole cc0_scratch1) fullShare b'.y : sProp 𝕄) = _ from owns_whole _ _ _ _,
      show (owns (c : Thread nD τ) (Memref.whole cc0_scratch2) fullShare b'.w : sProp 𝕄) = _ from owns_whole _ _ _ _]
    iintro ⟨⟨H0, H1, H2, H3, H4, H5, H6, H7, H8, H9, H10, H11, S0, S1, S2⟩, Ho, P⟩
    isplitl [S0 S1 S2 P]
    · iexists b'.hf; iexists b'.y; iexists b'.w
      isplitr; · ipureintro; exact fun _ => aw
      isplitl [S0]; · iexact S0
      isplitl [S1]; · iexact S1
      isplitl [S2]; · iexact S2
      iexact P
    isplitl [Ho]; · iexact Ho
    isplitl [H0]
    · iexists b'.x; isplitr; · ipureintro; exact a0
      iexact H0
    isplitl [H1]
    · iexists b'.a; isplitr; · ipureintro; exact a1
      iexact H1
    isplitl [H2]
    · iexists b'.rand; isplitr; · ipureintro; exact a2
      iexact H2
    isplitl [H3]
    · iexists b'.bias; isplitr; · ipureintro; exact a3
      iexact H3
    isplitl [H4]
    · iexists b'.gamma; isplitr; · ipureintro; exact a4
      iexact H4
    isplitl [H5]
    · iexists b'.beta; isplitr; · ipureintro; exact a5
      iexact H5
    isplitl [H6]
    · iexists b'.codes; isplitr; · ipureintro; exact a6
      iexact H6
    isplitl [H7]
    · iexists b'.scales; isplitr; · ipureintro; exact a7
      iexact H7
    isplitl [H8]
    · iexists b'.mask; isplitr; · ipureintro; exact a8
      iexact H8
    isplitl [H9]
    · iexists b'.mean; isplitr; · ipureintro; exact a9
      iexact H9
    isplitl [H10]
    · iexists b'.rstd; isplitr; · ipureintro; exact a10
      iexact H10
    · iexists b'.h; isplitr; · ipureintro; exact a11
      iexact H11

/-- The run: what the arrays hold at the end is what the body may leave, and every semaphore reads zero. -/
theorem run (ρ : Dev nD → PrngReg) : θ_run defs (onTc (τ := τ) (main (F := F))) (s₀ m ρ)
    (fun r => RDat.FramePost cfg0 (fun c => rdat c m) (V m) r ∧ r.2.sem = fun _ => 0) := by
  refine RDat.θ_run_frame_track (τ := τ) cfgs 0 launch0 defs₀ Variants.none (fun c => rdat c m) m ρ main (fun c => body_ok c _ m)
    (fun c w => by unfold RDat.share; split <;> rfl) (fun _ _ => rfl) (V m) (hmain m _) (fun _ _ => rfl) (fun c => ?_) (fun c => ?_) _ (fun _ h => h)
  · show _ ⊢ inv c 0
    unfold Pipeline.ΦA inv
    rw [scopedRest0_eq]
    iintro ⟨⟨⟨%f0, S0⟩, ⟨%f1, S1⟩, ⟨%f2, S2⟩⟩, P⟩
    iexists f0; iexists f1; iexists f2
    isplitr; · ipureintro; exact fun h => absurd rfl h
    isplitl [S0]; · iexact S0
    isplitl [S1]; · iexact S1
    isplitl [S2]; · iexact S2
    iexact P
  · show inv c (Fin.last _) ⊢ _
    unfold Pipeline.ΦA inv
    rw [scopedRest0_eq]
    iintro ⟨%f0, %f1, %f2, -, S0, S1, S2, P⟩
    isplitr [P]
    · isplitl [S0]; · iexists f0; iexact S0
      isplitl [S1]; · iexists f1; iexact S1
      iexists f2; iexact S2
    iexact P

/-- The program terminates without fault, its arguments end unchanged and every semaphore reads zero. -/
theorem quiet (ρ : Dev nD → PrngReg) : θ_run defs (onTc (τ := τ) (main (F := F))) ⟨m, fun _ => 0, ρ⟩ (fun r =>
    (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5)) ∧ r.2.sem = fun _ => 0) :=
  (θ_run defs _ _).mono (fun r h => ⟨fun c => ⟨((h.1 c).2 main_arg0 (Pipeline.mem_restRefs_of main_arg0 (by decide) (by decide))).trans (V_main_arg0 m c), ((h.1 c).2 main_arg1 (Pipeline.mem_restRefs_of main_arg1 (by decide) (by decide))).trans (V_main_arg1 m c), ((h.1 c).2 main_arg2 (Pipeline.mem_restRefs_of main_arg2 (by decide) (by decide))).trans (V_main_arg2 m c), ((h.1 c).2 main_arg3 (Pipeline.mem_restRefs_of main_arg3 (by decide) (by decide))).trans (V_main_arg3 m c), ((h.1 c).2 main_arg4 (Pipeline.mem_restRefs_of main_arg4 (by decide) (by decide))).trans (V_main_arg4 m c), ((h.1 c).2 main_arg5 (Pipeline.mem_restRefs_of main_arg5 (by decide) (by decide))).trans (V_main_arg5 m c)⟩, h.2⟩) (run m ρ)

end Cert.Kernel.Loop

end
-- ==== Proof.KernelIdeal.Loop.lean ====
/- The body of the kernel as loops: the same operations on the same values in the same order as the
   printed straight line, written once per strip of 256 columns and once per block of 128. -/
module

public import proofs.«01_k».proof.Proof.Gen.KernelIdeal

@[expose] public section

noncomputable section

namespace Cert.KernelIdeal.Loop

open Idealize.ShloMosaic Idealize.SL.Sem Cert.KernelIdeal.Gen

variable {F : FTy → Type} [FloatOps F]

/-! ## Pure values -/

/-- The weights of strip `c` of a mask tile: lane `n = 32·c + j / 8` of row `j` holds `2 ^ (j % 8)`; `k` is `32·c`. -/
def packW (k : BitVec 32) : FVec F S256x256 .bf16 :=
  have v1 : IVec S256x256 32 := iota .tc S256x256 32 [0] iota_S256x256_d0_w32
  have v2 : IVec S256x256 32 := iota .tc S256x256 32 [1] iota_S256x256_d1_w32
  have v3 : IVec S256x256 32 := broadcast S256x256 8#32
  have v4 : IVec S256x256 32 := divsi v1 v3
  have v5 : IVec S256x256 32 := broadcast S256x256 0#32
  have v6 : IVec S256x256 1 := cmpi .sgt v1 v5
  have v7 : IVec S256x256 32 := extui 32 v6 natLt_1_32
  have v8 : IVec S256x256 32 := broadcast S256x256 0#32
  have v9 : IVec S256x256 1 := cmpi .slt v1 v8
  have v10 : IVec S256x256 32 := extui 32 v9 natLt_1_32
  have v11 : IVec S256x256 32 := subi v7 v10
  let v12 : BitVec 1 := Scalar.cmpi .sgt 8#32 0#32
  let v13 : BitVec 32 := Scalar.extui v12
  let v14 : BitVec 1 := Scalar.cmpi .slt 8#32 0#32
  let v15 : BitVec 32 := Scalar.extui v14
  let v16 : BitVec 32 := Scalar.subi v13 v15
  have v17 : IVec S256x256 32 := broadcast S256x256 v16
  have v18 : IVec S256x256 1 := cmpi .ne v11 v17
  have v19 : IVec S256x256 32 := broadcast S256x256 8#32
  have v20 : IVec S256x256 32 := remsi v1 v19
  have v21 : IVec S256x256 32 := broadcast S256x256 0#32
  have v22 : IVec S256x256 1 := cmpi .ne v20 v21
  have v23 : IVec S256x256 1 := andi v18 v22
  have v24 : IVec S256x256 32 := broadcast S256x256 1#32
  have v25 : IVec S256x256 32 := subi v4 v24
  have v26 : IVec S256x256 32 := select v23 v25 v4
  have v27 : IVec S256x256 32 := broadcast S256x256 k
  have v28 : IVec S256x256 32 := addi v27 v26
  let v29 : BitVec 1 := Scalar.cmpi .eq 8#32 0#32
  let v30 : BitVec 32 := Scalar.select v29 1#32 8#32
  have v31 : IVec S256x256 32 := broadcast S256x256 v30
  have v32 : IVec S256x256 32 := remsi v1 v31
  have v33 : IVec S256x256 32 := broadcast S256x256 0#32
  have v34 : IVec S256x256 1 := cmpi .ne v32 v33
  have v35 : IVec S256x256 32 := broadcast S256x256 0#32
  have v36 : IVec S256x256 1 := cmpi .slt v32 v35
  let v37 : BitVec 1 := Scalar.cmpi .slt v30 0#32
  have v38 : IVec S256x256 1 := broadcast S256x256 v37
  have v39 : IVec S256x256 1 := broadcastTo S256x256 v38 broadcasts_S256x256_S256x256
  have v40 : IVec S256x256 1 := xori v36 v39
  have v41 : IVec S256x256 1 := andi v40 v34
  have v42 : IVec S256x256 32 := broadcast S256x256 v30
  have v43 : IVec S256x256 32 := addi v32 v42
  have v44 : IVec S256x256 32 := select v41 v43 v32
  have v45 : IVec S256x256 32 := broadcast S256x256 1#32
  have v46 : IVec S256x256 32 := shli v45 v44
  have v47 : IVec S256x256 1 := cmpi .eq v2 v28
  have v48 : IVec S256x256 32 := broadcast S256x256 0#32
  have v49 : IVec S256x256 32 := select v47 v46 v48
  have v50 : FVec F S256x256 .f32 := sitofp .f32 v49
  have v51 : FVec F S256x256 .bf16 := truncf .bf16 v50 bitsLt_bf16_f32
  v51

/-- Which elements are kept. -/
def keepV (r : Vec F S32x256 .i32) : IVec S32x256 1 :=
  cmpi .uge (shapeCast S32x256 r shapeCasts_S32x256_S32x256 : IVec S32x256 32) (broadcast S32x256 429496730#32)

/-- The residual sum of a strip, rounded to bf16. -/
def hV (r : Vec F S32x256 .i32) (a : Vec F S32x256 .bf16) (bias : Vec F S1x256 .f32) (x : Vec F S32x256 .bf16) : FVec F S32x256 .bf16 :=
  truncf .bf16 (addf (extf .f32 (shapeCast S32x256 x shapeCasts_S32x256_S32x256 : FVec F S32x256 .bf16) bitsLt_bf16_f32)
    (select (keepV r)
      (mulf (addf (extf .f32 (shapeCast S32x256 a shapeCasts_S32x256_S32x256 : FVec F S32x256 .bf16) bitsLt_bf16_f32)
          (broadcastTo S32x256 (shapeCast S1x256 bias shapeCasts_S1x256_S1x256 : FVec F S1x256 .f32) broadcasts_S1x256_S32x256))
        (broadcast S32x256 (Scalar.ofBits .f32 0x3F8E38E4#32)))
      (broadcast S32x256 (Scalar.ofBits .f32 0x00000000#32)))) bitsLt_bf16_f32

/-- The running sum per lane after a strip. -/
def totalV (tot : FVec F S32x128 .f32) (h : FVec F S32x256 .f32) : FVec F S32x128 .f32 :=
  addf (addf tot (extractStridedSlice S32x128 ![0, 0] h slices_S32x256_o0_0_S32x128))
    (extractStridedSlice S32x128 ![0, 128] h slices_S32x256_o0_128_S32x128)

/-- The packed mask bytes after a strip, as f32. -/
def packV (p : FVec F S32x256 .f32) (k : IVec S32x256 1) (w : Vec F S1x256x256 .bf16) : FVec F S32x256 .f32 :=
  addf p (matmul dot_S32x256_S256x256_S32x256_1_0_0_1_n_n none
    (truncf .bf16 (select k (broadcast S32x256 (Scalar.ofBits .f32 0x3F800000#32 : F .f32)) (broadcast S32x256 (Scalar.ofBits .f32 0x00000000#32))) bitsLt_bf16_f32)
    (shapeCast S256x256 w shapeCasts_S1x256x256_S256x256 : FVec F S256x256 .bf16) (constant S32x256 .f32 0x00000000#32))

/-- The bytes of a mask tile. -/
def byteV (p : FVec F S32x256 .f32) : IVec S32x256 8 := trunci 8 (fptosi 32 p) natLt_8_32

/-- The mean over the 4096 columns, of the sums per lane. -/
def meanV (tot : FVec F S32x128 .f32) : FVec F S32x1 .f32 :=
  mulf (shapeCast S32x1 (multiReduction .add [1] S32 tot 0x00000000#32 reduces_S32x128_S32 (.inl rfl) rfl : FVec F S32 .f32) shapeCasts_S32_S32x1)
    (broadcast S32x1 (Scalar.ofBits .f32 0x39800000#32))

def centreV (mean : FVec F S32x1 .f32) (h : Vec F S32x128 .f32) : FVec F S32x128 .f32 :=
  subf h (broadcastTo S32x128 mean broadcasts_S32x1_S32x128)

def rstdV (sq : FVec F S32x128 .f32) : FVec F S32x1 .f32 :=
  rsqrt (addf (meanV sq) (broadcast S32x1 (Scalar.ofBits .f32 0x3727C5AC#32)))

def hereV (k : BitVec 32) : IVec S32x128 1 :=
  cmpi .eq (iota .tc S32x128 32 [1] iota_S32x128_d1_w32)
    (addi (iota .tc S32x128 32 [0] iota_S32x128_d0_w32) (broadcast S32x128 k))

/-- A column of 32 values laid along the lanes `k + i`, added to the row. -/
def rowV (k : BitVec 32) (row : FVec F S1x128 .f32) (v : FVec F S32x1 .f32) : FVec F S1x128 .f32 :=
  addf row (shapeCast S1x128 (multiReduction .add [0] S128
    (select (hereV k) (broadcastTo S32x128 (shapeCast S32x1 v shapeCasts_S32x1_S32x1 : FVec F S32x1 .f32) broadcasts_S32x1_S32x128)
      (broadcast S32x128 (Scalar.ofBits .f32 0x00000000#32 : F .f32))) 0x00000000#32 reduces_S32x128_S128 (.inl rfl) rfl : FVec F S128 .f32) shapeCasts_S128_S1x128)

def yV (rstd : FVec F S32x1 .f32) (h : Vec F S32x128 .f32) (g b : Vec F S1x128 .f32) : FVec F S32x128 .f32 :=
  addf (mulf (mulf h (broadcastTo S32x128 rstd broadcasts_S32x1_S32x128))
      (broadcastTo S32x128 (shapeCast S1x128 g shapeCasts_S1x128_S1x128 : FVec F S1x128 .f32) broadcasts_S1x128_S32x128))
    (broadcastTo S32x128 (shapeCast S1x128 b shapeCasts_S1x128_S1x128 : FVec F S1x128 .f32) broadcasts_S1x128_S32x128)

/-- The largest magnitude of block `k`, put in lane `k`. -/
def amaxV (k : BitVec 32) (amax : FVec F S32x128 .f32) (y : FVec F S32x128 .f32) : FVec F S32x128 .f32 :=
  select (cmpi .eq (iota .tc S32x128 32 [1] iota_S32x128_d1_w32 : IVec S32x128 32) (broadcast S32x128 k))
    (broadcastTo S32x128 (shapeCast S32x1 (shapeCast S32x1
      (multiReduction .maximumf [1] S32 (absf y) 0xFF800000#32 reduces_S32x128_S32 (.inl rfl) rfl : FVec F S32 .f32) shapeCasts_S32_S32x1 : FVec F S32x1 .f32) shapeCasts_S32x1_S32x1 : FVec F S32x1 .f32) broadcasts_S32x1_S32x128)
    amax

/-- The exponent field of `v`, by comparisons and products by powers of two. -/
def fieldV (v : FVec F S32x128 .f32) : IVec S32x128 32 :=
  have v1 : FVec F S32x128 .f32 := broadcast S32x128 (Scalar.ofBits .f32 0x7B000000#32 : F .f32)
  have v2 : FVec F S32x128 .f32 := minimumf v v1
  have v3 : FVec F S32x128 .f32 := broadcast S32x128 (Scalar.ofBits .f32 0x3F800000#32 : F .f32)
  have v4 : IVec S32x128 1 := cmpf .olt v2 v3
  have v5 : FVec F S32x128 .f32 := broadcast S32x128 (Scalar.ofBits .f32 0x7E800000#32 : F .f32)
  have v6 : FVec F S32x128 .f32 := mulf v2 v5
  have v7 : FVec F S32x128 .f32 := select v4 v6 v2
  have v8 : IVec S32x128 32 := broadcast S32x128 1#32
  have v9 : IVec S32x128 32 := broadcast S32x128 127#32
  have v10 : IVec S32x128 32 := select v4 v8 v9
  have v11 : FVec F S32x128 .f32 := broadcast S32x128 (Scalar.ofBits .f32 0x5F800000#32 : F .f32)
  have v12 : IVec S32x128 1 := cmpf .oge v7 v11
  have v13 : FVec F S32x128 .f32 := broadcast S32x128 (Scalar.ofBits .f32 0x1F800000#32 : F .f32)
  have v14 : FVec F S32x128 .f32 := mulf v7 v13
  have v15 : FVec F S32x128 .f32 := select v12 v14 v7
  have v16 : IVec S32x128 32 := broadcast S32x128 64#32
  have v17 : IVec S32x128 32 := addi v10 v16
  have v18 : IVec S32x128 32 := select v12 v17 v10
  have v19 : FVec F S32x128 .f32 := broadcast S32x128 (Scalar.ofBits .f32 0x4F800000#32 : F .f32)
  have v20 : IVec S32x128 1 := cmpf .oge v15 v19
  have v21 : FVec F S32x128 .f32 := broadcast S32x128 (Scalar.ofBits .f32 0x2F800000#32 : F .f32)
  have v22 : FVec F S32x128 .f32 := mulf v15 v21
  have v23 : FVec F S32x128 .f32 := select v20 v22 v15
  have v24 : IVec S32x128 32 := broadcast S32x128 32#32
  have v25 : IVec S32x128 32 := addi v18 v24
  have v26 : IVec S32x128 32 := select v20 v25 v18
  have v27 : FVec F S32x128 .f32 := broadcast S32x128 (Scalar.ofBits .f32 0x47800000#32 : F .f32)
  have v28 : IVec S32x128 1 := cmpf .oge v23 v27
  have v29 : FVec F S32x128 .f32 := broadcast S32x128 (Scalar.ofBits .f32 0x37800000#32 : F .f32)
  have v30 : FVec F S32x128 .f32 := mulf v23 v29
  have v31 : FVec F S32x128 .f32 := select v28 v30 v23
  have v32 : IVec S32x128 32 := broadcast S32x128 16#32
  have v33 : IVec S32x128 32 := addi v26 v32
  have v34 : IVec S32x128 32 := select v28 v33 v26
  have v35 : FVec F S32x128 .f32 := broadcast S32x128 (Scalar.ofBits .f32 0x43800000#32 : F .f32)
  have v36 : IVec S32x128 1 := cmpf .oge v31 v35
  have v37 : FVec F S32x128 .f32 := broadcast S32x128 (Scalar.ofBits .f32 0x3B800000#32 : F .f32)
  have v38 : FVec F S32x128 .f32 := mulf v31 v37
  have v39 : FVec F S32x128 .f32 := select v36 v38 v31
  have v40 : IVec S32x128 32 := broadcast S32x128 8#32
  have v41 : IVec S32x128 32 := addi v34 v40
  have v42 : IVec S32x128 32 := select v36 v41 v34
  have v43 : FVec F S32x128 .f32 := broadcast S32x128 (Scalar.ofBits .f32 0x41800000#32 : F .f32)
  have v44 : IVec S32x128 1 := cmpf .oge v39 v43
  have v45 : FVec F S32x128 .f32 := broadcast S32x128 (Scalar.ofBits .f32 0x3D800000#32 : F .f32)
  have v46 : FVec F S32x128 .f32 := mulf v39 v45
  have v47 : FVec F S32x128 .f32 := select v44 v46 v39
  have v48 : IVec S32x128 32 := broadcast S32x128 4#32
  have v49 : IVec S32x128 32 := addi v42 v48
  have v50 : IVec S32x128 32 := select v44 v49 v42
  have v51 : FVec F S32x128 .f32 := broadcast S32x128 (Scalar.ofBits .f32 0x40800000#32 : F .f32)
  have v52 : IVec S32x128 1 := cmpf .oge v47 v51
  have v53 : FVec F S32x128 .f32 := broadcast S32x128 (Scalar.ofBits .f32 0x3E800000#32 : F .f32)
  have v54 : FVec F S32x128 .f32 := mulf v47 v53
  have v55 : FVec F S32x128 .f32 := select v52 v54 v47
  have v56 : IVec S32x128 32 := broadcast S32x128 2#32
  have v57 : IVec S32x128 32 := addi v50 v56
  have v58 : IVec S32x128 32 := select v52 v57 v50
  have v59 : FVec F S32x128 .f32 := broadcast S32x128 (Scalar.ofBits .f32 0x40000000#32 : F .f32)
  have v60 : IVec S32x128 1 := cmpf .oge v55 v59
  have v61 : IVec S32x128 32 := broadcast S32x128 1#32
  have v62 : IVec S32x128 32 := addi v58 v61
  have v63 : IVec S32x128 32 := select v60 v62 v58
  have v64 : FVec F S32x128 .f32 := broadcast S32x128 (Scalar.ofBits .f32 0x00800000#32 : F .f32)
  have v65 : IVec S32x128 1 := cmpf .olt v2 v64
  have v66 : IVec S32x128 32 := broadcast S32x128 0#32
  have v67 : IVec S32x128 32 := select v65 v66 v63
  v67

/-- The exponent `e` of each block, from the largest magnitudes. -/
def expV (amax : FVec F S32x128 .f32) : IVec S32x128 32 :=
  select (cmpi .eq (fieldV (mulf amax (broadcast S32x128 (Scalar.ofBits .f32 0x3B124925#32)))) (broadcast S32x128 0#32))
    (broadcast S32x128 0#32) (subi (fieldV (mulf amax (broadcast S32x128 (Scalar.ofBits .f32 0x3B124925#32)))) (broadcast S32x128 126#32))

/-- `2 ^ e`. -/
def scaleV (amax : FVec F S32x128 .f32) : FVec F S32x32 .f32 :=
  extractStridedSlice S32x32 ![0, 0] (bitcastToFloat .f32 (shli (addi (broadcast S32x128 127#32) (expV amax)) (broadcast S32x128 23#32)) : FVec F S32x128 .f32) slices_S32x128_o0_0_S32x32

/-- `2 ^ -e`. -/
def invV (amax : FVec F S32x128 .f32) : FVec F S32x128 .f32 :=
  bitcastToFloat .f32 (shli (subi (broadcast S32x128 127#32) (expV amax)) (broadcast S32x128 23#32))

theorem slices_col (b : Fin 32) : S32x128.Slices ![0, b.val] S32x1 := by revert b; decide

def codeV (b : Fin 32) (inv : FVec F S32x128 .f32) (y : Vec F S32x128 .f32) : FVec F S32x128 .fp8e4m3 :=
  truncf .fp8e4m3 (minimumf (broadcast S32x128 (Scalar.ofBits .f32 0x43E00000#32))
    (maximumf (broadcast S32x128 (Scalar.ofBits .f32 0xC3E00000#32))
      (mulf y (broadcastTo S32x128 (extractStridedSlice S32x1 ![0, b.val] inv (slices_col b) : FVec F S32x1 .f32) broadcasts_S32x1_S32x128)))) bitsLt_fp8e4m3_f32

/-- The batch a point's rows are of. -/
def batchW (i : grid0.Coords) : BitVec 32 :=
  let v1 : BitVec 32 := Scalar.divsi (BitVec.ofNat 32 (i 0).val) 8#32
  let v2 : BitVec 1 := Scalar.cmpi .sgt (BitVec.ofNat 32 (i 0).val) 0#32
  let v3 : BitVec 32 := Scalar.extui v2
  let v4 : BitVec 1 := Scalar.cmpi .slt (BitVec.ofNat 32 (i 0).val) 0#32
  let v5 : BitVec 32 := Scalar.extui v4
  let v6 : BitVec 32 := Scalar.subi v3 v5
  let v7 : BitVec 1 := Scalar.cmpi .sgt 8#32 0#32
  let v8 : BitVec 32 := Scalar.extui v7
  let v9 : BitVec 1 := Scalar.cmpi .slt 8#32 0#32
  let v10 : BitVec 32 := Scalar.extui v9
  let v11 : BitVec 32 := Scalar.subi v8 v10
  let v12 : BitVec 1 := Scalar.cmpi .ne v6 v11
  let v13 : BitVec 32 := Scalar.remsi (BitVec.ofNat 32 (i 0).val) 8#32
  let v14 : BitVec 1 := Scalar.cmpi .ne v13 0#32
  let v15 : BitVec 1 := Scalar.andi v12 v14
  let v16 : BitVec 32 := Scalar.subi v1 1#32
  let v17 : BitVec 32 := Scalar.select v15 v16 v1
  v17

/-- The row of values stored over the batch's row, the other row kept. -/
def mergeV (i : grid0.Coords) (row : FVec F S1x128 .f32) (old : Vec F S2x128 .f32) : FVec F S2x128 .f32 :=
  select (cmpi .eq (iota .tc S2x128 32 [0] iota_S2x128_d0_w32 : IVec S2x128 32) (broadcast S2x128 (batchW i)))
    (broadcastTo S2x128 (shapeCast S1x128 row shapeCasts_S1x128_S1x128 : FVec F S1x128 .f32) broadcasts_S1x128_S2x128)
    (shapeCast S2x128 old shapeCasts_S2x128_S2x128)

/-- The test of the first point. -/
abbrev firstW (i : grid0.Coords) : BitVec 1 :=
  Scalar.cmpi .ne (Scalar.extui (Scalar.cmpi .eq (BitVec.ofNat 32 (i 0).val) 0#32) : BitVec 32) 0#32

/-! ## Where a strip, a block and a tile lie -/

theorem inb_strip (s : Fin 4) (t : Fin 2) (c : Fin 8) : ∀ a, (![32 * s.val, 256 * (8 * t.val + c.val)] : Fin 2 → Nat) a + S32x256.size a ≤ S128x4096.size a := by
  revert s t c; decide +kernel
theorem inb_strip1 (t : Fin 2) (c : Fin 8) : ∀ a, (![0, 256 * (8 * t.val + c.val)] : Fin 2 → Nat) a + S1x256.size a ≤ S1x4096.size a := by
  revert t c; decide +kernel
theorem inb_strip32 (t : Fin 2) (c : Fin 8) : ∀ a, (![0, 256 * (8 * t.val + c.val)] : Fin 2 → Nat) a + S32x256.size a ≤ S32x4096.size a := by
  revert t c; decide +kernel
theorem inb_w (c : Fin 8) : ∀ a, (![c.val, 0, 0] : Fin 3 → Nat) a + S1x256x256.size a ≤ S8x256x256.size a := by
  revert c; decide +kernel
theorem inb_tile (s : Fin 4) (t : Fin 2) : ∀ a, (![32 * s.val, 256 * t.val] : Fin 2 → Nat) a + S32x256.size a ≤ S128x512.size a := by
  revert s t; decide +kernel
theorem inb_block32 (b : Fin 32) : ∀ a, (![0, 128 * b.val] : Fin 2 → Nat) a + S32x128.size a ≤ S32x4096.size a := by
  revert b; decide +kernel
theorem inb_block1 (b : Fin 32) : ∀ a, (![0, 128 * b.val] : Fin 2 → Nat) a + S1x128.size a ≤ S1x4096.size a := by
  revert b; decide +kernel
theorem inb_block (s : Fin 4) (b : Fin 32) : ∀ a, (![32 * s.val, 128 * b.val] : Fin 2 → Nat) a + S32x128.size a ≤ S128x4096.size a := by
  revert s b; decide +kernel
theorem inb_scale (s : Fin 4) : ∀ a, (![32 * s.val, 0] : Fin 2 → Nat) a + S32x32.size a ≤ S128x32.size a := by
  revert s; decide +kernel

abbrev rStrip (s : Fin 4) (t : Fin 2) (c : Fin 8) : Rect S128x4096 := Rect.unit (s := S128x4096) ![32 * s.val, 256 * (8 * t.val + c.val)] S32x256.size (inb_strip s t c)
abbrev rStrip1 (t : Fin 2) (c : Fin 8) : Rect S1x4096 := Rect.unit (s := S1x4096) ![0, 256 * (8 * t.val + c.val)] S1x256.size (inb_strip1 t c)
abbrev rStrip32 (t : Fin 2) (c : Fin 8) : Rect S32x4096 := Rect.unit (s := S32x4096) ![0, 256 * (8 * t.val + c.val)] S32x256.size (inb_strip32 t c)
abbrev rW (c : Fin 8) : Rect S8x256x256 := Rect.unit (s := S8x256x256) ![c.val, 0, 0] S1x256x256.size (inb_w c)
abbrev rTile (s : Fin 4) (t : Fin 2) : Rect S128x512 := Rect.unit (s := S128x512) ![32 * s.val, 256 * t.val] S32x256.size (inb_tile s t)
abbrev rBlock32 (b : Fin 32) : Rect S32x4096 := Rect.unit (s := S32x4096) ![0, 128 * b.val] S32x128.size (inb_block32 b)
abbrev rBlock1 (b : Fin 32) : Rect S1x4096 := Rect.unit (s := S1x4096) ![0, 128 * b.val] S1x128.size (inb_block1 b)
abbrev rBlock (s : Fin 4) (b : Fin 32) : Rect S128x4096 := Rect.unit (s := S128x4096) ![32 * s.val, 128 * b.val] S32x128.size (inb_block s b)
abbrev rScale (s : Fin 4) : Rect S128x32 := Rect.unit (s := S128x32) ![32 * s.val, 0] S32x32.size (inb_scale s)
abbrev rRow (i : grid0.Coords) : Rect S2x1024 := Rect.unit (s := S2x1024) (k0_off1 i) S2x128.size (k0_off1_inb i)

theorem packed_strip (s : Fin 4) (t : Fin 2) (c : Fin 8) : (rStrip s t c).PackedRows (EltTy.packing .bf16) := by
  revert s t c; decide +kernel
theorem packed_w (c : Fin 8) : (rW c).PackedRows (EltTy.packing .bf16) := by revert c; decide +kernel
theorem packed_tile (s : Fin 4) (t : Fin 2) : (rTile s t).PackedRows (EltTy.packing .i8) := by revert s t; decide +kernel
theorem packed_block (s : Fin 4) (b : Fin 32) : (rBlock s b).PackedRows (EltTy.packing .fp8e4m3) := by revert s b; decide +kernel

/-! ## The loops -/

/-- `f k st`, `f (k + 1)`, … for `m` steps. -/
def forFrom {E : Type → Type _} {σ : Type} {n : Nat} (f : Fin n → σ → Prog E σ) : (m k : Nat) → k + m = n → σ → Prog E σ
  | 0, _, _, st => pure st
  | m + 1, k, h, st => f ⟨k, by omega⟩ st >>= forFrom f m (k + 1) (by omega)

/-- `f 0`, …, `f (n - 1)` in turn, each on what the one before leaves. -/
abbrev forN {E : Type → Type _} {σ : Type} (n : Nat) (f : Fin n → σ → Prog E σ) (st : σ) : Prog E σ :=
  forFrom f n 0 (Nat.zero_add n) st

section

variable (i : grid0.Coords)
  (arg1 : Memref sig .tc .vmem S128x4096 .bf16) (harg1 : arg1.IsWhole)
  (arg2 : Memref sig .tc .vmem S128x4096 .bf16) (harg2 : arg2.IsWhole)
  (arg3 : Memref sig .tc .vmem S128x4096 .i32) (harg3 : arg3.IsWhole)
  (arg4 : Memref sig .tc .vmem S1x4096 .f32) (harg4 : arg4.IsWhole)
  (arg5 : Memref sig .tc .vmem S1x4096 .f32) (harg5 : arg5.IsWhole)
  (arg6 : Memref sig .tc .vmem S1x4096 .f32) (harg6 : arg6.IsWhole)
  (arg7 : Memref sig .tc .vmem S128x4096 .fp8e4m3) (harg7 : arg7.IsWhole)
  (arg8 : Memref sig .tc .vmem S128x32 .f32) (harg8 : arg8.IsWhole)
  (arg9 : Memref sig .tc .vmem S128x512 .i8) (harg9 : arg9.IsWhole)
  (arg10 : Memref sig .tc .vmem S2x1024 .f32) (harg10 : arg10.IsWhole)
  (arg11 : Memref sig .tc .vmem S2x1024 .f32) (harg11 : arg11.IsWhole)
  (arg12 : Memref sig .tc .vmem S128x4096 .bf16) (harg12 : arg12.IsWhole)
  (arg13 : Memref sig .tc .vmem S32x4096 .f32) (harg13 : arg13.IsWhole)
  (arg14 : Memref sig .tc .vmem S32x4096 .f32) (harg14 : arg14.IsWhole)
  (arg15 : Memref sig .tc .vmem S8x256x256 .bf16) (harg15 : arg15.IsWhole)

abbrev P (F : FTy → Type) [FloatOps F] (α : Type) := Prog (TpuEff nD τ sig (Elt F) Λ₀ .tc) α

/-- Fill one strip's weights. -/
def fill (c : Fin 8) (_ : PUnit) : P F PUnit := do
  let _ : Vec F S1x256x256 .bf16 ← Prog.lift (.load arg15 (rW c).toLoadRect (View.loadsAt_vmem h_S1x256x256))
  Prog.lift (.store arg15 (rW c) (shapeCast S1x256x256 (packW (F := F) (BitVec.ofNat 32 (32 * c.val))) shapeCasts_S256x256_S1x256x256 : FVec F S1x256x256 .bf16) Finset.univ (View.stores_vmem h_S1x256x256 (harg15.storeExact_slice rfl _ (packed_w c)) (fun _ => rfl)) (.inl rfl))

/-- Strip `c` of mask tile `t`, in rows `32·s …`. -/
def strip (s : Fin 4) (t : Fin 2) (c : Fin 8) (st : FVec F S32x128 .f32 × FVec F S32x256 .f32) : P F (FVec F S32x128 .f32 × FVec F S32x256 .f32) := do
  let r : Vec F S32x256 .i32 ← Prog.lift (.load arg3 (rStrip s t c).toLoadRect (View.loadsAt_vmem h_S32x256))
  let a : Vec F S32x256 .bf16 ← Prog.lift (.load arg2 (rStrip s t c).toLoadRect (View.loadsAt_vmem h_S32x256))
  let b : Vec F S1x256 .f32 ← Prog.lift (.load arg4 (rStrip1 t c).toLoadRect (View.loadsAt_vmem h_S1x256))
  let x : Vec F S32x256 .bf16 ← Prog.lift (.load arg1 (rStrip s t c).toLoadRect (View.loadsAt_vmem h_S32x256))
  let _ : Vec F S32x256 .bf16 ← Prog.lift (.load arg12 (rStrip s t c).toLoadRect (View.loadsAt_vmem h_S32x256))
  Prog.lift (.store arg12 (rStrip s t c) (hV r a b x) Finset.univ (View.stores_vmem h_S32x256 (harg12.storeExact_slice rfl _ (packed_strip s t c)) (fun _ => rfl)) (.inl rfl))
  let _ : Vec F S32x256 .f32 ← Prog.lift (.load arg13 (rStrip32 t c).toLoadRect (View.loadsAt_vmem h_S32x256))
  Prog.lift (.store arg13 (rStrip32 t c) (shapeCast S32x256 (extf .f32 (hV r a b x) bitsLt_bf16_f32 : FVec F S32x256 .f32) shapeCasts_S32x256_S32x256 : FVec F S32x256 .f32) Finset.univ (View.stores_vmem_bits_univ h_S32x256 rfl) (.inl rfl))
  let w : Vec F S1x256x256 .bf16 ← Prog.lift (.load arg15 (rW c).toLoadRect (View.loadsAt_vmem h_S1x256x256))
  pure (totalV st.1 (extf .f32 (hV r a b x) bitsLt_bf16_f32), packV st.2 (keepV r) w)

/-- Store a mask tile's bytes. -/
def maskStore (s : Fin 4) (t : Fin 2) (p : FVec F S32x256 .f32) : P F PUnit := do
  let _ : Vec F S32x256 .i8 ← Prog.lift (.load arg9 (rTile s t).toLoadRect (View.loadsAt_vmem h_S32x256))
  Prog.lift (.store arg9 (rTile s t) (byteV p) Finset.univ (View.stores_vmem h_S32x256 (harg9.storeExact_slice rfl _ (packed_tile s t)) (fun _ => rfl)) (.inl rfl))

/-- Centre one block and add its squares. -/
def centre (mean : FVec F S32x1 .f32) (b : Fin 32) (sq : FVec F S32x128 .f32) : P F (FVec F S32x128 .f32) := do
  let h : Vec F S32x128 .f32 ← Prog.lift (.load arg13 (rBlock32 b).toLoadRect (View.loadsAt_vmem h_S32x128))
  let _ : Vec F S32x128 .f32 ← Prog.lift (.load arg13 (rBlock32 b).toLoadRect (View.loadsAt_vmem h_S32x128))
  Prog.lift (.store arg13 (rBlock32 b) (shapeCast S32x128 (centreV mean h) shapeCasts_S32x128_S32x128 : FVec F S32x128 .f32) Finset.univ (View.stores_vmem_bits_univ h_S32x128 rfl) (.inl rfl))
  pure (addf sq (mulf (centreV mean h) (centreV mean h)))

/-- Normalise one block and take its largest magnitude. -/
def normal (rstd : FVec F S32x1 .f32) (b : Fin 32) (amax : FVec F S32x128 .f32) : P F (FVec F S32x128 .f32) := do
  let h : Vec F S32x128 .f32 ← Prog.lift (.load arg13 (rBlock32 b).toLoadRect (View.loadsAt_vmem h_S32x128))
  let g : Vec F S1x128 .f32 ← Prog.lift (.load arg5 (rBlock1 b).toLoadRect (View.loadsAt_vmem h_S1x128))
  let be : Vec F S1x128 .f32 ← Prog.lift (.load arg6 (rBlock1 b).toLoadRect (View.loadsAt_vmem h_S1x128))
  let _ : Vec F S32x128 .f32 ← Prog.lift (.load arg14 (rBlock32 b).toLoadRect (View.loadsAt_vmem h_S32x128))
  Prog.lift (.store arg14 (rBlock32 b) (shapeCast S32x128 (yV rstd h g be) shapeCasts_S32x128_S32x128 : FVec F S32x128 .f32) Finset.univ (View.stores_vmem_bits_univ h_S32x128 rfl) (.inl rfl))
  pure (amaxV (BitVec.ofNat 32 b.val) amax (yV rstd h g be))

/-- Round one block's codes. -/
def code (s : Fin 4) (inv : FVec F S32x128 .f32) (b : Fin 32) (_ : PUnit) : P F PUnit := do
  let y : Vec F S32x128 .f32 ← Prog.lift (.load arg14 (rBlock32 b).toLoadRect (View.loadsAt_vmem h_S32x128))
  let _ : Vec F S32x128 .fp8e4m3 ← Prog.lift (.load arg7 (rBlock s b).toLoadRect (View.loadsAt_vmem h_S32x128))
  Prog.lift (.store arg7 (rBlock s b) (codeV b inv y) Finset.univ (View.stores_vmem h_S32x128 (harg7.storeExact_slice rfl _ (packed_block s b)) (fun _ => rfl)) (.inl rfl))

/-- Store the scales of 32 rows. -/
def scaleStore (s : Fin 4) (amax : FVec F S32x128 .f32) : P F PUnit := do
  let _ : Vec F S32x32 .f32 ← Prog.lift (.load arg8 (rScale s).toLoadRect (View.loadsAt_vmem h_S32x32))
  Prog.lift (.store arg8 (rScale s) (scaleV amax) Finset.univ (View.stores_vmem_bits_univ h_S32x32 rfl) (.inl rfl))

abbrev zero128 : FVec F S32x128 .f32 := broadcast S32x128 (Scalar.ofBits .f32 0x00000000#32)
abbrev zero256 : FVec F S32x256 .f32 := broadcast S32x256 (Scalar.ofBits .f32 0x00000000#32)
abbrev zeroRow : FVec F S1x128 .f32 := broadcast S1x128 (Scalar.ofBits .f32 0x00000000#32)

/-- Rows `32·s …` of a point; the pair is the rows of means and of reciprocal deviations. -/
def sub (s : Fin 4) (st : FVec F S1x128 .f32 × FVec F S1x128 .f32) : P F (FVec F S1x128 .f32 × FVec F S1x128 .f32) := do
  let p0 ← forN 8 (strip arg1 arg2 arg3 arg4 arg12 harg12 arg13 arg15 s 0) (zero128, zero256)
  let p1 ← forN 8 (strip arg1 arg2 arg3 arg4 arg12 harg12 arg13 arg15 s 1) (p0.1, zero256)
  maskStore arg9 harg9 s 0 p0.2
  maskStore arg9 harg9 s 1 p1.2
  let sq ← forN 32 (centre arg13 (meanV p1.1)) zero128
  let amax ← forN 32 (normal arg5 arg6 arg13 arg14 (rstdV sq)) zero128
  scaleStore arg8 s amax
  forN 32 (code arg7 harg7 arg14 s (invV amax)) ⟨⟩
  pure (rowV (BitVec.ofNat 32 (32 * s.val)) st.1 (meanV p1.1), rowV (BitVec.ofNat 32 (32 * s.val)) st.2 (rstdV sq))

/-- Merge the point's means and reciprocal deviations into the whole arrays. -/
def merge (st : FVec F S1x128 .f32 × FVec F S1x128 .f32) : P F PUnit := do
  let m : Vec F S2x128 .f32 ← Prog.lift (.load arg10 (rRow i).toLoadRect (View.loadsAt_vmem h_S2x128))
  let _ : Vec F S2x128 .f32 ← Prog.lift (.load arg10 (rRow i).toLoadRect (View.loadsAt_vmem h_S2x128))
  Prog.lift (.store arg10 (rRow i) (mergeV i st.1 m) Finset.univ (View.stores_vmem_bits_univ h_S2x128 rfl) (.inl rfl))
  let r : Vec F S2x128 .f32 ← Prog.lift (.load arg11 (rRow i).toLoadRect (View.loadsAt_vmem h_S2x128))
  let _ : Vec F S2x128 .f32 ← Prog.lift (.load arg11 (rRow i).toLoadRect (View.loadsAt_vmem h_S2x128))
  Prog.lift (.store arg11 (rRow i) (mergeV i st.2 r) Finset.univ (View.stores_vmem_bits_univ h_S2x128 rfl) (.inl rfl))

/-- A point's work after the weights are filled. -/
def work : P F PUnit := do
  let st ← forN 4 (sub arg1 arg2 arg3 arg4 arg5 arg6 arg7 harg7 arg8 arg9 harg9 arg12 harg12 arg13 arg14 arg15) (zeroRow, zeroRow)
  merge i arg10 arg11 st

end

end Cert.KernelIdeal.Loop

end
-- ==== Proof.KernelIdeal.Run.lean ====
/- What a point's work does to the buffers it is given, as a function of their contents, and that the loops of `Loop.lean` do it. -/
module

public import proofs.«01_k».proof.Proof.KernelIdeal.Loop
public import proofs.«01_k».proof.Proof.Own

@[expose] public section

noncomputable section

namespace Cert.KernelIdeal.Loop

open Idealize.ShloMosaic Idealize.ShloMosaic.TcCoe Cert.Own Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The contents of the body's fifteen buffers. -/
structure Bufs (F : FTy → Type) where
  x : S128x4096.Idx → Elt F .bf16
  a : S128x4096.Idx → Elt F .bf16
  rand : S128x4096.Idx → Elt F .i32
  bias : S1x4096.Idx → Elt F .f32
  gamma : S1x4096.Idx → Elt F .f32
  beta : S1x4096.Idx → Elt F .f32
  codes : S128x4096.Idx → Elt F .fp8e4m3
  scales : S128x32.Idx → Elt F .f32
  mask : S128x512.Idx → Elt F .i8
  mean : S2x1024.Idx → Elt F .f32
  rstd : S2x1024.Idx → Elt F .f32
  h : S128x4096.Idx → Elt F .bf16
  hf : S32x4096.Idx → Elt F .f32
  y : S32x4096.Idx → Elt F .f32
  w : S8x256x256.Idx → Elt F .bf16

/-- The body's fifteen buffers. -/
structure Args where
  a1 : Memref sig .tc .vmem S128x4096 .bf16
  a2 : Memref sig .tc .vmem S128x4096 .bf16
  a3 : Memref sig .tc .vmem S128x4096 .i32
  a4 : Memref sig .tc .vmem S1x4096 .f32
  a5 : Memref sig .tc .vmem S1x4096 .f32
  a6 : Memref sig .tc .vmem S1x4096 .f32
  a7 : Memref sig .tc .vmem S128x4096 .fp8e4m3
  a8 : Memref sig .tc .vmem S128x32 .f32
  a9 : Memref sig .tc .vmem S128x512 .i8
  a10 : Memref sig .tc .vmem S2x1024 .f32
  a11 : Memref sig .tc .vmem S2x1024 .f32
  a12 : Memref sig .tc .vmem S128x4096 .bf16
  a13 : Memref sig .tc .vmem S32x4096 .f32
  a14 : Memref sig .tc .vmem S32x4096 .f32
  a15 : Memref sig .tc .vmem S8x256x256 .bf16

variable (d : Dev nD) (g : Args)

/-- The core holds the buffers at these contents. -/
def held (b : Bufs F) : sProp 𝕄 :=
  iprop(owns (d : Thread nD τ) g.a1 fullShare b.x ∗ owns (d : Thread nD τ) g.a2 fullShare b.a ∗ owns (d : Thread nD τ) g.a3 fullShare b.rand ∗ owns (d : Thread nD τ) g.a4 fullShare b.bias ∗ owns (d : Thread nD τ) g.a5 fullShare b.gamma ∗ owns (d : Thread nD τ) g.a6 fullShare b.beta ∗ owns (d : Thread nD τ) g.a7 fullShare b.codes ∗ owns (d : Thread nD τ) g.a8 fullShare b.scales ∗ owns (d : Thread nD τ) g.a9 fullShare b.mask ∗ owns (d : Thread nD τ) g.a10 fullShare b.mean ∗ owns (d : Thread nD τ) g.a11 fullShare b.rstd ∗ owns (d : Thread nD τ) g.a12 fullShare b.h ∗ owns (d : Thread nD τ) g.a13 fullShare b.hf ∗ owns (d : Thread nD τ) g.a14 fullShare b.y ∗ owns (d : Thread nD τ) g.a15 fullShare b.w)

theorem put1 (b : Bufs F) :
    held d g b ⊢ iprop(owns (d : Thread nD τ) g.a1 fullShare b.x ∗ (owns (d : Thread nD τ) g.a1 fullShare b.x -∗ held d g b)) := by
  unfold held
  iintro ⟨H1, H2, H3, H4, H5, H6, H7, H8, H9, H10, H11, H12, H13, H14, H15⟩
  isplitl [H1]; · iexact H1
  iintro H1
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15
theorem put2 (b : Bufs F) :
    held d g b ⊢ iprop(owns (d : Thread nD τ) g.a2 fullShare b.a ∗ (owns (d : Thread nD τ) g.a2 fullShare b.a -∗ held d g b)) := by
  unfold held
  iintro ⟨H1, H2, H3, H4, H5, H6, H7, H8, H9, H10, H11, H12, H13, H14, H15⟩
  isplitl [H2]; · iexact H2
  iintro H2
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15
theorem put3 (b : Bufs F) :
    held d g b ⊢ iprop(owns (d : Thread nD τ) g.a3 fullShare b.rand ∗ (owns (d : Thread nD τ) g.a3 fullShare b.rand -∗ held d g b)) := by
  unfold held
  iintro ⟨H1, H2, H3, H4, H5, H6, H7, H8, H9, H10, H11, H12, H13, H14, H15⟩
  isplitl [H3]; · iexact H3
  iintro H3
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15
theorem put4 (b : Bufs F) :
    held d g b ⊢ iprop(owns (d : Thread nD τ) g.a4 fullShare b.bias ∗ (owns (d : Thread nD τ) g.a4 fullShare b.bias -∗ held d g b)) := by
  unfold held
  iintro ⟨H1, H2, H3, H4, H5, H6, H7, H8, H9, H10, H11, H12, H13, H14, H15⟩
  isplitl [H4]; · iexact H4
  iintro H4
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15
theorem put5 (b : Bufs F) :
    held d g b ⊢ iprop(owns (d : Thread nD τ) g.a5 fullShare b.gamma ∗ (owns (d : Thread nD τ) g.a5 fullShare b.gamma -∗ held d g b)) := by
  unfold held
  iintro ⟨H1, H2, H3, H4, H5, H6, H7, H8, H9, H10, H11, H12, H13, H14, H15⟩
  isplitl [H5]; · iexact H5
  iintro H5
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15
theorem put6 (b : Bufs F) :
    held d g b ⊢ iprop(owns (d : Thread nD τ) g.a6 fullShare b.beta ∗ (owns (d : Thread nD τ) g.a6 fullShare b.beta -∗ held d g b)) := by
  unfold held
  iintro ⟨H1, H2, H3, H4, H5, H6, H7, H8, H9, H10, H11, H12, H13, H14, H15⟩
  isplitl [H6]; · iexact H6
  iintro H6
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15
theorem put7 (b : Bufs F) (X : S128x4096.Idx → Elt F .fp8e4m3) :
    held d g b ⊢ iprop(owns (d : Thread nD τ) g.a7 fullShare b.codes ∗ (owns (d : Thread nD τ) g.a7 fullShare X -∗ held d g { b with codes := X })) := by
  unfold held
  iintro ⟨H1, H2, H3, H4, H5, H6, H7, H8, H9, H10, H11, H12, H13, H14, H15⟩
  isplitl [H7]; · iexact H7
  iintro H7
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15
theorem put8 (b : Bufs F) (X : S128x32.Idx → Elt F .f32) :
    held d g b ⊢ iprop(owns (d : Thread nD τ) g.a8 fullShare b.scales ∗ (owns (d : Thread nD τ) g.a8 fullShare X -∗ held d g { b with scales := X })) := by
  unfold held
  iintro ⟨H1, H2, H3, H4, H5, H6, H7, H8, H9, H10, H11, H12, H13, H14, H15⟩
  isplitl [H8]; · iexact H8
  iintro H8
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15
theorem put9 (b : Bufs F) (X : S128x512.Idx → Elt F .i8) :
    held d g b ⊢ iprop(owns (d : Thread nD τ) g.a9 fullShare b.mask ∗ (owns (d : Thread nD τ) g.a9 fullShare X -∗ held d g { b with mask := X })) := by
  unfold held
  iintro ⟨H1, H2, H3, H4, H5, H6, H7, H8, H9, H10, H11, H12, H13, H14, H15⟩
  isplitl [H9]; · iexact H9
  iintro H9
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15
theorem put10 (b : Bufs F) (X : S2x1024.Idx → Elt F .f32) :
    held d g b ⊢ iprop(owns (d : Thread nD τ) g.a10 fullShare b.mean ∗ (owns (d : Thread nD τ) g.a10 fullShare X -∗ held d g { b with mean := X })) := by
  unfold held
  iintro ⟨H1, H2, H3, H4, H5, H6, H7, H8, H9, H10, H11, H12, H13, H14, H15⟩
  isplitl [H10]; · iexact H10
  iintro H10
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15
theorem put11 (b : Bufs F) (X : S2x1024.Idx → Elt F .f32) :
    held d g b ⊢ iprop(owns (d : Thread nD τ) g.a11 fullShare b.rstd ∗ (owns (d : Thread nD τ) g.a11 fullShare X -∗ held d g { b with rstd := X })) := by
  unfold held
  iintro ⟨H1, H2, H3, H4, H5, H6, H7, H8, H9, H10, H11, H12, H13, H14, H15⟩
  isplitl [H11]; · iexact H11
  iintro H11
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15
theorem put12 (b : Bufs F) (X : S128x4096.Idx → Elt F .bf16) :
    held d g b ⊢ iprop(owns (d : Thread nD τ) g.a12 fullShare b.h ∗ (owns (d : Thread nD τ) g.a12 fullShare X -∗ held d g { b with h := X })) := by
  unfold held
  iintro ⟨H1, H2, H3, H4, H5, H6, H7, H8, H9, H10, H11, H12, H13, H14, H15⟩
  isplitl [H12]; · iexact H12
  iintro H12
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15
theorem put13 (b : Bufs F) (X : S32x4096.Idx → Elt F .f32) :
    held d g b ⊢ iprop(owns (d : Thread nD τ) g.a13 fullShare b.hf ∗ (owns (d : Thread nD τ) g.a13 fullShare X -∗ held d g { b with hf := X })) := by
  unfold held
  iintro ⟨H1, H2, H3, H4, H5, H6, H7, H8, H9, H10, H11, H12, H13, H14, H15⟩
  isplitl [H13]; · iexact H13
  iintro H13
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15
theorem put14 (b : Bufs F) (X : S32x4096.Idx → Elt F .f32) :
    held d g b ⊢ iprop(owns (d : Thread nD τ) g.a14 fullShare b.y ∗ (owns (d : Thread nD τ) g.a14 fullShare X -∗ held d g { b with y := X })) := by
  unfold held
  iintro ⟨H1, H2, H3, H4, H5, H6, H7, H8, H9, H10, H11, H12, H13, H14, H15⟩
  isplitl [H14]; · iexact H14
  iintro H14
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15
theorem put15 (b : Bufs F) (X : S8x256x256.Idx → Elt F .bf16) :
    held d g b ⊢ iprop(owns (d : Thread nD τ) g.a15 fullShare b.w ∗ (owns (d : Thread nD τ) g.a15 fullShare X -∗ held d g { b with w := X })) := by
  unfold held
  iintro ⟨H1, H2, H3, H4, H5, H6, H7, H8, H9, H10, H11, H12, H13, H14, H15⟩
  isplitl [H15]; · iexact H15
  iintro H15
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

variable {d g} {𝒱 : Variants}

theorem Runs.forFrom {B σ : Type} {H : B → sProp 𝕄} {n : Nat} (f : Fin n → σ → P F σ) (p : Fin n → σ × B → σ × B)
    (h : ∀ k st b, Runs (defs₀ (F := F)) 𝒱 (d : Thread nD τ) H (f k st) b (p k (st, b)).1 (p k (st, b)).2) :
    ∀ (m k : Nat) (hk : k + m = n) (st : σ) (b : B),
      Runs (defs₀ (F := F)) 𝒱 (d : Thread nD τ) H (forFrom f m k hk st) b (steps p m k hk (st, b)).1 (steps p m k hk (st, b)).2
  | 0, _, _, st, b => Runs.pure st b
  | m + 1, k, hk, st, b => Runs.bind (h ⟨k, by omega⟩ st b) (Runs.forFrom f p h m (k + 1) _ _ _)

theorem Runs.forN {B σ : Type} {H : B → sProp 𝕄} {n : Nat} (f : Fin n → σ → P F σ) (p : Fin n → σ × B → σ × B)
    (h : ∀ k st b, Runs (defs₀ (F := F)) 𝒱 (d : Thread nD τ) H (f k st) b (p k (st, b)).1 (p k (st, b)).2) (st : σ) (b : B) :
    Runs (defs₀ (F := F)) 𝒱 (d : Thread nD τ) H (forN n f st) b (upto p (st, b) n).1 (upto p (st, b) n).2 := by
  have e := steps_eq p (st, b) n 0 (Nat.zero_add n)
  rw [← e, upto_zero]; exact Runs.forFrom f p h n 0 _ st b

/-! ## The steps on contents -/

def fillP (c : Fin 8) (q : PUnit.{1} × Bufs F) : PUnit.{1} × Bufs F :=
  (⟨⟩, { q.2 with w := (rW c).overlay q.2.w (shapeCast S1x256x256 (packW (F := F) (BitVec.ofNat 32 (32 * c.val))) shapeCasts_S256x256_S1x256x256 : FVec F S1x256x256 .bf16) })

/-- The residual sum of a strip, from the contents. -/
def stripH (s : Fin 4) (t : Fin 2) (c : Fin 8) (b : Bufs F) : FVec F S32x256 .bf16 :=
  hV (ld (rStrip s t c) b.rand) (ld (rStrip s t c) b.a) (ld (rStrip1 t c) b.bias) (ld (rStrip s t c) b.x)

def stripP (s : Fin 4) (t : Fin 2) (c : Fin 8) (q : (FVec F S32x128 .f32 × FVec F S32x256 .f32) × Bufs F) :
    (FVec F S32x128 .f32 × FVec F S32x256 .f32) × Bufs F :=
  ((totalV q.1.1 (extf .f32 (stripH s t c q.2) bitsLt_bf16_f32), packV q.1.2 (keepV (ld (rStrip s t c) q.2.rand)) (ld (rW c) q.2.w)),
    { q.2 with
      h := (rStrip s t c).overlay q.2.h (stripH s t c q.2)
      hf := (rStrip32 t c).overlay q.2.hf (shapeCast S32x256 (extf .f32 (stripH s t c q.2) bitsLt_bf16_f32 : FVec F S32x256 .f32) shapeCasts_S32x256_S32x256 : FVec F S32x256 .f32) })

def maskP (s : Fin 4) (t : Fin 2) (p : FVec F S32x256 .f32) (b : Bufs F) : Bufs F :=
  { b with mask := (rTile s t).overlay b.mask (byteV p) }

def centreP (mean : FVec F S32x1 .f32) (k : Fin 32) (q : FVec F S32x128 .f32 × Bufs F) : FVec F S32x128 .f32 × Bufs F :=
  (addf q.1 (mulf (centreV mean (ld (rBlock32 k) q.2.hf)) (centreV mean (ld (rBlock32 k) q.2.hf))),
    { q.2 with hf := (rBlock32 k).overlay q.2.hf (shapeCast S32x128 (centreV mean (ld (rBlock32 k) q.2.hf)) shapeCasts_S32x128_S32x128 : FVec F S32x128 .f32) })

def normalP (rstd : FVec F S32x1 .f32) (k : Fin 32) (q : FVec F S32x128 .f32 × Bufs F) : FVec F S32x128 .f32 × Bufs F :=
  (amaxV (BitVec.ofNat 32 k.val) q.1 (yV rstd (ld (rBlock32 k) q.2.hf) (ld (rBlock1 k) q.2.gamma) (ld (rBlock1 k) q.2.beta)),
    { q.2 with y := (rBlock32 k).overlay q.2.y (shapeCast S32x128 (yV rstd (ld (rBlock32 k) q.2.hf) (ld (rBlock1 k) q.2.gamma) (ld (rBlock1 k) q.2.beta)) shapeCasts_S32x128_S32x128 : FVec F S32x128 .f32) })

def codeP (s : Fin 4) (inv : FVec F S32x128 .f32) (k : Fin 32) (q : PUnit.{1} × Bufs F) : PUnit.{1} × Bufs F :=
  (⟨⟩, { q.2 with codes := (rBlock s k).overlay q.2.codes (codeV k inv (ld (rBlock32 k) q.2.y)) })

def scaleP (s : Fin 4) (amax : FVec F S32x128 .f32) (b : Bufs F) : Bufs F :=
  { b with scales := (rScale s).overlay b.scales (scaleV amax) }

def mergeP (i : grid0.Coords) (st : FVec F S1x128 .f32 × FVec F S1x128 .f32) (b : Bufs F) : Bufs F :=
  { b with mean := (rRow i).overlay b.mean (mergeV i st.1 (ld (rRow i) b.mean)), rstd := (rRow i).overlay b.rstd (mergeV i st.2 (ld (rRow i) b.rstd)) }

/-! ### The stages of 32 rows -/

/-- After the first mask tile's strips. -/
def st0 (s : Fin 4) (b : Bufs F) := upto (stripP s 0) (((zero128, zero256) : FVec F S32x128 .f32 × FVec F S32x256 .f32), b) 8
/-- After the second's. -/
def st1 (s : Fin 4) (b : Bufs F) := upto (stripP s 1) (((st0 s b).1.1, zero256), (st0 s b).2) 8
/-- After the mask is stored. -/
def st2 (s : Fin 4) (b : Bufs F) : Bufs F := maskP s 1 (st1 s b).1.2 (maskP s 0 (st0 s b).1.2 (st1 s b).2)
/-- The rows' means. -/
def rowMean (s : Fin 4) (b : Bufs F) : FVec F S32x1 .f32 := meanV (st1 s b).1.1
/-- After the rows are centred. -/
def st3 (s : Fin 4) (b : Bufs F) := upto (centreP (rowMean s b)) (zero128, st2 s b) 32
/-- The rows' reciprocal deviations. -/
def rowRstd (s : Fin 4) (b : Bufs F) : FVec F S32x1 .f32 := rstdV (st3 s b).1
/-- After the rows are normalised. -/
def st4 (s : Fin 4) (b : Bufs F) := upto (normalP (rowRstd s b)) (zero128, (st3 s b).2) 32
/-- After the codes are stored. -/
def st5 (s : Fin 4) (b : Bufs F) : Bufs F := (upto (codeP s (invV (st4 s b).1)) (⟨⟩, scaleP s (st4 s b).1 (st4 s b).2) 32).2

def subP (s : Fin 4) (q : (FVec F S1x128 .f32 × FVec F S1x128 .f32) × Bufs F) : (FVec F S1x128 .f32 × FVec F S1x128 .f32) × Bufs F :=
  ((rowV (BitVec.ofNat 32 (32 * s.val)) q.1.1 (rowMean s q.2), rowV (BitVec.ofNat 32 (32 * s.val)) q.1.2 (rowRstd s q.2)), st5 s q.2)

/-- After the four groups of 32 rows. -/
def rowsP (b : Bufs F) := upto subP (((zeroRow, zeroRow) : FVec F S1x128 .f32 × FVec F S1x128 .f32), b) 4

/-- A point's work. -/
def workP (i : grid0.Coords) (b : Bufs F) : Bufs F := mergeP i (rowsP b).1 (rowsP b).2

/-- The weights filled. -/
def fillsP (b : Bufs F) : Bufs F := (upto fillP (⟨⟩, b) 8).2

/-! ## The loops do them -/

section

variable (i : grid0.Coords) (harg7 : g.a7.IsWhole) (harg9 : g.a9.IsWhole) (harg12 : g.a12.IsWhole) (harg15 : g.a15.IsWhole) (b : Bufs F)

theorem T_fill (c : Fin 8) (u : PUnit.{1}) : Runs (defs₀ (F := F)) 𝒱 (d : Thread nD τ) (held d g) (fill g.a15 harg15 c u) b (fillP c (u, b)).1 (fillP c (u, b)).2 := by
  unfold fill
  refine Runs.bind (Runs.load (put15 d g b _)) ?_
  exact Runs.store (put15 d g b _)

theorem T_strip (s : Fin 4) (t : Fin 2) (c : Fin 8) (st : FVec F S32x128 .f32 × FVec F S32x256 .f32) :
    Runs (defs₀ (F := F)) 𝒱 (d : Thread nD τ) (held d g) (strip g.a1 g.a2 g.a3 g.a4 g.a12 harg12 g.a13 g.a15 s t c st) b (stripP s t c (st, b)).1 (stripP s t c (st, b)).2 := by
  unfold strip
  refine Runs.bind (Runs.load (put3 d g b)) ?_
  refine Runs.bind (Runs.load (put2 d g b)) ?_
  refine Runs.bind (Runs.load (put4 d g b)) ?_
  refine Runs.bind (Runs.load (put1 d g b)) ?_
  refine Runs.bind (Runs.load (put12 d g b _)) ?_
  refine Runs.bind (Runs.store (put12 d g b _)) ?_
  refine Runs.bind (Runs.load (put13 d g _ _)) ?_
  refine Runs.bind (Runs.store (put13 d g _ _)) ?_
  refine Runs.bind (Runs.load (put15 d g _ _)) ?_
  dsimp only [stripP, stripH]
  exact Runs.pure _ _

theorem T_mask (s : Fin 4) (t : Fin 2) (p : FVec F S32x256 .f32) :
    Runs (defs₀ (F := F)) 𝒱 (d : Thread nD τ) (held d g) (maskStore g.a9 harg9 s t p) b ⟨⟩ (maskP s t p b) := by
  unfold maskStore
  refine Runs.bind (Runs.load (put9 d g b _)) ?_
  exact Runs.store (put9 d g b _)

theorem T_centre (mean : FVec F S32x1 .f32) (k : Fin 32) (sq : FVec F S32x128 .f32) :
    Runs (defs₀ (F := F)) 𝒱 (d : Thread nD τ) (held d g) (centre g.a13 mean k sq) b (centreP mean k (sq, b)).1 (centreP mean k (sq, b)).2 := by
  unfold centre
  refine Runs.bind (Runs.load (put13 d g b _)) ?_
  refine Runs.bind (Runs.load (put13 d g b _)) ?_
  refine Runs.bind (Runs.store (put13 d g b _)) ?_
  exact Runs.pure _ _

theorem T_normal (rstd : FVec F S32x1 .f32) (k : Fin 32) (amax : FVec F S32x128 .f32) :
    Runs (defs₀ (F := F)) 𝒱 (d : Thread nD τ) (held d g) (normal g.a5 g.a6 g.a13 g.a14 rstd k amax) b (normalP rstd k (amax, b)).1 (normalP rstd k (amax, b)).2 := by
  unfold normal
  refine Runs.bind (Runs.load (put13 d g b _)) ?_
  refine Runs.bind (Runs.load (put5 d g b)) ?_
  refine Runs.bind (Runs.load (put6 d g b)) ?_
  refine Runs.bind (Runs.load (put14 d g b _)) ?_
  refine Runs.bind (Runs.store (put14 d g b _)) ?_
  exact Runs.pure _ _

theorem T_code (s : Fin 4) (inv : FVec F S32x128 .f32) (k : Fin 32) (u : PUnit.{1}) :
    Runs (defs₀ (F := F)) 𝒱 (d : Thread nD τ) (held d g) (code g.a7 harg7 g.a14 s inv k u) b (codeP s inv k (u, b)).1 (codeP s inv k (u, b)).2 := by
  unfold code
  refine Runs.bind (Runs.load (put14 d g b _)) ?_
  refine Runs.bind (Runs.load (put7 d g b _)) ?_
  exact Runs.store (put7 d g b _)

theorem T_scale (s : Fin 4) (amax : FVec F S32x128 .f32) :
    Runs (defs₀ (F := F)) 𝒱 (d : Thread nD τ) (held d g) (scaleStore g.a8 s amax) b ⟨⟩ (scaleP s amax b) := by
  unfold scaleStore
  refine Runs.bind (Runs.load (put8 d g b _)) ?_
  exact Runs.store (put8 d g b _)

theorem T_sub (s : Fin 4) (st : FVec F S1x128 .f32 × FVec F S1x128 .f32) :
    Runs (defs₀ (F := F)) 𝒱 (d : Thread nD τ) (held d g) (sub g.a1 g.a2 g.a3 g.a4 g.a5 g.a6 g.a7 harg7 g.a8 g.a9 harg9 g.a12 harg12 g.a13 g.a14 g.a15 s st) b
      (subP s (st, b)).1 (subP s (st, b)).2 := by
  unfold sub
  refine Runs.bind (Runs.forN _ (stripP s 0) (fun k st b => T_strip harg12 b s 0 k st) _ b) ?_
  refine Runs.bind (Runs.forN _ (stripP s 1) (fun k st b => T_strip harg12 b s 1 k st) _ _) ?_
  refine Runs.bind (T_mask harg9 _ s 0 _) ?_
  refine Runs.bind (T_mask harg9 _ s 1 _) ?_
  refine Runs.bind (Runs.forN _ (centreP (rowMean s b)) (fun k st b' => T_centre b' (rowMean s b) k st) _ _) ?_
  refine Runs.bind (Runs.forN _ (normalP (rowRstd s b)) (fun k st b' => T_normal b' (rowRstd s b) k st) _ _) ?_
  refine Runs.bind (T_scale _ s _) ?_
  refine Runs.bind (Runs.forN _ (codeP s (invV (st4 s b).1)) (fun k st b' => T_code harg7 b' s (invV (st4 s b).1) k st) _ _) ?_
  exact Runs.pure _ _

theorem T_merge (st : FVec F S1x128 .f32 × FVec F S1x128 .f32) :
    Runs (defs₀ (F := F)) 𝒱 (d : Thread nD τ) (held d g) (merge i g.a10 g.a11 st) b ⟨⟩ (mergeP i st b) := by
  unfold merge
  refine Runs.bind (Runs.load (put10 d g b _)) ?_
  refine Runs.bind (Runs.load (put10 d g b _)) ?_
  refine Runs.bind (Runs.store (put10 d g b _)) ?_
  refine Runs.bind (Runs.load (put11 d g _ _)) ?_
  refine Runs.bind (Runs.load (put11 d g _ _)) ?_
  exact Runs.store (put11 d g _ _)

/-- A point's work takes the buffers to `workP` of them. -/
theorem T_work : Runs (defs₀ (F := F)) 𝒱 (d : Thread nD τ) (held d g)
    (work i g.a1 g.a2 g.a3 g.a4 g.a5 g.a6 g.a7 harg7 g.a8 g.a9 harg9 g.a10 g.a11 g.a12 harg12 g.a13 g.a14 g.a15) b ⟨⟩ (workP i b) := by
  unfold work
  refine Runs.bind (Runs.forN _ subP (fun k st b => T_sub harg7 harg9 harg12 b k st) _ b) ?_
  exact T_merge i _ _

/-- Filling the weights takes them to `fillsP` of them. -/
theorem T_fills : Runs (defs₀ (F := F)) 𝒱 (d : Thread nD τ) (held d g) (forN 8 (fill g.a15 harg15) ⟨⟩) b ⟨⟩ (fillsP b) :=
  Runs.forN _ fillP (fun k u b => T_fill harg15 b k u) ⟨⟩ b

end

end Cert.KernelIdeal.Loop

end
-- ==== Proof.KernelIdeal.H.lean ====
/- What a point's work leaves as the residual sums. -/
module

public import proofs.«01_k».proof.Proof.KernelIdeal.Run
public import Idealize.ShloMosaic.Lib.Pipeline.Value

@[expose] public section

noncomputable section

namespace Cert.KernelIdeal.Loop

open Idealize.ShloMosaic Idealize.SL.Sem Cert.Own Cert.KernelIdeal.Gen

variable {F : FTy → Type} [FloatOps F]

/-- The residual sum of one element. -/
def hPt (r : Elt F .i32) (a : F .bf16) (bias : F .f32) (x : F .bf16) : F .bf16 :=
  FloatOps.truncf .bf16 bitsLt_bf16_f32 (FloatOps.addf (FloatOps.extf .f32 bitsLt_bf16_f32 x)
    (Scalar.select (Scalar.cmpi .uge r 429496730#32)
      (FloatOps.mulf (FloatOps.addf (FloatOps.extf .f32 bitsLt_bf16_f32 a) bias) (Scalar.ofBits .f32 0x3F8E38E4#32))
      (Scalar.ofBits .f32 0x00000000#32)))

def col1 (y : S128x4096.Idx) : S1x4096.Idx := fun a => match a with | ⟨0, _⟩ => (0 : Fin 1) | ⟨1, _⟩ => y 1

/-- The residual sums of the rows in the buffers. -/
def hAt (b : Bufs F) (y : S128x4096.Idx) : F .bf16 := hPt (b.rand y) (b.a y) (b.bias (col1 y)) (b.x y)

theorem hV_at (r : Vec F S32x256 .i32) (a : Vec F S32x256 .bf16) (bias : Vec F S1x256 .f32) (x : Vec F S32x256 .bf16) (j : S32x256.Idx) (k : S1x256.Idx)
    (h0 : (k 0).val = 0) (h1 : (k 1).val = (j 1).val) : hV r a bias x j = hPt (r j) (a j) (bias k) (x j) := by
  have e : broadcastTo S32x256 (shapeCast S1x256 bias shapeCasts_S1x256_S1x256 : FVec F S1x256 .f32) broadcasts_S1x256_S32x256 j = bias k := by
    rw [shapeCast_self]
    refine broadcastTo_apply _ _ j k fun a => ?_
    match a with
    | ⟨0, _⟩ => exact h0
    | ⟨1, _⟩ => exact h1
  unfold hV keepV
  rw [shapeCast_self, shapeCast_self, shapeCast_self]
  unfold hPt
  rw [← e]
  rfl

def lane1 (j : S32x256.Idx) : S1x256.Idx := fun a => match a with | ⟨0, _⟩ => (0 : Fin 1) | ⟨1, _⟩ => j 1

theorem stripH_at (s : Fin 4) (t : Fin 2) (c : Fin 8) (b : Bufs F) (j : S32x256.Idx) : stripH s t c b j = hAt b ((rStrip s t c).emb j) := by
  unfold stripH hAt
  rw [hV_at _ _ _ _ j (lane1 j) rfl rfl]
  unfold ld
  have e : (rStrip1 t c).emb (lane1 j) = col1 ((rStrip s t c).emb j) := by
    funext a
    match a with
    | ⟨0, _⟩ => rfl
    | ⟨1, _⟩ => rfl
  exact congrArg (fun k => hPt (b.rand ((rStrip s t c).emb j)) (b.a ((rStrip s t c).emb j)) (b.bias k) (b.x ((rStrip s t c).emb j))) e

/-- The residual sums are done in the first `32·n` rows, and in the first `m` strips of the next 32. -/
def HDone (n m : Nat) (b : Bufs F) : Prop :=
  ∀ y : S128x4096.Idx, ((y 0).val < 32 * n ∨ ((y 0).val < 32 * n + 32 ∧ (y 1).val < 256 * m)) → b.h y = hAt b y

theorem HDone.strip (s : Fin 4) (t : Fin 2) (c : Fin 8) (q : (FVec F S32x128 .f32 × FVec F S32x256 .f32) × Bufs F)
    (h : HDone s.val (8 * t.val + c.val) q.2) : HDone s.val (8 * t.val + (c.val + 1)) (stripP s t c q).2 := by
  intro y hy
  show (rStrip s t c).overlay q.2.h (stripH s t c q.2) y = hAt q.2 y
  by_cases hr : 32 * s.val ≤ (y 0).val ∧ (y 0).val < 32 * s.val + 32 ∧ 256 * (8 * t.val + c.val) ≤ (y 1).val ∧ (y 1).val < 256 * (8 * t.val + c.val) + 256
  · have e : y = (rStrip s t c).emb (fun a => match a with
        | ⟨0, _⟩ => (⟨(y 0).val - 32 * s.val, by omega⟩ : Fin 32) | ⟨1, _⟩ => (⟨(y 1).val - 256 * (8 * t.val + c.val), by omega⟩ : Fin 256)) := by
      funext a
      apply Fin.ext
      match a with
      | ⟨0, _⟩ => show (y 0).val = 32 * s.val + 1 * ((y 0).val - 32 * s.val); omega
      | ⟨1, _⟩ => show (y 1).val = 256 * (8 * t.val + c.val) + 1 * ((y 1).val - 256 * (8 * t.val + c.val)); omega
    rw [e, Rect.overlay_emb, stripH_at]
  · rw [Rect.overlay_of_not_mem]
    · refine h y ?_
      rcases hy with hy | hy
      · exact .inl hy
      · by_cases h32 : (y 0).val < 32 * s.val
        · exact .inl h32
        · refine .inr ⟨hy.1, ?_⟩
          by_contra hc
          exact hr ⟨by omega, hy.1, by omega, by omega⟩
    · intro hm
      rw [← Rect.map_emb_univ, Finset.mem_map] at hm
      obtain ⟨j, -, rfl⟩ := hm
      apply hr
      have h0 : (((rStrip s t c).emb j) 0).val = 32 * s.val + 1 * (j 0).val := rfl
      have h1 : (((rStrip s t c).emb j) 1).val = 256 * (8 * t.val + c.val) + 1 * (j 1).val := rfl
      have := (j 0).isLt
      have := (j 1).isLt
      have g0 : (j 0).val < 32 := (j 0).isLt
      have g1 : (j 1).val < 256 := (j 1).isLt
      rw [h0, h1]
      omega

theorem upto_ind {σ : Type} {n : Nat} (f : Fin n → σ → σ) (P : Nat → σ → Prop) (h : ∀ (k : Fin n) st, P k.val st → P (k.val + 1) (f k st)) {st : σ} (h₀ : P 0 st) :
    P n (upto f st n) := by
  have : ∀ k, k ≤ n → P k (upto f st k) := by
    intro k
    induction k with
    | zero => intro _; rw [upto_zero]; exact h₀
    | succ k ih => intro hk; rw [upto_succ f st ⟨k, hk⟩]; exact h ⟨k, hk⟩ _ (ih (by omega))
  exact this n (Nat.le_refl n)

/-- The inputs and the residual sums are the same. -/
def HSame (b b' : Bufs F) : Prop := b'.h = b.h ∧ b'.x = b.x ∧ b'.a = b.a ∧ b'.rand = b.rand ∧ b'.bias = b.bias

theorem HSame.trans {b b' b'' : Bufs F} (h : HSame b b') (h' : HSame b' b'') : HSame b b'' :=
  ⟨h'.1.trans h.1, h'.2.1.trans h.2.1, h'.2.2.1.trans h.2.2.1, h'.2.2.2.1.trans h.2.2.2.1, h'.2.2.2.2.trans h.2.2.2.2⟩

theorem HDone.same {n m : Nat} {b b' : Bufs F} (e : HSame b b') (h : HDone n m b) : HDone n m b' := by
  intro y hy
  rw [e.1, h y hy]
  unfold hAt
  rw [e.2.1, e.2.2.1, e.2.2.2.1, e.2.2.2.2]

theorem hsame_upto {σ : Type} {n : Nat} (f : Fin n → σ × Bufs F → σ × Bufs F) (h : ∀ k q, HSame q.2 (f k q).2) (q : σ × Bufs F) (m : Nat) : HSame q.2 (upto f q m).2 :=
  upto_inv f (fun q' => HSame q.2 q'.2) (fun k q' hq => hq.trans (h k q')) ⟨rfl, rfl, rfl, rfl, rfl⟩ m

theorem hsame_tail (s : Fin 4) (b : Bufs F) : HSame (st1 s b).2 (st5 s b) := by
  have h2 : HSame (st1 s b).2 (st2 s b) := by unfold st2 maskP; exact ⟨rfl, rfl, rfl, rfl, rfl⟩
  have h3 : HSame (st2 s b) (st3 s b).2 := by
    unfold st3
    exact hsame_upto (centreP (rowMean s b)) (fun k q => by unfold centreP; exact ⟨rfl, rfl, rfl, rfl, rfl⟩) (zero128, st2 s b) 32
  have h4 : HSame (st3 s b).2 (st4 s b).2 := by
    unfold st4
    exact hsame_upto (normalP (rowRstd s b)) (fun k q => by unfold normalP; exact ⟨rfl, rfl, rfl, rfl, rfl⟩) (zero128, (st3 s b).2) 32
  have h5 : HSame (st4 s b).2 (st5 s b) := by
    unfold st5
    refine HSame.trans (b' := scaleP s (st4 s b).1 (st4 s b).2) (by unfold scaleP; exact ⟨rfl, rfl, rfl, rfl, rfl⟩) ?_
    exact hsame_upto (codeP s (invV (st4 s b).1)) (fun k q => by unfold codeP; exact ⟨rfl, rfl, rfl, rfl, rfl⟩) (⟨⟩, scaleP s (st4 s b).1 (st4 s b).2) 32
  exact ((h2.trans h3).trans h4).trans h5

theorem HDone.st1 (s : Fin 4) (b : Bufs F) (h : HDone s.val 0 b) : HDone s.val 16 (Loop.st1 s b).2 := by
  have h0 : HDone s.val 8 (st0 s b).2 := by
    unfold st0
    exact upto_ind (stripP s 0) (fun k q => HDone s.val (8 * (0 : Fin 2).val + k) q.2) (fun k q hq => HDone.strip s 0 k q hq) (st := ((zero128, zero256), b)) h
  unfold Loop.st1
  exact upto_ind (stripP s 1) (fun k q => HDone s.val (8 * (1 : Fin 2).val + k) q.2) (fun k q hq => HDone.strip s 1 k q hq) (st := (((st0 s b).1.1, zero256), (st0 s b).2)) h0

theorem HDone.next {n : Nat} {b : Bufs F} (h : HDone n 16 b) : HDone (n + 1) 0 b := by
  intro y hy
  have : (y 1).val < 4096 := (y 1).isLt
  refine h y ?_
  omega

theorem HDone.rows (b : Bufs F) : HDone 4 0 (rowsP b).2 := by
  unfold rowsP
  refine upto_ind subP (fun k q => HDone k 0 q.2) (fun k q hq => ?_) (st := ((zeroRow, zeroRow), b)) ?_
  · show HDone (k.val + 1) 0 (st5 k q.2)
    exact ((HDone.st1 k q.2 hq).same (hsame_tail k q.2)).next
  · intro y hy; omega

/-- A point's work leaves the residual sums of its rows. -/
theorem work_h (i : grid0.Coords) (b : Bufs F) (y : S128x4096.Idx) : (workP i b).h y = hAt (workP i b) y := by
  have h : (y 0).val < 128 := (y 0).isLt
  have e : HSame (rowsP b).2 (workP i b) := by unfold workP mergeP; exact ⟨rfl, rfl, rfl, rfl, rfl⟩
  exact ((HDone.rows b).same e) y (.inl (by omega))

end Cert.KernelIdeal.Loop

end
-- ==== Proof.KernelIdeal.Eq.lean ====
/- The printed body is the loops of `Loop.lean`. -/
module

public import proofs.«01_k».proof.Proof.KernelIdeal.Loop
public import Idealize.ShloMosaic.Lib.Tactic

@[expose] public section

set_option maxRecDepth 1000000
set_option maxHeartbeats 0

noncomputable section

namespace Cert.KernelIdeal.Loop

open Idealize.ShloMosaic Idealize.SL.Sem Cert.KernelIdeal.Gen

variable {F : FTy → Type} [FloatOps F]
variable (i : grid0.Coords)
  (arg1 : Memref sig .tc .vmem S128x4096 .bf16) (harg1 : arg1.IsWhole)
  (arg2 : Memref sig .tc .vmem S128x4096 .bf16) (harg2 : arg2.IsWhole)
  (arg3 : Memref sig .tc .vmem S128x4096 .i32) (harg3 : arg3.IsWhole)
  (arg4 : Memref sig .tc .vmem S1x4096 .f32) (harg4 : arg4.IsWhole)
  (arg5 : Memref sig .tc .vmem S1x4096 .f32) (harg5 : arg5.IsWhole)
  (arg6 : Memref sig .tc .vmem S1x4096 .f32) (harg6 : arg6.IsWhole)
  (arg7 : Memref sig .tc .vmem S128x4096 .fp8e4m3) (harg7 : arg7.IsWhole)
  (arg8 : Memref sig .tc .vmem S128x32 .f32) (harg8 : arg8.IsWhole)
  (arg9 : Memref sig .tc .vmem S128x512 .i8) (harg9 : arg9.IsWhole)
  (arg10 : Memref sig .tc .vmem S2x1024 .f32) (harg10 : arg10.IsWhole)
  (arg11 : Memref sig .tc .vmem S2x1024 .f32) (harg11 : arg11.IsWhole)
  (arg12 : Memref sig .tc .vmem S128x4096 .bf16) (harg12 : arg12.IsWhole)
  (arg13 : Memref sig .tc .vmem S32x4096 .f32) (harg13 : arg13.IsWhole)
  (arg14 : Memref sig .tc .vmem S32x4096 .f32) (harg14 : arg14.IsWhole)
  (arg15 : Memref sig .tc .vmem S8x256x256 .bf16) (harg15 : arg15.IsWhole)

/-- At the first point the weights are filled first. -/
theorem body_pos (h : firstW i = 1#1) :
    cc0_bias_dropout_add_ln_fp8 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 =
      (forN 8 (fill arg15 harg15) ⟨⟩ >>= fun _ =>
        work i arg1 arg2 arg3 arg4 arg5 arg6 arg7 harg7 arg8 arg9 harg9 arg10 arg11 arg12 harg12 arg13 arg14 arg15) := by
  unfold cc0_bias_dropout_add_ln_fp8 k0_part223 k0_part11
  rw [dif_pos h]
  sl_kernel_rfl

/-- At the others they are not. -/
theorem body_neg (h : ¬ firstW i = 1#1) :
    cc0_bias_dropout_add_ln_fp8 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 =
      (work i arg1 arg2 arg3 arg4 arg5 arg6 arg7 harg7 arg8 arg9 harg9 arg10 arg11 arg12 harg12 arg13 arg14 arg15) := by
  unfold cc0_bias_dropout_add_ln_fp8 k0_part223 k0_part11
  rw [dif_neg h]
  sl_kernel_rfl

end Cert.KernelIdeal.Loop

end
-- ==== Proof.KernelIdeal.Body.lean ====
/- The body at a grid point, what it may leave in each window's buffer, and the run of the program. -/
module

public import proofs.«01_k».proof.Proof.KernelIdeal.Run
public import proofs.«01_k».proof.Proof.KernelIdeal.Eq
public import proofs.«01_k».proof.Proof.Gen.KernelIdeal.Launch
public import proofs.«01_k».proof.Proof.Gen.KernelIdeal.Points
public import proofs.«01_k».proof.Proof.Gen.KernelIdeal.Frame

@[expose] public section

noncomputable section

namespace Cert.KernelIdeal.Loop

open Idealize.ShloMosaic Idealize.ShloMosaic.TcCoe Cert.Own Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig Unit (Elt F) ℕ (UR sig nD τ) ℕ

/-! ## What a point's work leaves alone -/

/-- The inputs and the weights are the same. -/
structure Same (b b' : Bufs F) : Prop where
  x : b'.x = b.x
  a : b'.a = b.a
  rand : b'.rand = b.rand
  bias : b'.bias = b.bias
  gamma : b'.gamma = b.gamma
  beta : b'.beta = b.beta
  w : b'.w = b.w

theorem Same.rfl' (b : Bufs F) : Same b b := ⟨rfl, rfl, rfl, rfl, rfl, rfl, rfl⟩

theorem Same.trans {b b' b'' : Bufs F} (h : Same b b') (h' : Same b' b'') : Same b b'' :=
  ⟨h'.x.trans h.x, h'.a.trans h.a, h'.rand.trans h.rand, h'.bias.trans h.bias, h'.gamma.trans h.gamma, h'.beta.trans h.beta, h'.w.trans h.w⟩

theorem same_upto {σ : Type} {n : Nat} (f : Fin n → σ × Bufs F → σ × Bufs F) (h : ∀ k q, Same q.2 (f k q).2) (q : σ × Bufs F) :
    ∀ m, Same q.2 (upto f q m).2 :=
  fun m => upto_inv f (fun q' => Same q.2 q'.2) (fun k q' hq => hq.trans (h k q')) (Same.rfl' _) m

theorem same_strip (s : Fin 4) (t : Fin 2) (k : Fin 8) (q : (FVec F S32x128 .f32 × FVec F S32x256 .f32) × Bufs F) : Same q.2 (stripP s t k q).2 := by unfold stripP; constructor <;> rfl
theorem same_mask (s : Fin 4) (t : Fin 2) (p : FVec F S32x256 .f32) (b : Bufs F) : Same b (maskP s t p b) := by unfold maskP; constructor <;> rfl
theorem same_centre (v : FVec F S32x1 .f32) (k : Fin 32) (q : FVec F S32x128 .f32 × Bufs F) : Same q.2 (centreP v k q).2 := by unfold centreP; constructor <;> rfl
theorem same_normal (v : FVec F S32x1 .f32) (k : Fin 32) (q : FVec F S32x128 .f32 × Bufs F) : Same q.2 (normalP v k q).2 := by unfold normalP; constructor <;> rfl
theorem same_code (s : Fin 4) (v : FVec F S32x128 .f32) (k : Fin 32) (q : PUnit × Bufs F) : Same q.2 (codeP s v k q).2 := by unfold codeP; constructor <;> rfl
theorem same_scale (s : Fin 4) (v : FVec F S32x128 .f32) (b : Bufs F) : Same b (scaleP s v b) := by unfold scaleP; constructor <;> rfl
theorem same_merge (i : grid0.Coords) (st : FVec F S1x128 .f32 × FVec F S1x128 .f32) (b : Bufs F) : Same b (mergeP i st b) := by unfold mergeP; constructor <;> rfl

theorem same_st0 (s : Fin 4) (b : Bufs F) : Same b (st0 s b).2 := by unfold st0; exact same_upto (stripP s 0) (same_strip s 0) ((zero128, zero256), b) 8
theorem same_st1 (s : Fin 4) (b : Bufs F) : Same b (st1 s b).2 := by
  unfold st1; exact (same_st0 s b).trans (same_upto (stripP s 1) (same_strip s 1) (((st0 s b).1.1, zero256), (st0 s b).2) 8)
theorem same_st2 (s : Fin 4) (b : Bufs F) : Same b (st2 s b) := by
  unfold st2; exact (same_st1 s b).trans ((same_mask _ _ _ _).trans (same_mask _ _ _ _))
theorem same_st3 (s : Fin 4) (b : Bufs F) : Same b (st3 s b).2 := by
  unfold st3; exact (same_st2 s b).trans (same_upto (centreP (rowMean s b)) (same_centre _) (zero128, st2 s b) 32)
theorem same_st4 (s : Fin 4) (b : Bufs F) : Same b (st4 s b).2 := by
  unfold st4; exact (same_st3 s b).trans (same_upto (normalP (rowRstd s b)) (same_normal _) (zero128, (st3 s b).2) 32)
theorem same_st5 (s : Fin 4) (b : Bufs F) : Same b (st5 s b) := by
  unfold st5
  exact ((same_st4 s b).trans (same_scale s (st4 s b).1 (st4 s b).2)).trans
    (same_upto (codeP s (invV (st4 s b).1)) (same_code s _) (⟨⟩, scaleP s (st4 s b).1 (st4 s b).2) 32)
theorem same_rows (b : Bufs F) : Same b (rowsP b).2 := by
  unfold rowsP; exact same_upto subP (fun s q => same_st5 s q.2) ((zeroRow, zeroRow), b) 4
theorem same_work (i : grid0.Coords) (b : Bufs F) : Same b (workP i b) := by
  unfold workP; exact (same_rows b).trans (same_merge _ _ _)

theorem setW (b q : Bufs F) (z : S8x256x256.Idx → Elt F .bf16) (h : q = { b with w := q.w }) :
    ({ q with w := z } : Bufs F) = { b with w := ({ q with w := z } : Bufs F).w } := by rw [h]

theorem fill_keeps (b : Bufs F) (k : Fin 8) (q : PUnit.{1} × Bufs F) (h : q.2 = { b with w := q.2.w }) :
    (fillP k q).2 = { b with w := (fillP k q).2.w } := by
  unfold fillP; exact setW b q.2 _ h

theorem fills_eq (b : Bufs F) : fillsP b = { b with w := (fillsP b).w } := by
  unfold fillsP
  exact upto_inv fillP (fun q => q.2 = { b with w := q.2.w }) (fill_keeps b) rfl 8

/-! ## The body -/

/-- The buffers of the body at point `t`. -/
def args (t : Fin cfg0.N) : Args :=
  ⟨st0_0 t, st0_1 t, st0_2 t, st0_3 t, st0_4 t, st0_5 t, st0_6 t, st0_7 t, st0_8 t, st0_9 t, st0_10 t, st0_11 t, Memref.whole cc0_scratch0, Memref.whole cc0_scratch1, Memref.whole cc0_scratch2⟩

/-- The contents that the work starts on: at the first point the weights are filled first. -/
def start (t : Fin cfg0.N) (b : Bufs F) : Bufs F := if firstW (grid0.coords t) = 1#1 then fillsP b else b

theorem first_iff : ∀ t : Fin cfg0.N, firstW (grid0.coords t) = 1#1 ↔ t.val = 0 := by decide +kernel

variable (c : Dev nD) (𝒱 : Variants)

theorem body_runs (t : Fin cfg0.N) (b : Bufs F) :
    Runs (defs₀ (F := F)) 𝒱 (c : Thread nD τ) (held c (args t)) (bodyAt0 (F := F) t) b ⟨⟩ (workP (grid0.coords t) (start t b)) := by
  unfold bodyAt0 start
  by_cases h : firstW (grid0.coords t) = 1#1
  · rw [if_pos h, body_pos _ _ _ _ _ _ _ _ _ _ _ _ _ _ _ _ _ _ _ _ _ _ _ _ _ _ _ _ _ _ _ h]
    exact Runs.bind (T_fills (g := args t) _ b) (T_work (g := args t) (grid0.coords t) _ _ _ _)
  · rw [if_neg h, body_neg _ _ _ _ _ _ _ _ _ _ _ _ _ _ _ _ _ _ _ _ _ _ _ _ _ _ _ _ _ _ _ h]
    exact T_work (g := args t) (grid0.coords t) _ _ _ b

variable (m : (ℓ : Loc nD τ sig) → Buf (Elt F) ℓ)

/-- The contents that the work at point `t` starts on: the inputs' blocks, and the weights. -/
structure Good (t : Fin cfg0.N) (b : Bufs F) : Prop where
  x : b.x = iblk m c 0 t
  a : b.a = iblk m c 1 t
  rand : b.rand = iblk m c 2 t
  bias : b.bias = iblk m c 3 t
  gamma : b.gamma = iblk m c 4 t
  beta : b.beta = iblk m c 5 t
  w : ∃ b₀ : Bufs F, b.w = (fillsP b₀).w

/-- What the body may leave in each window's buffer at point `t`, of what it found there. -/
def leaves : (w : Fin 12) → Fin cfg0.N → (Y X : (spec0 w).block.Idx → Elt F (spec0 w).elt) → Prop
  | 0 => fun _ Y X => X = Y
  | 1 => fun _ Y X => X = Y
  | 2 => fun _ Y X => X = Y
  | 3 => fun _ Y X => X = Y
  | 4 => fun _ Y X => X = Y
  | 5 => fun _ Y X => X = Y
  | 6 => fun t _ X => ∃ b : Bufs F, Good c m t b ∧ X = (workP (grid0.coords t) b).codes
  | 7 => fun t _ X => ∃ b : Bufs F, Good c m t b ∧ X = (workP (grid0.coords t) b).scales
  | 8 => fun t _ X => ∃ b : Bufs F, Good c m t b ∧ X = (workP (grid0.coords t) b).mask
  | 9 => fun t Y X => ∃ b : Bufs F, Good c m t b ∧ b.mean = Y ∧ X = (workP (grid0.coords t) b).mean
  | 10 => fun t Y X => ∃ b : Bufs F, Good c m t b ∧ b.rstd = Y ∧ X = (workP (grid0.coords t) b).rstd
  | 11 => fun t _ X => ∃ b : Bufs F, Good c m t b ∧ X = (workP (grid0.coords t) b).h
  | ⟨_ + 12, h⟩ => absurd h (Nat.not_lt.2 (Nat.le_add_left _ _))

/-- Between points the core holds the scratch buffers; after the first point the last holds the weights. -/
def inv (t : Fin (cfg0.N + 1)) : sProp 𝕄 :=
  iprop(∃ hf y w, ⌜t.val ≠ 0 → ∃ b₀ : Bufs F, w = (fillsP b₀).w⌝
    ∗ ((c : Thread nD τ).loc cc0_scratch0 ↦{fullShare} hf) ∗ ((c : Thread nD τ).loc cc0_scratch1 ↦{fullShare} y)
    ∗ ((c : Thread nD τ).loc cc0_scratch2 ↦{fullShare} w) ∗ ∃ r, prngReg c r)

/-- The proof's data. -/
def rdat : RDat τ (Elt F) Unit ℕ (UR sig nD τ) ℕ cfg0 c where
  A w := V m c (Pipeline.arrRef spec0 w)
  after := leaves c m
  Φ := inv c
  q _ := fullShare
  owed _ := 0

theorem finds0 (t : Fin cfg0.N) (Y) (h : (rdat c m).Finds 0 t Y) : Y = iblk m c 0 t := by
  obtain ⟨d, rfl⟩ := (rdat c m).finds_in_eq_fetched 0 rfl (fun _ _ _ => rfl) (fun _ _ _ h => h) t Y h
  rfl

theorem finds1 (t : Fin cfg0.N) (Y) (h : (rdat c m).Finds 1 t Y) : Y = iblk m c 1 t := by
  obtain ⟨d, rfl⟩ := (rdat c m).finds_in_eq_fetched 1 rfl (fun _ _ _ => rfl) (fun _ _ _ h => h) t Y h
  rfl

theorem finds2 (t : Fin cfg0.N) (Y) (h : (rdat c m).Finds 2 t Y) : Y = iblk m c 2 t := by
  obtain ⟨d, rfl⟩ := (rdat c m).finds_in_eq_fetched 2 rfl (fun _ _ _ => rfl) (fun _ _ _ h => h) t Y h
  rfl

theorem finds3 (t : Fin cfg0.N) (Y) (h : (rdat c m).Finds 3 t Y) : Y = iblk m c 3 t := by
  obtain ⟨d, rfl⟩ := (rdat c m).finds_in_eq_fetched 3 rfl (fun _ _ _ => rfl) (fun _ _ _ h => h) t Y h
  rfl

theorem finds4 (t : Fin cfg0.N) (Y) (h : (rdat c m).Finds 4 t Y) : Y = iblk m c 4 t := by
  obtain ⟨d, rfl⟩ := (rdat c m).finds_in_eq_fetched 4 rfl (fun _ _ _ => rfl) (fun _ _ _ h => h) t Y h
  rfl

theorem finds5 (t : Fin cfg0.N) (Y) (h : (rdat c m).Finds 5 t Y) : Y = iblk m c 5 t := by
  obtain ⟨d, rfl⟩ := (rdat c m).finds_in_eq_fetched 5 rfl (fun _ _ _ => rfl) (fun _ _ _ h => h) t Y h
  rfl

theorem body_ok : (rdat c m).BodyObligation defs₀ 𝒱 () Set.univ := fun t Y hY => by
  show _ ⊢ wp frame (wpE (defs₀ (F := F)) 𝒱 (c : Thread nD τ) none) Set.univ (bodyAt0 (F := F) t) _
  have e : (rdat c m).owesAt () t.succ = (rdat c m).owesAt () t.castSucc := rfl
  rw [e]
  refine BIBase.Entails.trans (Q := iprop(∃ b : Bufs F, ⌜Good c m t (start t b) ∧ (start t b).mean = Y 9 ∧ (start t b).rstd = Y 10⌝ ∗ held c (args t) b
    ∗ (rdat c m).owesAt () t.castSucc ∗ ∃ r, prngReg c r)) ?_ ?_
  · rw [show (bigSep Finset.univ fun w : Fin cfg0.W => owns (c : Thread nD τ) ((cfg0.win w).stage (cfg0.slots t w)) fullShare (Y w) : sProp 𝕄) = _ from bigSep_W0 _]
    show iprop(inv c t.castSucc ∗ _) ⊢ _
    unfold inv
    iintro ⟨⟨%hf, %y, %w, %hw, S0, S1, S2, P⟩, Ho, H0, H1, H2, H3, H4, H5, H6, H7, H8, H9, H10, H11⟩
    iexists (⟨Y 0, Y 1, Y 2, Y 3, Y 4, Y 5, Y 6, Y 7, Y 8, Y 9, Y 10, Y 11, hf, y, w⟩ : Bufs F)
    isplitr
    · ipureintro
      unfold start
      by_cases h : firstW (grid0.coords t) = 1#1
      · rw [if_pos h, fills_eq]
        exact ⟨⟨finds0 c m t _ (hY 0), finds1 c m t _ (hY 1), finds2 c m t _ (hY 2), finds3 c m t _ (hY 3), finds4 c m t _ (hY 4), finds5 c m t _ (hY 5), ⟨_, rfl⟩⟩, rfl, rfl⟩
      · rw [if_neg h]
        exact ⟨⟨finds0 c m t _ (hY 0), finds1 c m t _ (hY 1), finds2 c m t _ (hY 2), finds3 c m t _ (hY 3), finds4 c m t _ (hY 4), finds5 c m t _ (hY 5),
          hw (fun ht => h ((first_iff t).mpr ht))⟩, rfl, rfl⟩
    isplitr [Ho P]
    · unfold held args
      rw [show (owns (c : Thread nD τ) (Memref.whole cc0_scratch0) fullShare hf : sProp 𝕄) = _ from owns_whole _ _ _ _,
        show (owns (c : Thread nD τ) (Memref.whole cc0_scratch1) fullShare y : sProp 𝕄) = _ from owns_whole _ _ _ _,
        show (owns (c : Thread nD τ) (Memref.whole cc0_scratch2) fullShare w : sProp 𝕄) = _ from owns_whole _ _ _ _]
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [S0]; · iexact S0
      isplitl [S1]; · iexact S1
      iexact S2
    isplitl [Ho]; · iexact Ho
    iexact P
  · iintro ⟨%b, %hb, H, R⟩
    obtain ⟨hb, h9, h10⟩ := hb
    have hs := same_work (grid0.coords t) (start t b)
    have hr := body_runs c 𝒱 t b (fun _ => held c (args t) (workP (grid0.coords t) (start t b))) .rfl
    refine BIBase.Entails.trans (sep_mono_left hr) ((wp_frame_r _ _ _).trans (wp_mono _ _ _ fun _ => ?_))
    rw [show (bigSep Finset.univ fun w : Fin cfg0.W => iprop(∃ X, ⌜(rdat c m).after w t (Y w) X⌝ ∗ owns (c : Thread nD τ) ((cfg0.win w).stage (cfg0.slots t w)) fullShare X) : sProp 𝕄) = _ from bigSep_W0 _]
    show _ ⊢ iprop(inv c t.succ ∗ _)
    have a6 : leaves c m 6 t (Y 6) (workP (grid0.coords t) (start t b)).codes := ⟨_, hb, rfl⟩
    have a7 : leaves c m 7 t (Y 7) (workP (grid0.coords t) (start t b)).scales := ⟨_, hb, rfl⟩
    have a8 : leaves c m 8 t (Y 8) (workP (grid0.coords t) (start t b)).mask := ⟨_, hb, rfl⟩
    have a9 : leaves c m 9 t (Y 9) (workP (grid0.coords t) (start t b)).mean := ⟨_, hb, h9, rfl⟩
    have a10 : leaves c m 10 t (Y 10) (workP (grid0.coords t) (start t b)).rstd := ⟨_, hb, h10, rfl⟩
    have a11 : leaves c m 11 t (Y 11) (workP (grid0.coords t) (start t b)).h := ⟨_, hb, rfl⟩
    have a0 : leaves c m 0 t (Y 0) (workP (grid0.coords t) (start t b)).x := hs.x.trans (hb.x.trans (finds0 c m t _ (hY 0)).symm)
    have a1 : leaves c m 1 t (Y 1) (workP (grid0.coords t) (start t b)).a := hs.a.trans (hb.a.trans (finds1 c m t _ (hY 1)).symm)
    have a2 : leaves c m 2 t (Y 2) (workP (grid0.coords t) (start t b)).rand := hs.rand.trans (hb.rand.trans (finds2 c m t _ (hY 2)).symm)
    have a3 : leaves c m 3 t (Y 3) (workP (grid0.coords t) (start t b)).bias := hs.bias.trans (hb.bias.trans (finds3 c m t _ (hY 3)).symm)
    have a4 : leaves c m 4 t (Y 4) (workP (grid0.coords t) (start t b)).gamma := hs.gamma.trans (hb.gamma.trans (finds4 c m t _ (hY 4)).symm)
    have a5 : leaves c m 5 t (Y 5) (workP (grid0.coords t) (start t b)).beta := hs.beta.trans (hb.beta.trans (finds5 c m t _ (hY 5)).symm)
    have aw : ∃ b₀ : Bufs F, (workP (grid0.coords t) (start t b)).w = (fillsP b₀).w := by rw [hs.w]; exact hb.w
    generalize workP (grid0.coords t) (start t b) = b' at *
    unfold held args inv
    dsimp only
    rw [show (owns (c : Thread nD τ) (Memref.whole cc0_scratch0) fullShare b'.hf : sProp 𝕄) = _ from owns_whole _ _ _ _,
      show (owns (c : Thread nD τ) (Memref.whole cc0_scratch1) fullShare b'.y : sProp 𝕄) = _ from owns_whole _ _ _ _,
      show (owns (c : Thread nD τ) (Memref.whole cc0_scratch2) fullShare b'.w : sProp 𝕄) = _ from owns_whole _ _ _ _]
    iintro ⟨⟨H0, H1, H2, H3, H4, H5, H6, H7, H8, H9, H10, H11, S0, S1, S2⟩, Ho, P⟩
    isplitl [S0 S1 S2 P]
    · iexists b'.hf; iexists b'.y; iexists b'.w
      isplitr; · ipureintro; exact fun _ => aw
      isplitl [S0]; · iexact S0
      isplitl [S1]; · iexact S1
      isplitl [S2]; · iexact S2
      iexact P
    isplitl [Ho]; · iexact Ho
    isplitl [H0]
    · iexists b'.x; isplitr; · ipureintro; exact a0
      iexact H0
    isplitl [H1]
    · iexists b'.a; isplitr; · ipureintro; exact a1
      iexact H1
    isplitl [H2]
    · iexists b'.rand; isplitr; · ipureintro; exact a2
      iexact H2
    isplitl [H3]
    · iexists b'.bias; isplitr; · ipureintro; exact a3
      iexact H3
    isplitl [H4]
    · iexists b'.gamma; isplitr; · ipureintro; exact a4
      iexact H4
    isplitl [H5]
    · iexists b'.beta; isplitr; · ipureintro; exact a5
      iexact H5
    isplitl [H6]
    · iexists b'.codes; isplitr; · ipureintro; exact a6
      iexact H6
    isplitl [H7]
    · iexists b'.scales; isplitr; · ipureintro; exact a7
      iexact H7
    isplitl [H8]
    · iexists b'.mask; isplitr; · ipureintro; exact a8
      iexact H8
    isplitl [H9]
    · iexists b'.mean; isplitr; · ipureintro; exact a9
      iexact H9
    isplitl [H10]
    · iexists b'.rstd; isplitr; · ipureintro; exact a10
      iexact H10
    · iexists b'.h; isplitr; · ipureintro; exact a11
      iexact H11

/-- The run: what the arrays hold at the end is what the body may leave, and every semaphore reads zero. -/
theorem run (ρ : Dev nD → PrngReg) : θ_run defs (onTc (τ := τ) (main (F := F))) (s₀ m ρ)
    (fun r => RDat.FramePost cfg0 (fun c => rdat c m) (V m) r ∧ r.2.sem = fun _ => 0) := by
  refine RDat.θ_run_frame_track (τ := τ) cfgs 0 launch0 defs₀ Variants.none (fun c => rdat c m) m ρ main (fun c => body_ok c _ m)
    (fun c w => by unfold RDat.share; split <;> rfl) (fun _ _ => rfl) (V m) (hmain m _) (fun _ _ => rfl) (fun c => ?_) (fun c => ?_) _ (fun _ h => h)
  · show _ ⊢ inv c 0
    unfold Pipeline.ΦA inv
    rw [scopedRest0_eq]
    iintro ⟨⟨⟨%f0, S0⟩, ⟨%f1, S1⟩, ⟨%f2, S2⟩⟩, P⟩
    iexists f0; iexists f1; iexists f2
    isplitr; · ipureintro; exact fun h => absurd rfl h
    isplitl [S0]; · iexact S0
    isplitl [S1]; · iexact S1
    isplitl [S2]; · iexact S2
    iexact P
  · show inv c (Fin.last _) ⊢ _
    unfold Pipeline.ΦA inv
    rw [scopedRest0_eq]
    iintro ⟨%f0, %f1, %f2, -, S0, S1, S2, P⟩
    isplitr [P]
    · isplitl [S0]; · iexists f0; iexact S0
      isplitl [S1]; · iexists f1; iexact S1
      iexists f2; iexact S2
    iexact P

/-- The program terminates without fault, its arguments end unchanged and every semaphore reads zero. -/
theorem quiet (ρ : Dev nD → PrngReg) : θ_run defs (onTc (τ := τ) (main (F := F))) ⟨m, fun _ => 0, ρ⟩ (fun r =>
    (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5)) ∧ r.2.sem = fun _ => 0) :=
  (θ_run defs _ _).mono (fun r h => ⟨fun c => ⟨((h.1 c).2 main_arg0 (Pipeline.mem_restRefs_of main_arg0 (by decide) (by decide))).trans (V_main_arg0 m c), ((h.1 c).2 main_arg1 (Pipeline.mem_restRefs_of main_arg1 (by decide) (by decide))).trans (V_main_arg1 m c), ((h.1 c).2 main_arg2 (Pipeline.mem_restRefs_of main_arg2 (by decide) (by decide))).trans (V_main_arg2 m c), ((h.1 c).2 main_arg3 (Pipeline.mem_restRefs_of main_arg3 (by decide) (by decide))).trans (V_main_arg3 m c), ((h.1 c).2 main_arg4 (Pipeline.mem_restRefs_of main_arg4 (by decide) (by decide))).trans (V_main_arg4 m c), ((h.1 c).2 main_arg5 (Pipeline.mem_restRefs_of main_arg5 (by decide) (by decide))).trans (V_main_arg5 m c)⟩, h.2⟩) (run m ρ)

end Cert.KernelIdeal.Loop

end
-- ==== Proof.KernelIdeal.Stats.lean ====
/- What a point's work leaves as the means and the reciprocal deviations, over the extended reals. -/
module

public import proofs.«01_k».proof.Proof.KernelIdeal.H
public import proofs.«01_k».proof.Proof.KernelIdeal.Body
public import Idealize.ShloMosaic.Lib.Pointwise.Reduce
public import Idealize.ShloMosaic.PureOps.Ideal.Laws

@[expose] public section

noncomputable section

namespace Cert.KernelIdeal.Loop

open Idealize.ShloMosaic Idealize.SL.Sem Cert.Own Cert.KernelIdeal.Gen

/-! ## Blocks written over an array -/

theorem overlay_in {s : Shape} {e : Type} (off size : Fin s.rank → Nat) (inb : ∀ a, off a + size a ≤ s.size a) (X : s.Idx → e)
    (w : (Rect.unit (s := s) off size inb).shape.Idx → e) (y : s.Idx) (j : (Rect.unit (s := s) off size inb).shape.Idx)
    (h : ∀ a, (y a).val = off a + (j a).val) : (Rect.unit (s := s) off size inb).overlay X w y = w j := by
  have e : y = (Rect.unit (s := s) off size inb).emb j := by
    funext a
    apply Fin.ext
    show (y a).val = off a + 1 * (j a).val
    rw [h a]; omega
  rw [e, Rect.overlay_emb]

theorem overlay_out {s : Shape} {e : Type} (off size : Fin s.rank → Nat) (inb : ∀ a, off a + size a ≤ s.size a) (X : s.Idx → e)
    (w : (Rect.unit (s := s) off size inb).shape.Idx → e) (y : s.Idx) (a : Fin s.rank)
    (h : (y a).val < off a ∨ off a + size a ≤ (y a).val) : (Rect.unit (s := s) off size inb).overlay X w y = X y := by
  rw [Rect.overlay_of_not_mem]
  intro hm
  rw [← Rect.map_emb_univ, Finset.mem_map] at hm
  obtain ⟨j, -, rfl⟩ := hm
  have h1 : (((Rect.unit (s := s) off size inb).emb j) a).val = off a + 1 * (j a).val := rfl
  have h2 : (j a).val < size a := (j a).isLt
  omega

/-! ## The sums -/

/-- Sums over consecutive blocks of `n`. -/
theorem sum_blocks (f : Nat → EReal) (n m : Nat) : ∑ c ∈ Finset.range m, ∑ j ∈ Finset.range n, f (n * c + j) = ∑ k ∈ Finset.range (n * m), f k := by
  induction m with
  | zero => simp
  | succ m ih => rw [Finset.sum_range_succ, ih, Nat.mul_succ, Finset.sum_range_add]

theorem sum_pairs (f : Nat → EReal) : ∑ l : Fin 128, ∑ c ∈ Finset.range 16, (f (256 * c + l.val) + f (256 * c + 128 + l.val)) = ∑ k ∈ Finset.range 4096, f k := by
  rw [Fin.sum_univ_eq_sum_range (fun l => ∑ c ∈ Finset.range 16, (f (256 * c + l) + f (256 * c + 128 + l))) 128, Finset.sum_comm, ← sum_blocks f 256 16]
  refine Finset.sum_congr rfl fun c _ => ?_
  rw [Finset.sum_add_distrib, show (256 : Nat) = 128 + 128 from rfl, Finset.sum_range_add (fun j => f ((128 + 128) * c + j)) 128 128]
  simp only [Nat.add_assoc]

theorem sum_lanes (f : Nat → EReal) : ∑ l : Fin 128, ∑ c ∈ Finset.range 32, f (128 * c + l.val) = ∑ k ∈ Finset.range 4096, f k := by
  rw [Fin.sum_univ_eq_sum_range (fun l => ∑ c ∈ Finset.range 32, f (128 * c + l)) 128, Finset.sum_comm, ← sum_blocks f 128 32]

/-! ## The strips -/

def at2 (r k : Nat) : S128x4096.Idx := fun a => match a with
  | ⟨0, _⟩ => (⟨r % 128, Nat.mod_lt _ (by decide)⟩ : Fin 128) | ⟨1, _⟩ => (⟨k % 4096, Nat.mod_lt _ (by decide)⟩ : Fin 4096)

/-- The residual sum of row `r` and column `k`. -/
def HN (b : Bufs Ideal) (r k : Nat) : EReal := hAt b (at2 r k)

theorem hAt_same {F : FTy → Type} [FloatOps F] {b b' : Bufs F} (h : Same b b') (y : S128x4096.Idx) : hAt b' y = hAt b y := by
  unfold hAt; rw [h.x, h.a, h.rand, h.bias]

theorem HN_same {b b' : Bufs Ideal} (h : Same b b') (r k : Nat) : HN b' r k = HN b r k := hAt_same h _

theorem HN_at (b : Bufs Ideal) (y : S128x4096.Idx) (r k : Nat) (h0 : (y 0).val = r) (h1 : (y 1).val = k) : hAt b y = HN b r k := by
  have g0 : (y 0).val < 128 := (y 0).isLt
  have g1 : (y 1).val < 4096 := (y 1).isLt
  refine congrArg (hAt b) (funext fun a => Fin.ext ?_)
  match a with
  | ⟨0, _⟩ => show (y 0).val = r % 128; omega
  | ⟨1, _⟩ => show (y 1).val = k % 4096; omega

/-- After `m` strips of 32 rows: the sums per lane, and the residual sums in the scratch buffer. -/
structure SInv (b : Bufs Ideal) (s m : Nat) (q : (FVec Ideal S32x128 .f32 × FVec Ideal S32x256 .f32) × Bufs Ideal) : Prop where
  tot : ∀ j : S32x128.Idx, q.1.1 j = ∑ c ∈ Finset.range m, (HN b (32 * s + (j 0).val) (256 * c + (j 1).val) + HN b (32 * s + (j 0).val) (256 * c + 128 + (j 1).val))
  hf : ∀ y : S32x4096.Idx, (y 1).val < 256 * m → q.2.hf y = HN b (32 * s + (y 0).val) (y 1).val
  same : Same b q.2

theorem stripH_HN (s : Fin 4) (t : Fin 2) (c : Fin 8) (b b' : Bufs Ideal) (h : Same b b') (j : S32x256.Idx) (r k : Nat) (h0 : (j 0).val = r) (h1 : (j 1).val = k) :
    stripH s t c b' j = HN b (32 * s.val + r) (256 * (8 * t.val + c.val) + k) := by
  rw [stripH_at, hAt_same h]
  refine HN_at b _ _ _ ?_ ?_
  · show 32 * s.val + 1 * (j 0).val = _; omega
  · show 256 * (8 * t.val + c.val) + 1 * (j 1).val = _; omega

def lo256 (j : S32x128.Idx) : S32x256.Idx := fun a => match a with
  | ⟨0, _⟩ => j 0 | ⟨1, _⟩ => (⟨(j 1).val, lt_of_lt_of_le (j 1).isLt (by decide)⟩ : Fin 256)
def hi256 (j : S32x128.Idx) : S32x256.Idx := fun a => match a with
  | ⟨0, _⟩ => j 0 | ⟨1, _⟩ => (⟨128 + (j 1).val, by have : (j 1).val < 128 := (j 1).isLt; omega⟩ : Fin 256)

theorem totalV_at (tot : FVec Ideal S32x128 .f32) (h : FVec Ideal S32x256 .f32) (j : S32x128.Idx) :
    totalV tot h j = ((tot j + h (lo256 j) + h (hi256 j) : EReal)) := by
  have e1 : extractStridedSlice S32x128 ![0, 0] h slices_S32x256_o0_0_S32x128 j = h (lo256 j) := by
    refine extractStridedSlice_apply _ _ _ j _ fun a => ?_
    match a with
    | ⟨0, _⟩ => exact (Nat.zero_add _).symm
    | ⟨1, _⟩ => exact (Nat.zero_add _).symm
  have e2 : extractStridedSlice S32x128 ![0, 128] h slices_S32x256_o0_128_S32x128 j = h (hi256 j) := by
    refine extractStridedSlice_apply _ _ _ j _ fun a => ?_
    match a with
    | ⟨0, _⟩ => exact (Nat.zero_add _).symm
    | ⟨1, _⟩ => rfl
  rw [← e1, ← e2]
  rfl

theorem SInv.strip (b : Bufs Ideal) (s : Fin 4) (t : Fin 2) (c : Fin 8) (q : (FVec Ideal S32x128 .f32 × FVec Ideal S32x256 .f32) × Bufs Ideal)
    (h : SInv b s.val (8 * t.val + c.val) q) : SInv b s.val (8 * t.val + (c.val + 1)) (stripP s t c q) where
  same := h.same.trans (same_strip s t c q)
  tot j := by
    rw [show 8 * t.val + (c.val + 1) = (8 * t.val + c.val) + 1 from rfl, Finset.sum_range_succ, ← h.tot j]
    refine (totalV_at q.1.1 (extf .f32 (stripH s t c q.2) bitsLt_bf16_f32) j).trans ?_
    have e1 : (extf .f32 (stripH s t c q.2) bitsLt_bf16_f32 : FVec Ideal S32x256 .f32) (lo256 j) = HN b (32 * s.val + (j 0).val) (256 * (8 * t.val + c.val) + (j 1).val) :=
      stripH_HN s t c b q.2 h.same (lo256 j) _ _ rfl rfl
    have e2 : (extf .f32 (stripH s t c q.2) bitsLt_bf16_f32 : FVec Ideal S32x256 .f32) (hi256 j) = HN b (32 * s.val + (j 0).val) (256 * (8 * t.val + c.val) + (128 + (j 1).val)) :=
      stripH_HN s t c b q.2 h.same (hi256 j) _ _ rfl rfl
    rw [e1, e2, ← Nat.add_assoc, add_assoc]
  hf y hy := by
    show (rStrip32 t c).overlay q.2.hf (shapeCast S32x256 (extf .f32 (stripH s t c q.2) bitsLt_bf16_f32 : FVec Ideal S32x256 .f32) shapeCasts_S32x256_S32x256 : FVec Ideal S32x256 .f32) y = _
    rw [shapeCast_self]
    by_cases hr : (y 1).val < 256 * (8 * t.val + c.val)
    · rw [overlay_out _ _ _ _ _ _ 1 (.inl hr), h.hf y hr]
    · refine (overlay_in _ _ _ _ _ y (fun a => match a with
        | ⟨0, _⟩ => y 0 | ⟨1, _⟩ => (⟨(y 1).val - 256 * (8 * t.val + c.val), by omega⟩ : Fin 256)) fun a => ?_).trans ?_
      · match a with
        | ⟨0, _⟩ => exact (Nat.zero_add _).symm
        | ⟨1, _⟩ => show (y 1).val = 256 * (8 * t.val + c.val) + ((y 1).val - 256 * (8 * t.val + c.val)); omega
      · refine (stripH_HN s t c b q.2 h.same _ _ _ rfl rfl).trans ?_
        refine congrArg (HN b _) ?_
        show 256 * (8 * t.val + c.val) + ((y 1).val - 256 * (8 * t.val + c.val)) = _; omega

theorem SInv.st1 (s : Fin 4) (b : Bufs Ideal) : SInv b s.val 16 (Loop.st1 s b) := by
  have h0 : SInv b s.val 8 (st0 s b) := by
    unfold st0
    refine upto_ind (stripP s 0) (fun k q => SInv b s.val (8 * (0 : Fin 2).val + k) q) (fun k q hq => hq.strip b s 0 k q) (st := ((zero128, zero256), b)) ?_
    exact ⟨fun j => (Ideal.ofBits_zero_f32 : _), fun y hy => absurd hy (Nat.not_lt_zero _), Same.rfl' b⟩
  unfold Loop.st1
  exact upto_ind (stripP s 1) (fun k q => SInv b s.val (8 * (1 : Fin 2).val + k) q) (fun k q hq => hq.strip b s 1 k q) (st := (((st0 s b).1.1, zero256), (st0 s b).2))
    ⟨h0.tot, h0.hf, h0.same⟩

/-! ## Means and reciprocal deviations -/

/-- The factor of a mean over 4096. -/
def invD : EReal := Ideal.ofBits .f32 0x39800000#32

def eps : EReal := Ideal.ofBits .f32 0x3727C5AC#32

/-- The mean of row `r`. -/
def muN (b : Bufs Ideal) (r : Nat) : EReal := (∑ k ∈ Finset.range 4096, HN b r k) * invD

/-- The centred element. -/
def CN (b : Bufs Ideal) (r k : Nat) : EReal := HN b r k - muN b r

/-- The reciprocal deviation of row `r`. -/
def rsN (b : Bufs Ideal) (r : Nat) : EReal := Ideal.rsqrt ((∑ k ∈ Finset.range 4096, CN b r k * CN b r k) * invD + eps)

theorem muN_same {b b' : Bufs Ideal} (h : Same b b') (r : Nat) : muN b' r = muN b r := by unfold muN; simp only [HN_same h]
theorem CN_same {b b' : Bufs Ideal} (h : Same b b') (r k : Nat) : CN b' r k = CN b r k := by unfold CN; rw [HN_same h, muN_same h]
theorem rsN_same {b b' : Bufs Ideal} (h : Same b b') (r : Nat) : rsN b' r = rsN b r := by unfold rsN; simp only [CN_same h]

theorem cast_col {α : Type} (v : S32.Idx → α) (k : S32x1.Idx) : shapeCast S32x1 v shapeCasts_S32_S32x1 k = v (fun a => match a with | ⟨0, _⟩ => k 0) := by
  refine shapeCast_apply v _ k _ ?_
  refine (Shape.rowMajor_val_one _).trans (Eq.trans ?_ (Shape.rowMajor_val_two k).symm)
  have : (k 1).val < 1 := (k 1).isLt
  show (k 0).val = (k 0).val * 1 + (k 1).val
  omega

def at1 (j : S32x128.Idx) : S32x1.Idx := fun a => match a with | ⟨0, _⟩ => j 0 | ⟨1, _⟩ => (0 : Fin 1)

theorem bcast_col {α : Type} (v : S32x1.Idx → α) (j : S32x128.Idx) : broadcastTo S32x128 v broadcasts_S32x1_S32x128 j = v (at1 j) := by
  refine broadcastTo_apply _ _ j _ fun a => ?_
  match a with
  | ⟨0, _⟩ => rfl
  | ⟨1, _⟩ => rfl

theorem meanV_at (tot : FVec Ideal S32x128 .f32) (k : S32x1.Idx) : meanV tot k = (∑ l : Fin 128, tot (fun a => match a with | ⟨0, _⟩ => k 0 | ⟨1, _⟩ => l) : EReal) * invD := by
  show (shapeCast S32x1 (multiReduction .add [1] S32 tot 0x00000000#32 reduces_S32x128_S32 (.inl rfl) rfl : FVec Ideal S32 .f32) shapeCasts_S32_S32x1 k : EReal) * invD = _
  rw [cast_col]
  refine congrArg (· * invD) ?_
  refine (Ideal.multiReduction_add_single tot _ reduces_S32x128_S32 (.inl rfl) rfl _).trans ?_
  refine Finset.sum_congr rfl fun l _ => congrArg tot (funext fun a => Fin.ext ?_)
  match a with
  | ⟨0, _⟩ => rfl
  | ⟨1, _⟩ => rfl

theorem rowMean_at (s : Fin 4) (b : Bufs Ideal) (k : S32x1.Idx) : rowMean s b k = muN b (32 * s.val + (k 0).val) := by
  unfold rowMean muN
  rw [meanV_at]
  refine congrArg (· * invD) ?_
  rw [← sum_pairs]
  exact Finset.sum_congr rfl fun l _ => (SInv.st1 s b).tot _

/-- After `m` blocks are centred: the sums of squares per lane, the centred elements, and the elements still to centre. -/
structure CInv (b : Bufs Ideal) (s m : Nat) (q : FVec Ideal S32x128 .f32 × Bufs Ideal) : Prop where
  sq : ∀ j : S32x128.Idx, q.1 j = ∑ c ∈ Finset.range m, (CN b (32 * s + (j 0).val) (128 * c + (j 1).val) * CN b (32 * s + (j 0).val) (128 * c + (j 1).val))
  done : ∀ y : S32x4096.Idx, (y 1).val < 128 * m → q.2.hf y = CN b (32 * s + (y 0).val) (y 1).val
  rest : ∀ y : S32x4096.Idx, 128 * m ≤ (y 1).val → q.2.hf y = HN b (32 * s + (y 0).val) (y 1).val
  same : Same b q.2

theorem centre_at (b : Bufs Ideal) (s : Fin 4) (k : Fin 32) (q : FVec Ideal S32x128 .f32 × Bufs Ideal) (h : CInv b s.val k.val q) (j : S32x128.Idx) :
    centreV (rowMean s b) (ld (rBlock32 k) q.2.hf) j = CN b (32 * s.val + (j 0).val) (128 * k.val + (j 1).val) := by
  show (q.2.hf ((rBlock32 k).emb j) : EReal) - broadcastTo S32x128 (rowMean s b) broadcasts_S32x1_S32x128 j = _
  rw [bcast_col, rowMean_at]
  have h0 : (((rBlock32 k).emb j) 0).val = (j 0).val := by show 0 + 1 * (j 0).val = _; omega
  have h1 : (((rBlock32 k).emb j) 1).val = 128 * k.val + (j 1).val := by show 128 * k.val + 1 * (j 1).val = _; omega
  rw [h.rest _ (by rw [h1]; omega), h0, h1]
  rfl

theorem CInv.step (b : Bufs Ideal) (s : Fin 4) (k : Fin 32) (q : FVec Ideal S32x128 .f32 × Bufs Ideal) (h : CInv b s.val k.val q) :
    CInv b s.val (k.val + 1) (centreP (rowMean s b) k q) where
  same := h.same.trans (same_centre _ k q)
  sq j := by
    rw [Finset.sum_range_succ, ← h.sq j]
    show (q.1 j : EReal) + centreV (rowMean s b) (ld (rBlock32 k) q.2.hf) j * centreV (rowMean s b) (ld (rBlock32 k) q.2.hf) j = _
    rw [centre_at b s k q h]
  done y hy := by
    show (rBlock32 k).overlay q.2.hf (shapeCast S32x128 (centreV (rowMean s b) (ld (rBlock32 k) q.2.hf)) shapeCasts_S32x128_S32x128 : FVec Ideal S32x128 .f32) y = _
    rw [shapeCast_self]
    by_cases hr : (y 1).val < 128 * k.val
    · rw [overlay_out _ _ _ _ _ _ 1 (.inl hr), h.done y hr]
    · refine (overlay_in _ _ _ _ _ y (fun a => match a with
        | ⟨0, _⟩ => y 0 | ⟨1, _⟩ => (⟨(y 1).val - 128 * k.val, by omega⟩ : Fin 128)) fun a => ?_).trans ?_
      · match a with
        | ⟨0, _⟩ => exact (Nat.zero_add _).symm
        | ⟨1, _⟩ => show (y 1).val = 128 * k.val + ((y 1).val - 128 * k.val); omega
      · refine (centre_at b s k q h _).trans ?_
        refine congrArg (CN b _) ?_
        show 128 * k.val + ((y 1).val - 128 * k.val) = _; omega
  rest y hy := by
    show (rBlock32 k).overlay q.2.hf _ y = _
    rw [overlay_out _ _ _ _ _ _ 1 (.inr ?_), h.rest y (by omega)]
    show 128 * k.val + 128 ≤ _
    omega

theorem CInv.st3 (s : Fin 4) (b : Bufs Ideal) : CInv b s.val 32 (Loop.st3 s b) := by
  unfold Loop.st3
  refine upto_ind (centreP (rowMean s b)) (fun k q => CInv b s.val k q) (fun k q hq => hq.step b s k q) (st := (zero128, Loop.st2 s b)) ?_
  refine ⟨fun j => (Ideal.ofBits_zero_f32 : _), fun y hy => absurd hy (Nat.not_lt_zero _), fun y _ => ?_, same_st2 s b⟩
  have e : (Loop.st2 s b).hf = (Loop.st1 s b).2.hf := by unfold Loop.st2 maskP; rfl
  have : (y 1).val < 4096 := (y 1).isLt
  show (Loop.st2 s b).hf y = _
  rw [e]
  exact (SInv.st1 s b).hf y (by omega)

theorem rowRstd_at (s : Fin 4) (b : Bufs Ideal) (k : S32x1.Idx) : rowRstd s b k = rsN b (32 * s.val + (k 0).val) := by
  unfold rowRstd rsN
  show Ideal.rsqrt ((meanV (Loop.st3 s b).1 k : EReal) + eps) = _
  rw [meanV_at, ← sum_lanes]
  exact congrArg (fun z : EReal => Ideal.rsqrt (z * invD + eps)) (Finset.sum_congr rfl fun l _ => (CInv.st3 s b).sq _)

/-! ## The rows of values -/

theorem iota_one {s : Shape} (κ : Kind) (w : Nat) (a : Fin s.rank) (h : s.Iotas κ w [a]) (i : s.Idx) : iota κ s w [a] h i = BitVec.ofNat w (i a).val := by
  show BitVec.ofNat w (0 * s.size a + (i a).val) = _
  rw [Nat.zero_mul, Nat.zero_add]

theorem hereV_at (k : BitVec 32) (z : S32x128.Idx) : hereV k z = IntOp.cmpi .eq (BitVec.ofNat 32 (z 1).val) (IntOp.addi (BitVec.ofNat 32 (z 0).val) k) := by
  unfold hereV
  show IntOp.cmpi .eq (iota .tc S32x128 32 [1] iota_S32x128_d1_w32 z) (IntOp.addi (iota .tc S32x128 32 [0] iota_S32x128_d0_w32 z) k) = _
  rw [iota_one, iota_one]

theorem here_at (s : Fin 4) (i : Fin 32) (l : Fin 128) :
    IntOp.cmpi .eq (BitVec.ofNat 32 l.val) (IntOp.addi (BitVec.ofNat 32 i.val) (BitVec.ofNat 32 (32 * s.val))) = if l.val = i.val + 32 * s.val then 1#1 else 0#1 := by
  have e : IntOp.addi (BitVec.ofNat 32 i.val) (BitVec.ofNat 32 (32 * s.val)) = BitVec.ofNat 32 (i.val + 32 * s.val) := by
    show BitVec.ofNat 32 i.val + BitVec.ofNat 32 (32 * s.val) = _
    rw [← BitVec.ofNat_add]
  rw [e]
  show BitVec.ofBool (BitVec.ofNat 32 l.val == BitVec.ofNat 32 (i.val + 32 * s.val)) = _
  by_cases h : l.val = i.val + 32 * s.val
  · rw [if_pos h, h]; simp
  · rw [if_neg h]
    have : BitVec.ofNat 32 l.val ≠ BitVec.ofNat 32 (i.val + 32 * s.val) := by
      intro e
      have := congrArg BitVec.toNat e
      simp only [BitVec.toNat_ofNat] at this
      omega
    rw [beq_eq_false_iff_ne.mpr this]; rfl

/-- The row after the values of 32 rows are added. -/
theorem rowV_at (s : Fin 4) (row : FVec Ideal S1x128 .f32) (v : FVec Ideal S32x1 .f32) (f : Nat → EReal) (hv : ∀ k : S32x1.Idx, v k = f (32 * s.val + (k 0).val))
    (hrow : ∀ j : S1x128.Idx, row j = if (j 1).val < 32 * s.val then f (j 1).val else 0) (j : S1x128.Idx) :
    rowV (BitVec.ofNat 32 (32 * s.val)) row v j = if (j 1).val < 32 * (s.val + 1) then f (j 1).val else 0 := by
  have hj : (j 1).val < 128 := (j 1).isLt
  have e : shapeCast S1x128 (multiReduction .add [0] S128
    (select (hereV (BitVec.ofNat 32 (32 * s.val))) (broadcastTo S32x128 (shapeCast S32x1 v shapeCasts_S32x1_S32x1 : FVec Ideal S32x1 .f32) broadcasts_S32x1_S32x128)
      (broadcast S32x128 (Scalar.ofBits .f32 0x00000000#32 : Ideal .f32))) 0x00000000#32 reduces_S32x128_S128 (.inl rfl) rfl : FVec Ideal S128 .f32) shapeCasts_S128_S1x128 j
      = ∑ i : Fin 32, (if (j 1).val = i.val + 32 * s.val then f (32 * s.val + i.val) else 0 : EReal) := by
    refine (shapeCast_apply _ _ j (fun a => match a with | ⟨0, _⟩ => j 1) ?_).trans ?_
    · refine (Shape.rowMajor_val_one _).trans (Eq.trans ?_ (Shape.rowMajor_val_two j).symm)
      have : (j 0).val < 1 := (j 0).isLt
      show (j 1).val = (j 0).val * 128 + (j 1).val
      omega
    · refine (Ideal.multiReduction_add_single _ _ reduces_S32x128_S128 (.inl rfl) rfl _).trans ?_
      refine Finset.sum_congr rfl fun i _ => ?_
      let z : S32x128.Idx := fun a => match a with | ⟨0, _⟩ => (i : Fin 32) | ⟨1, _⟩ => j 1
      have hz : (reduces_S32x128_S128 : S32x128.Reduces [0] S128).lift (fun a => match a with | ⟨0, _⟩ => j 1) i = z := by
        funext a
        apply Fin.ext
        match a with
        | ⟨0, _⟩ => rfl
        | ⟨1, _⟩ => rfl
      rw [hz, shapeCast_self]
      show Scalar.select (hereV (BitVec.ofNat 32 (32 * s.val)) z) (broadcastTo S32x128 v broadcasts_S32x1_S32x128 z) (Ideal.ofBits .f32 0x00000000#32) = _
      rw [hereV_at]
      show Scalar.select (IntOp.cmpi .eq (BitVec.ofNat 32 (j 1).val) (IntOp.addi (BitVec.ofNat 32 i.val) (BitVec.ofNat 32 (32 * s.val))))
        (broadcastTo S32x128 v broadcasts_S32x1_S32x128 z) (Ideal.ofBits .f32 0x00000000#32) = _
      rw [here_at s i ⟨(j 1).val, hj⟩, bcast_col, hv, Ideal.ofBits_zero_f32]
      show Scalar.select (if (j 1).val = i.val + 32 * s.val then 1#1 else 0#1) (f (32 * s.val + i.val)) (0 : EReal) = _
      by_cases h : (j 1).val = i.val + 32 * s.val
      · rw [if_pos h, if_pos h]; rfl
      · rw [if_neg h, if_neg h]; rfl
  unfold rowV
  show (row j : EReal) + _ = _
  rw [e, hrow j]
  by_cases h : 32 * s.val ≤ (j 1).val ∧ (j 1).val < 32 * s.val + 32
  · rw [if_neg (by omega), if_pos (by omega), zero_add, Finset.sum_eq_single (⟨(j 1).val - 32 * s.val, by omega⟩ : Fin 32)]
    · rw [if_pos (by show (j 1).val = (j 1).val - 32 * s.val + 32 * s.val; omega)]
      refine congrArg f ?_
      show 32 * s.val + ((j 1).val - 32 * s.val) = _; omega
    · intro i _ hi
      rw [if_neg]
      intro hh
      exact hi (Fin.ext (by show i.val = (j 1).val - 32 * s.val; omega))
    · intro hh; exact absurd (Finset.mem_univ _) hh
  · rw [Finset.sum_eq_zero, add_zero]
    · by_cases h' : (j 1).val < 32 * s.val
      · rw [if_pos h', if_pos (by omega)]
      · rw [if_neg h', if_neg (by omega)]
    · intro i _
      rw [if_neg]
      have := i.isLt
      omega

/-- After `m` groups of 32 rows. -/
structure RInv (b : Bufs Ideal) (m : Nat) (q : (FVec Ideal S1x128 .f32 × FVec Ideal S1x128 .f32) × Bufs Ideal) : Prop where
  mean : ∀ j : S1x128.Idx, q.1.1 j = if (j 1).val < 32 * m then muN b (j 1).val else 0
  rstd : ∀ j : S1x128.Idx, q.1.2 j = if (j 1).val < 32 * m then rsN b (j 1).val else 0
  same : Same b q.2
  keepM : q.2.mean = b.mean
  keepR : q.2.rstd = b.rstd

theorem keep_upto {σ : Type} {n : Nat} {γ : Type} (g : Bufs Ideal → γ) (f : Fin n → σ × Bufs Ideal → σ × Bufs Ideal) (h : ∀ k q, g (f k q).2 = g q.2) (q : σ × Bufs Ideal) (m : Nat) :
    g (upto f q m).2 = g q.2 := upto_inv f (fun q' => g q'.2 = g q.2) (fun k q' hq => (h k q').trans hq) rfl m

theorem keep_st5 {γ : Type} (g : Bufs Ideal → γ) (h1 : ∀ s t c q, g (stripP s t c q).2 = g q.2) (h2 : ∀ s t p b, g (maskP s t p b) = g b) (h3 : ∀ v k q, g (centreP v k q).2 = g q.2)
    (h4 : ∀ v k q, g (normalP v k q).2 = g q.2) (h5 : ∀ s v k q, g (codeP s v k q).2 = g q.2) (h6 : ∀ s v b, g (scaleP s v b) = g b) (s : Fin 4) (b : Bufs Ideal) : g (st5 s b) = g b := by
  unfold st5
  refine (keep_upto g _ (h5 s _) _ 32).trans ((h6 s _ _).trans ?_)
  unfold st4
  refine (keep_upto g _ (h4 _) _ 32).trans ?_
  unfold Loop.st3
  refine (keep_upto g _ (h3 _) _ 32).trans ?_
  unfold Loop.st2
  refine (h2 _ _ _ _).trans ((h2 _ _ _ _).trans ?_)
  unfold Loop.st1
  refine (keep_upto g _ (h1 s 1) _ 8).trans ?_
  unfold st0
  exact keep_upto g _ (h1 s 0) _ 8

theorem keep_mean (s : Fin 4) (b : Bufs Ideal) : (st5 s b).mean = b.mean :=
  keep_st5 (fun b => b.mean) (fun _ _ _ _ => by unfold stripP; rfl) (fun _ _ _ _ => by unfold maskP; rfl) (fun _ _ _ => by unfold centreP; rfl) (fun _ _ _ => by unfold normalP; rfl)
    (fun _ _ _ _ => by unfold codeP; rfl) (fun _ _ _ => by unfold scaleP; rfl) s b

theorem keep_rstd (s : Fin 4) (b : Bufs Ideal) : (st5 s b).rstd = b.rstd :=
  keep_st5 (fun b => b.rstd) (fun _ _ _ _ => by unfold stripP; rfl) (fun _ _ _ _ => by unfold maskP; rfl) (fun _ _ _ => by unfold centreP; rfl) (fun _ _ _ => by unfold normalP; rfl)
    (fun _ _ _ _ => by unfold codeP; rfl) (fun _ _ _ => by unfold scaleP; rfl) s b

theorem RInv.rows (b : Bufs Ideal) : RInv b 4 (rowsP b) := by
  unfold rowsP
  refine upto_ind subP (fun k q => RInv b k q) (fun s q h => ?_) (st := ((zeroRow, zeroRow), b)) ?_
  · refine ⟨rowV_at s _ _ _ (fun k => (rowMean_at s q.2 k).trans (muN_same h.same _)) h.mean, rowV_at s _ _ _ (fun k => (rowRstd_at s q.2 k).trans (rsN_same h.same _)) h.rstd,
      h.same.trans (same_st5 s q.2), ?_, ?_⟩
    · exact (keep_mean s q.2).trans h.keepM
    · exact (keep_rstd s q.2).trans h.keepR
  · refine ⟨fun j => ?_, fun j => ?_, Same.rfl' b, rfl, rfl⟩
    · rw [if_neg (by omega)]; exact (Ideal.ofBits_zero_f32 : _)
    · rw [if_neg (by omega)]; exact (Ideal.ofBits_zero_f32 : _)

/-! ## Stored in the arrays of all points -/

theorem off_row : ∀ i : grid0.Coords, k0_off1 i 0 = 0 ∧ k0_off1 i 1 = 128 * ((i 0).val % 8) := by decide +kernel
theorem batch_row : ∀ (i : grid0.Coords) (y : Fin 2), IntOp.cmpi .eq (BitVec.ofNat 32 y.val) (batchW i) = if y.val = (i 0).val / 8 then 1#1 else 0#1 := by decide +kernel

theorem merge_at (i : grid0.Coords) (row : FVec Ideal S1x128 .f32) (old : S2x1024.Idx → EReal) (f : Nat → EReal) (hrow : ∀ j : S1x128.Idx, row j = f (j 1).val) (y : S2x1024.Idx) :
    (rRow i).overlay old (mergeV (F := Ideal) i row (ld (rRow i) old)) y = if (i 0).val = 8 * (y 0).val + (y 1).val / 128 then f ((y 1).val % 128) else old y := by
  have g0 : (y 0).val < 2 := (y 0).isLt
  have g1 : (y 1).val < 1024 := (y 1).isLt
  have hi : (i 0).val < 16 := (i 0).isLt
  have ho := off_row i
  by_cases hr : (y 1).val / 128 = (i 0).val % 8
  · let j : S2x128.Idx := fun a => match a with | ⟨0, _⟩ => y 0 | ⟨1, _⟩ => (⟨(y 1).val % 128, by omega⟩ : Fin 128)
    have hj : ∀ a, (y a).val = k0_off1 i a + (j a).val := fun a => by
      match a with
      | ⟨0, _⟩ => show (y 0).val = k0_off1 i 0 + (y 0).val; rw [ho.1]; omega
      | ⟨1, _⟩ => show (y 1).val = k0_off1 i 1 + (y 1).val % 128; rw [ho.2]; omega
    have ej : (rRow i).emb j = y := by
      funext a
      apply Fin.ext
      show k0_off1 i a + 1 * (j a).val = _
      rw [hj a]; omega
    refine (overlay_in _ _ _ _ _ y j hj).trans ?_
    unfold mergeV
    rw [shapeCast_self, shapeCast_self]
    show Scalar.select (IntOp.cmpi .eq (iota .tc S2x128 32 [0] iota_S2x128_d0_w32 j) (batchW i)) (broadcastTo S2x128 row broadcasts_S1x128_S2x128 j) (old ((rRow i).emb j)) = _
    rw [iota_one]
    show Scalar.select (IntOp.cmpi .eq (BitVec.ofNat 32 (y 0).val) (batchW i)) (broadcastTo S2x128 row broadcasts_S1x128_S2x128 j) (old ((rRow i).emb j)) = _
    rw [batch_row i (y 0), ej, broadcastTo_apply (s := S1x128) (t := S2x128) row broadcasts_S1x128_S2x128 j (fun a => match a with | ⟨0, _⟩ => (0 : Fin 1) | ⟨1, _⟩ => j 1)
      (fun a => by match a with | ⟨0, _⟩ => rfl | ⟨1, _⟩ => rfl), hrow]
    by_cases h : (y 0).val = (i 0).val / 8
    · rw [if_pos h, if_pos (by omega)]; rfl
    · rw [if_neg h, if_neg (by omega)]; rfl
  · rw [if_neg (by omega), overlay_out _ _ _ _ _ _ 1]
    rw [ho.2]
    show (y 1).val < _ ∨ 128 * ((i 0).val % 8) + 128 ≤ _
    omega

theorem work_mean (i : grid0.Coords) (b : Bufs Ideal) (y : S2x1024.Idx) :
    (workP i b).mean y = if (i 0).val = 8 * (y 0).val + (y 1).val / 128 then muN b ((y 1).val % 128) else b.mean y := by
  have h := RInv.rows b
  rw [← h.keepM]
  refine merge_at i _ _ (muN b) (fun j => ?_) y
  have : (j 1).val < 128 := (j 1).isLt
  rw [h.mean j, if_pos (by omega)]

theorem work_rstd (i : grid0.Coords) (b : Bufs Ideal) (y : S2x1024.Idx) :
    (workP i b).rstd y = if (i 0).val = 8 * (y 0).val + (y 1).val / 128 then rsN b ((y 1).val % 128) else b.rstd y := by
  have h := RInv.rows b
  rw [← h.keepR]
  refine merge_at i _ _ (rsN b) (fun j => ?_) y
  have : (j 1).val < 128 := (j 1).isLt
  rw [h.rstd j, if_pos (by omega)]

end Cert.KernelIdeal.Loop

end
-- ==== Proof.KernelIdeal.Value.lean ====
/- What the program leaves in its result arrays. -/
module

public import proofs.«01_k».proof.Proof.KernelIdeal.H
public import proofs.«01_k».proof.Proof.KernelIdeal.Body
public import Idealize.ShloMosaic.Lib.Claim
public import Idealize.ShloMosaic.Lib.Pipeline.ArrRel
public import Idealize.ShloMosaic.Lib.Pipeline.ValueKit

@[expose] public section

noncomputable section

namespace Cert.KernelIdeal.Loop

open Idealize.ShloMosaic Idealize.ShloMosaic.TcCoe Idealize.SL.Sem Cert.Own Cert.KernelIdeal.Gen
open Idealize.ShloMosaic.Pipeline (RDat Dat)

variable {F : FTy → Type} [FloatOps F] (m : (ℓ : Loc nD τ sig) → Buf (Elt F) ℓ) (c : Dev nD)

def row1 (y : S2048x4096.Idx) : S1x4096.Idx := fun a => match a with | ⟨0, _⟩ => (0 : Fin 1) | ⟨1, _⟩ => y 1

/-- The residual sums, of the arguments. -/
def hAll (m0 m1 : S2x1024x4096.Idx → F .bf16) (m2 : S4096.Idx → F .f32) (m3 : S2x1024x4096.Idx → Elt F .i32) (i : S2048x4096.Idx) : F .bf16 :=
  hPt (shapeCast S2048x4096 m3 shapeCasts_S2x1024x4096_S2048x4096 i) (shapeCast S2048x4096 m1 shapeCasts_S2x1024x4096_S2048x4096 i)
    (shapeCast S1x4096 m2 shapeCasts_S4096_S1x4096 (row1 i)) (shapeCast S2048x4096 m0 shapeCasts_S2x1024x4096_S2048x4096 i)

theorem V0 : V m c main_v0 = shapeCast S2048x4096 (m ((c.tc : Thread nD τ).loc main_arg0)) shapeCasts_S2x1024x4096_S2048x4096 := by entry_read; rfl
theorem V1 : V m c main_v1 = shapeCast S2048x4096 (m ((c.tc : Thread nD τ).loc main_arg1)) shapeCasts_S2x1024x4096_S2048x4096 := by entry_read; rfl
theorem V2 : V m c main_v2 = shapeCast S2048x4096 (m ((c.tc : Thread nD τ).loc main_arg3)) shapeCasts_S2x1024x4096_S2048x4096 := by entry_read; rfl
theorem V3 : V m c main_v3 = shapeCast S1x4096 (m ((c.tc : Thread nD τ).loc main_arg2)) shapeCasts_S4096_S1x4096 := by entry_read; rfl

theorem in0 (t : Fin cfg0.N) (y : S128x4096.Idx) : iblk m c 0 t y = V m c main_v0 (((cfg0.win 11).blk t).view.emb y) := rfl
theorem in1 (t : Fin cfg0.N) (y : S128x4096.Idx) : iblk m c 1 t y = V m c main_v1 (((cfg0.win 11).blk t).view.emb y) := rfl
theorem in2 (t : Fin cfg0.N) (y : S128x4096.Idx) : iblk m c 2 t y = V m c main_v2 (((cfg0.win 11).blk t).view.emb y) := rfl
theorem idx3 : ∀ t : Fin cfg0.N, win0_3.index t 1 = 0 ∧ win0_11.index t 1 = 0 := (by decide +kernel : ∀ t : Fin grid0.N, _)

theorem in3 (t : Fin cfg0.N) (y : S128x4096.Idx) : iblk m c 3 t (col1 y) = V m c main_v3 (row1 (((cfg0.win 11).blk t).view.emb y)) := by
  show V m c main_v3 (((cfg0.win 3).blk t).view.emb (col1 y)) = _
  refine congrArg (V m c main_v3) (funext fun a => Fin.ext ?_)
  match a with
  | ⟨0, _⟩ => blk_simp; rfl
  | ⟨1, _⟩ =>
    have e : ((((cfg0.win 11).blk t).view.emb y) 1).val = win0_11.index t 1 * 4096 + (y 1).val := by blk_simp
    rw [(idx3 t).2] at e
    blk_simp
    rw [(idx3 t).1]
    exact e.symm

/-- The residual sums at the end. -/
theorem h_final {r : PUnit × MemSt nD τ sig (Elt F)} (h : RDat.FramePost cfg0 (fun c => rdat c m) (V m) r) :
    r.2.mem ((c.tc : Thread nD τ).loc main_v6_5) = hAll (m ((c.tc : Thread nD τ).loc main_arg0)) (m ((c.tc : Thread nD τ).loc main_arg1))
      (m ((c.tc : Thread nD τ).loc main_arg2)) (m ((c.tc : Thread nD τ).loc main_arg3)) := by
  obtain ⟨after, hL, hA⟩ := RDat.FramePost.exists_exact h c
  refine (hA 11).trans ?_
  refine Dat.arrAt_eq_of_covers _ 11 _ (by decide +kernel) fun t hf y => ?_
  obtain ⟨Y, -, b, hb, hX⟩ := hL 11 t hf
  show after 11 t y = _
  rw [hX]
  have hs := same_work (grid0.coords t) b
  refine (work_h (grid0.coords t) b y).trans ?_
  unfold hAt
  rw [hs.rand, hs.a, hs.bias, hs.x, hb.rand, hb.a, hb.bias, hb.x, in0, in1, in2, in3, V0, V1, V2, V3]
  rfl

end Cert.KernelIdeal.Loop

end
-- ==== Proof.KernelIdeal.Final.lean ====
/- The means and the reciprocal deviations that the program leaves, over the extended reals. -/
module

public import proofs.«01_k».proof.Proof.KernelIdeal.Stats
public import proofs.«01_k».proof.Proof.KernelIdeal.Value

@[expose] public section

noncomputable section

namespace Cert.KernelIdeal.Loop

open Idealize.ShloMosaic Idealize.ShloMosaic.TcCoe Idealize.SL.Sem Cert.Own Cert.KernelIdeal.Gen
open Idealize.ShloMosaic.Pipeline (RDat Dat)

variable (m : (ℓ : Loc nD τ sig) → Buf (Elt Ideal) ℓ) (c : Dev nD)

def atG (r k : Nat) : S2048x4096.Idx := fun a => match a with
  | ⟨0, _⟩ => (⟨r % 2048, Nat.mod_lt _ (by decide)⟩ : Fin 2048) | ⟨1, _⟩ => (⟨k % 4096, Nat.mod_lt _ (by decide)⟩ : Fin 4096)

/-- The residual sum of row `r` of the 2048 and column `k`, of an array of them. -/
def meanOf (H : S2048x4096.Idx → EReal) (r : Nat) : EReal := (∑ k ∈ Finset.range 4096, H (atG r k)) * invD

/-- The centred element. -/
def cOf (H : S2048x4096.Idx → EReal) (r k : Nat) : EReal := H (atG r k) - meanOf H r

def rstdOf (H : S2048x4096.Idx → EReal) (r : Nat) : EReal := Ideal.rsqrt ((∑ k ∈ Finset.range 4096, cOf H r k * cOf H r k) * invD + eps)

/-- The residual sums, of the memory at entry. -/
def hM : S2048x4096.Idx → EReal := hAll (F := Ideal) (m ((c.tc : Thread nD τ).loc main_arg0)) (m ((c.tc : Thread nD τ).loc main_arg1))
      (m ((c.tc : Thread nD τ).loc main_arg2)) (m ((c.tc : Thread nD τ).loc main_arg3))

theorem good_h {t : Fin cfg0.N} {b : Bufs Ideal} (hb : Good c m t b) (y : S128x4096.Idx) : hAt b y = hM m c (((cfg0.win 11).blk t).view.emb y) := by
  unfold hAt
  rw [hb.rand, hb.a, hb.bias, hb.x, in0, in1, in2, in3, V0, V1, V2, V3]
  rfl

theorem idx11 : ∀ t : Fin cfg0.N, win0_11.index t 0 = t.val ∧ win0_11.index t 1 = 0 := (by decide +kernel : ∀ t : Fin grid0.N, _)
theorem coord0 : ∀ t : Fin cfg0.N, ((grid0.coords t) 0).val = t.val := (by decide +kernel : ∀ t : Fin grid0.N, _)

theorem good_HN {t : Fin cfg0.N} {b : Bufs Ideal} (hb : Good c m t b) (r k : Nat) (hr : r < 128) : HN b r k = hM m c (atG (128 * t.val + r) k) := by
  have ht : t.val < 16 := t.isLt
  unfold HN
  rw [good_h m c hb]
  refine congrArg (hM m c) (funext fun a => Fin.ext ?_)
  match a with
  | ⟨0, _⟩ =>
    have e : ((((cfg0.win 11).blk t).view.emb (at2 r k)) 0).val = win0_11.index t 0 * 128 + r % 128 := by blk_simp; rfl
    rw [(idx11 t).1] at e
    refine e.trans ?_
    show t.val * 128 + r % 128 = (128 * t.val + r) % 2048
    omega
  | ⟨1, _⟩ =>
    have e : ((((cfg0.win 11).blk t).view.emb (at2 r k)) 1).val = win0_11.index t 1 * 4096 + k % 4096 := by blk_simp; rfl
    rw [(idx11 t).2] at e
    refine e.trans ?_
    show 0 * 4096 + k % 4096 = k % 4096
    omega

theorem good_mu {t : Fin cfg0.N} {b : Bufs Ideal} (hb : Good c m t b) (r : Nat) (hr : r < 128) : muN b r = meanOf (hM m c) (128 * t.val + r) := by
  unfold muN meanOf; simp only [good_HN m c hb _ _ hr]

theorem good_C {t : Fin cfg0.N} {b : Bufs Ideal} (hb : Good c m t b) (r k : Nat) (hr : r < 128) : CN b r k = cOf (hM m c) (128 * t.val + r) k := by
  unfold CN cOf; rw [good_HN m c hb _ _ hr, good_mu m c hb _ hr]

theorem good_rs {t : Fin cfg0.N} {b : Bufs Ideal} (hb : Good c m t b) (r : Nat) (hr : r < 128) : rsN b r = rstdOf (hM m c) (128 * t.val + r) := by
  unfold rsN rstdOf; simp only [good_C m c hb _ _ hr]

/-! ## Point after point -/

theorem fetch9 : ∀ t : Fin cfg0.N, (cfg0.win 9).fetch t = false ∧ (cfg0.win 10).fetch t = false := (by decide +kernel : ∀ t : Fin grid0.N, _)
theorem flush9 : ∀ t : Fin cfg0.N, t.val < 15 → (cfg0.win 9).flush t = false ∧ (cfg0.win 10).flush t = false := (by decide +kernel : ∀ t : Fin grid0.N, _)

theorem leaves_mean : ∀ (n : Nat) (t : Fin cfg0.N) (_ : t.val = n) (X : S2x1024.Idx → EReal), (rdat c m).Leaves 9 t X →
    ∀ y : S2x1024.Idx, 8 * (y 0).val + (y 1).val / 128 ≤ n → X y = meanOf (hM m c) (1024 * (y 0).val + (y 1).val) := by
  intro n
  induction n with
  | zero =>
    intro t ht X hX y hy
    obtain ⟨Y, -, b, hb, -, rfl⟩ := hX
    rw [work_mean, if_pos (by rw [coord0]; omega), good_mu m c hb _ (Nat.mod_lt _ (by decide))]
    exact congrArg (meanOf _) (by omega)
  | succ n ih =>
    intro t ht X hX y hy
    have hN : t.val < 16 := t.isLt
    obtain ⟨Y, hY, b, hb, rfl, rfl⟩ := hX
    rw [work_mean]
    by_cases h : ((grid0.coords t) 0).val = 8 * (y 0).val + (y 1).val / 128
    · rw [if_pos h, good_mu m c hb _ (Nat.mod_lt _ (by decide))]
      rw [coord0] at h
      exact congrArg (meanOf _) (by omega)
    · rw [if_neg h]
      rw [coord0] at h
      rw [RDat.finds_of_pos _ (fetch9 t).1 (by omega)] at hY
      rcases hY with hY | hY
      · rw [(flush9 ⟨t.val - 1, _⟩ (by show t.val - 1 < 15; omega)).1] at hY; exact absurd hY (by decide)
      · exact ih _ (by show t.val - 1 = n; omega) _ hY y (by omega)

theorem leaves_rstd : ∀ (n : Nat) (t : Fin cfg0.N) (_ : t.val = n) (X : S2x1024.Idx → EReal), (rdat c m).Leaves 10 t X →
    ∀ y : S2x1024.Idx, 8 * (y 0).val + (y 1).val / 128 ≤ n → X y = rstdOf (hM m c) (1024 * (y 0).val + (y 1).val) := by
  intro n
  induction n with
  | zero =>
    intro t ht X hX y hy
    obtain ⟨Y, -, b, hb, -, rfl⟩ := hX
    rw [work_rstd, if_pos (by rw [coord0]; omega), good_rs m c hb _ (Nat.mod_lt _ (by decide))]
    exact congrArg (rstdOf _) (by omega)
  | succ n ih =>
    intro t ht X hX y hy
    have hN : t.val < 16 := t.isLt
    obtain ⟨Y, hY, b, hb, rfl, rfl⟩ := hX
    rw [work_rstd]
    by_cases h : ((grid0.coords t) 0).val = 8 * (y 0).val + (y 1).val / 128
    · rw [if_pos h, good_rs m c hb _ (Nat.mod_lt _ (by decide))]
      rw [coord0] at h
      exact congrArg (rstdOf _) (by omega)
    · rw [if_neg h]
      rw [coord0] at h
      rw [RDat.finds_of_pos _ (fetch9 t).2 (by omega)] at hY
      rcases hY with hY | hY
      · rw [(flush9 ⟨t.val - 1, _⟩ (by show t.val - 1 < 15; omega)).2] at hY; exact absurd hY (by decide)
      · exact ih _ (by show t.val - 1 = n; omega) _ hY y (by omega)

/-! ## At the end -/

/-- The row of an element of the means' array. -/
def rowOf (y : S2x1024.Idx) : Nat := 1024 * (y 0).val + (y 1).val

theorem last_pt {y : S2x1024.Idx} : 8 * (y 0).val + (y 1).val / 128 ≤ 15 := by
  have g0 : (y 0).val < 2 := (y 0).isLt
  have g1 : (y 1).val < 1024 := (y 1).isLt
  omega

theorem mean_final {r : PUnit × MemSt nD τ sig (Elt Ideal)} (h : RDat.FramePost cfg0 (fun c => rdat c m) (V m) r) :
    r.2.mem ((c.tc : Thread nD τ).loc main_v6_3) = fun y : S2x1024.Idx => meanOf (hM m c) (rowOf y) := by
  funext y
  obtain ⟨X, hX, hG⟩ := RDat.ArrAt.emb_eq_of_wholeAt ((h c).1 9) (t₀ := (⟨15, by decide⟩ : Fin grid0.N)) (by decide +kernel)
  exact (hG y).trans (leaves_mean m c 15 _ rfl X hX _ last_pt)

theorem rstd_final {r : PUnit × MemSt nD τ sig (Elt Ideal)} (h : RDat.FramePost cfg0 (fun c => rdat c m) (V m) r) :
    r.2.mem ((c.tc : Thread nD τ).loc main_v6_4) = fun y : S2x1024.Idx => rstdOf (hM m c) (rowOf y) := by
  funext y
  obtain ⟨X, hX, hG⟩ := RDat.ArrAt.emb_eq_of_wholeAt ((h c).1 10) (t₀ := (⟨15, by decide⟩ : Fin grid0.N)) (by decide +kernel)
  exact (hG y).trans (leaves_rstd m c 15 _ rfl X hX _ last_pt)

end Cert.KernelIdeal.Loop

end
-- ==== Proof.Ref.lean ====
/- The reference's values are those the kernel is proved to leave, over the extended reals. -/
module

public import proofs.«01_k».proof.Proof.KernelIdeal.Final
public import proofs.«01_k».proof.Proof.Gen.ReferenceIdeal
public import Idealize.ShloMosaic.Lib.Pointwise

@[expose] public section

noncomputable section

namespace Cert.Ref

open Idealize.ShloMosaic Cert.ReferenceIdeal Cert.ReferenceIdeal.Gen
open Cert.KernelIdeal.Loop (meanOf rstdOf cOf invD eps atG rowOf hAll hPt)

/-- The position in the 3-d array of an element of the 2-d one. -/
theorem at_row (i : S2048x4096.Idx) :
    (Shape.reshapeEquiv shapeCasts_S2x1024x4096_S2048x4096 i : S2x1024x4096.Idx) = fun a => match a with
      | ⟨0, _⟩ => (⟨(i 0).val / 1024, by have : (i 0).val < 2048 := (i 0).isLt; omega⟩ : Fin 2) | ⟨1, _⟩ => (⟨(i 0).val % 1024, by omega⟩ : Fin 1024) | ⟨2, _⟩ => i 1 := by
  refine Shape.reshapeEquiv_eq_of_rowMajor shapeCasts_S2x1024x4096_S2048x4096 ?_
  refine (Shape.rowMajor_val_three _).trans (Eq.trans ?_ (Shape.rowMajor_val_two i).symm)
  show ((i 0).val / 1024 * 1024 + (i 0).val % 1024) * 4096 + (i 1).val = (i 0).val * 4096 + (i 1).val
  omega

/-- The bias, broadcast over the rows by the reference, is the kernel's one row of it. -/
theorem bias_at (x : S4096.Idx → Ideal .f32) (i : S2048x4096.Idx) :
    broadcastInDim S2x1024x4096 ![0, 1, 2] bcast_S1x1x4096_S2x1024x4096_0_1_2
      (broadcastInDim S1x1x4096 ![2] bcast_S4096_S1x1x4096_2 x)
      (Shape.reshapeEquiv shapeCasts_S2x1024x4096_S2048x4096 i)
    = shapeCast Cert.KernelIdeal.S1x4096 x Cert.KernelIdeal.Gen.shapeCasts_S4096_S1x4096 (Cert.KernelIdeal.Loop.row1 i) := by
  let k3 : S1x1x4096.Idx := fun a => match a with | ⟨0, _⟩ => (0 : Fin 1) | ⟨1, _⟩ => (0 : Fin 1) | ⟨2, _⟩ => i 1
  let k1 : S4096.Idx := fun a => match a with | ⟨0, _⟩ => i 1
  refine (broadcastInDim_apply _ _ _ _ k3 fun a => ?_).trans ((broadcastInDim_apply _ _ _ k3 k1 fun a => ?_).trans
    (shapeCast_apply x _ (Cert.KernelIdeal.Loop.row1 i) k1 ?_).symm)
  · rw [at_row]
    match a with
    | ⟨0, _⟩ => rfl
    | ⟨1, _⟩ => rfl
    | ⟨2, _⟩ => rfl
  · match a with
    | ⟨0, _⟩ => rfl
  · refine (Shape.rowMajor_val_one k1).trans (Eq.trans ?_ (Shape.rowMajor_val_two (Cert.KernelIdeal.Loop.row1 i)).symm)
    show (i 1).val = 0 * 4096 + (i 1).val
    omega

variable (m0 m1 : S2x1024x4096.Idx → Ideal .bf16) (m2 : S4096.Idx → Ideal .f32) (m3 : S2x1024x4096.Idx → BitVec 32)

/-- The reference's residual sums. -/
def hR : FVec Ideal S2x1024x4096 .bf16 :=
  truncf .bf16 (addf (extf .f32 m0 bitsLt_bf16_f32) (select (cmpi .uge m3 (broadcastInDim S2x1024x4096 ![] bcast_S_S2x1024x4096 (constantI S_ 32 429496730#32)))
    (mulf (addf (extf .f32 m1 bitsLt_bf16_f32) (broadcastInDim S2x1024x4096 ![0, 1, 2] bcast_S1x1x4096_S2x1024x4096_0_1_2 (broadcastInDim S1x1x4096 ![2] bcast_S4096_S1x1x4096_2 m2)))
      (broadcastInDim S2x1024x4096 ![] bcast_S_S2x1024x4096 (constant S_ .f32 0x3F8E38E4#32)))
    (broadcastInDim S2x1024x4096 ![] bcast_S_S2x1024x4096 (constant S_ .f32 0x00000000#32)))) bitsLt_bf16_f32

theorem hR_row (i : S2048x4096.Idx) : hR m0 m1 m2 m3 (Shape.reshapeEquiv shapeCasts_S2x1024x4096_S2048x4096 i) = hAll (F := Ideal) m0 m1 m2 m3 i :=
  congrArg (fun z => hPt (F := Ideal) (shapeCast S2048x4096 m3 shapeCasts_S2x1024x4096_S2048x4096 i)
      (shapeCast S2048x4096 m1 shapeCasts_S2x1024x4096_S2048x4096 i) z
      (shapeCast S2048x4096 m0 shapeCasts_S2x1024x4096_S2048x4096 i)) (bias_at m2 i)

theorem h_eq : shapeCast S2048x4096 (hR m0 m1 m2 m3) shapeCasts_S2x1024x4096_S2048x4096 = hAll (F := Ideal) m0 m1 m2 m3 :=
  funext fun i => hR_row m0 m1 m2 m3 i

theorem hR_at (y : S2x1024.Idx) (k : Fin 4096) : hR m0 m1 m2 m3 (ix3 (y 0) (y 1) k) = hAll (F := Ideal) m0 m1 m2 m3 (atG (rowOf y) k.val) := by
  rw [← hR_row, at_row]
  have g0 : (y 0).val < 2 := (y 0).isLt
  have g1 : (y 1).val < 1024 := (y 1).isLt
  have gk := k.isLt
  refine congrArg (hR m0 m1 m2 m3) (funext fun a => Fin.ext ?_)
  match a with
  | ⟨0, _⟩ => show (y 0).val = (1024 * (y 0).val + (y 1).val) % 2048 / 1024; omega
  | ⟨1, _⟩ => show (y 1).val = (1024 * (y 0).val + (y 1).val) % 2048 % 1024; omega
  | ⟨2, _⟩ => show k.val = k.val % 4096; omega

theorem bits_d : Ideal.ofBits .f32 0x45800000#32 = ((4096 : ℝ) : EReal) := by
  simp [Ideal.ofBits, Ideal.ieee, -EReal.coe_mul]; norm_num

theorem bits_inv : invD = (((4096 : ℝ)⁻¹ : ℝ) : EReal) := by
  unfold invD
  simp [Ideal.ofBits, Ideal.ieee, -EReal.coe_mul]; norm_num

/-- A quotient by 4096 is a product with its reciprocal. -/
theorem div_d (x : EReal) : Ideal.div x (Ideal.ofBits .f32 0x45800000#32) = x * invD := by
  rw [bits_d, bits_inv, EReal.coe_inv]
  unfold Ideal.div
  rw [if_neg]
  intro h
  have := EReal.coe_eq_zero.mp h
  norm_num at this

/-- The reference's mean over the columns. -/
def avgR (v : FVec Ideal S2x1024x4096 .f32) : FVec Ideal S2x1024 .f32 :=
  Host.divf (Host.reduceAdd v (constant S_ .f32 0x00000000#32) reducesTo_S2x1024x4096_S2x1024_d2 h_S_) (broadcastInDim S2x1024 ![] bcast_S_S2x1024 (constant S_ .f32 0x45800000#32))

theorem avgR_at (v : FVec Ideal S2x1024x4096 .f32) (y : S2x1024.Idx) (f : Nat → EReal) (h : ∀ k : Fin 4096, v (ix3 (y 0) (y 1) k) = f k.val) :
    avgR v y = (∑ k ∈ Finset.range 4096, f k) * invD := by
  unfold avgR
  show Ideal.div (Ideal.hostReduceAdd reducesTo_S2x1024x4096_S2x1024_d2 v (Ideal.ofBits .f32 0x00000000#32) y) (Ideal.ofBits .f32 0x45800000#32) = _
  rw [div_d, Ideal.ofBits_zero_f32, Ideal.hostReduceAdd_r3_a2, zero_add, ← Fin.sum_univ_eq_sum_range]
  exact congrArg (· * invD) (Finset.sum_congr rfl fun k _ => h k)

def meanR : FVec Ideal S2x1024 .f32 := avgR (extf .f32 (hR m0 m1 m2 m3) bitsLt_bf16_f32)

theorem mean_eq : meanR m0 m1 m2 m3 = fun y => meanOf (hAll (F := Ideal) m0 m1 m2 m3) (rowOf y) := by
  funext y
  exact avgR_at _ y _ fun k => hR_at m0 m1 m2 m3 y k

def centredR : FVec Ideal S2x1024x4096 .f32 :=
  subf (extf .f32 (hR m0 m1 m2 m3) bitsLt_bf16_f32) (broadcastInDim S2x1024x4096 ![0, 1, 2] bcast_S2x1024x1_S2x1024x4096_0_1_2
    (broadcastInDim S2x1024x1 ![0, 1] bcast_S2x1024_S2x1024x1_0_1 (meanR m0 m1 m2 m3)))

theorem col_at {α : Type} (v : S2x1024.Idx → α) (y : S2x1024.Idx) (k : Fin 4096) : broadcastInDim S2x1024x4096 ![0, 1, 2] bcast_S2x1024x1_S2x1024x4096_0_1_2
    (broadcastInDim S2x1024x1 ![0, 1] bcast_S2x1024_S2x1024x1_0_1 v) (ix3 (y 0) (y 1) k) = v y := by
  let z : S2x1024x1.Idx := fun a => match a with | ⟨0, _⟩ => y 0 | ⟨1, _⟩ => y 1 | ⟨2, _⟩ => (0 : Fin 1)
  refine (broadcastInDim_apply _ _ _ _ z fun a => ?_).trans (broadcastInDim_apply _ _ _ _ y fun a => ?_)
  · match a with
    | ⟨0, _⟩ => rfl
    | ⟨1, _⟩ => rfl
    | ⟨2, _⟩ => rfl
  · match a with
    | ⟨0, _⟩ => rfl
    | ⟨1, _⟩ => rfl

theorem centredR_at (y : S2x1024.Idx) (k : Fin 4096) : centredR m0 m1 m2 m3 (ix3 (y 0) (y 1) k) = cOf (hAll (F := Ideal) m0 m1 m2 m3) (rowOf y) k.val := by
  unfold centredR cOf
  rw [← hR_at, ← congrFun (mean_eq m0 m1 m2 m3) y, ← col_at (meanR m0 m1 m2 m3) y k]
  rfl

def rstdR : FVec Ideal S2x1024 .f32 :=
  Host.rsqrt (addf (avgR (mulf (centredR m0 m1 m2 m3) (centredR m0 m1 m2 m3))) (broadcastInDim S2x1024 ![] bcast_S_S2x1024 (constant S_ .f32 0x3727C5AC#32)))

theorem rstd_eq : rstdR m0 m1 m2 m3 = fun y => rstdOf (hAll (F := Ideal) m0 m1 m2 m3) (rowOf y) := by
  funext y
  show Ideal.rsqrt (avgR (mulf (centredR m0 m1 m2 m3) (centredR m0 m1 m2 m3)) y + eps) = Ideal.rsqrt _
  refine congrArg (fun z : EReal => Ideal.rsqrt (z + eps)) (avgR_at _ y _ fun k => ?_)
  show (centredR m0 m1 m2 m3 (ix3 (y 0) (y 1) k) : EReal) * centredR m0 m1 m2 m3 (ix3 (y 0) (y 1) k) = _
  rw [centredR_at]

end Cert.Ref

end
-- ==== Proof.KernelIdeal.Expo.lean ====
/- The exponent of a block of codes over the extended reals: the kernel's, found by comparisons and products by powers
   of two, is that of the reference, found by logarithms. -/
module

public import proofs.«01_k».proof.Proof.KernelIdeal.Loop
public import Idealize.ShloMosaic.PureOps.Ideal.Laws
public import Mathlib.Analysis.SpecialFunctions.Log.Basic

@[expose] public section

noncomputable section

namespace Cert.KernelIdeal.Loop

open Idealize.ShloMosaic Idealize.SL.Sem Cert.KernelIdeal.Gen

/-! ## Powers of two by their words -/

theorem word_sign : ∀ n : Fin 255, (BitVec.extractLsb' (8 + 23) 1 (BitVec.ofNat 32 (n.val * 2 ^ 23)) == 1#1) = false := by decide +kernel
theorem word_exp : ∀ n : Fin 255, (BitVec.extractLsb' 23 8 (BitVec.ofNat 32 (n.val * 2 ^ 23))).toNat = n.val := by decide +kernel
theorem word_frac : ∀ n : Fin 255, (BitVec.extractLsb' 0 23 (BitVec.ofNat 32 (n.val * 2 ^ 23))).toNat = 0 := by decide +kernel

/-- The word with exponent field `n` and no fraction is `2 ^ (n - 127)`. -/
theorem pow_bits (n : Nat) (h0 : 0 < n) (h1 : n < 255) : Ideal.ofBits .f32 (BitVec.ofNat 32 (n * 2 ^ 23)) = (((2 : ℝ) ^ ((n : ℤ) - 127) : ℝ) : EReal) := by
  show Ideal.ieee 8 23 (BitVec.ofNat 32 (n * 2 ^ 23)) = _
  unfold Ideal.ieee
  have e1 := word_sign ⟨n, h1⟩
  have e2 := word_exp ⟨n, h1⟩
  have e3 := word_frac ⟨n, h1⟩
  dsimp only at e1 e2 e3 ⊢
  rw [e1, e2, e3, if_neg (by omega), if_neg (by omega)]
  refine congrArg _ ?_
  have h2 : (2 : ℝ) ≠ 0 := by norm_num
  rw [show ((n : ℤ) - (2 ^ (8 - 1) - 1) - ((23 : ℕ) : ℤ)) = ((n : ℤ) - 127) - 23 by norm_num, zpow_sub₀ h2 ((n : ℤ) - 127) 23]
  norm_num
  field_simp

theorem w119 : Ideal.ofBits .f32 0x7B000000#32 = (((2 : ℝ) ^ (119 : ℤ) : ℝ) : EReal) := by simpa using pow_bits 246 (by decide) (by decide)
theorem w0 : Ideal.ofBits .f32 0x3F800000#32 = (((2 : ℝ) ^ (0 : ℤ) : ℝ) : EReal) := by simpa using pow_bits 127 (by decide) (by decide)
theorem w126 : Ideal.ofBits .f32 0x7E800000#32 = (((2 : ℝ) ^ (126 : ℤ) : ℝ) : EReal) := by simpa using pow_bits 253 (by decide) (by decide)
theorem wm126 : Ideal.ofBits .f32 0x00800000#32 = (((2 : ℝ) ^ (-126 : ℤ) : ℝ) : EReal) := by simpa using pow_bits 1 (by decide) (by decide)

/-! ## The search -/

/-- One step of the search: the value is taken below `c` by the factor `ci`, and `k` is counted. -/
def stepS (c ci : EReal) (k : BitVec 32) (p : EReal × BitVec 32) : EReal × BitVec 32 :=
  (Scalar.select (Ideal.cmp .oge p.1 c) (p.1 * ci) p.1, Scalar.select (Ideal.cmp .oge p.1 c) (IntOp.addi p.2 k) p.2)

/-- The search's start. -/
def startS (x : EReal) : EReal × BitVec 32 :=
  (Scalar.select (Ideal.cmp .olt x (Ideal.ofBits .f32 0x3F800000#32)) (x * Ideal.ofBits .f32 0x7E800000#32) x,
    Scalar.select (Ideal.cmp .olt x (Ideal.ofBits .f32 0x3F800000#32)) 1#32 127#32)

def searchS (x : EReal) : EReal × BitVec 32 :=
  stepS (Ideal.ofBits .f32 0x40000000#32) (Ideal.ofBits .f32 0x3F000000#32) 1#32
  (stepS (Ideal.ofBits .f32 0x40800000#32) (Ideal.ofBits .f32 0x3E800000#32) 2#32
  (stepS (Ideal.ofBits .f32 0x41800000#32) (Ideal.ofBits .f32 0x3D800000#32) 4#32
  (stepS (Ideal.ofBits .f32 0x43800000#32) (Ideal.ofBits .f32 0x3B800000#32) 8#32
  (stepS (Ideal.ofBits .f32 0x47800000#32) (Ideal.ofBits .f32 0x37800000#32) 16#32
  (stepS (Ideal.ofBits .f32 0x4F800000#32) (Ideal.ofBits .f32 0x2F800000#32) 32#32
  (stepS (Ideal.ofBits .f32 0x5F800000#32) (Ideal.ofBits .f32 0x1F800000#32) 64#32 (startS x)))))))

/-- The exponent field of one element. -/
def fieldS (v : EReal) : BitVec 32 :=
  Scalar.select (Ideal.cmp .olt (min v (Ideal.ofBits .f32 0x7B000000#32)) (Ideal.ofBits .f32 0x00800000#32)) 0#32
    (searchS (min v (Ideal.ofBits .f32 0x7B000000#32))).2

/-- A step on 32 rows of 128 lanes. -/
def stepV (c ci : Ideal .f32) (k : BitVec 32) (p : FVec Ideal S32x128 .f32 × IVec S32x128 32) : FVec Ideal S32x128 .f32 × IVec S32x128 32 :=
  (select (cmpf .oge p.1 (broadcast S32x128 c)) (mulf p.1 (broadcast S32x128 ci)) p.1, select (cmpf .oge p.1 (broadcast S32x128 c)) (addi p.2 (broadcast S32x128 k)) p.2)

def startV (x : FVec Ideal S32x128 .f32) : FVec Ideal S32x128 .f32 × IVec S32x128 32 :=
  (select (cmpf .olt x (broadcast S32x128 (Scalar.ofBits .f32 0x3F800000#32))) (mulf x (broadcast S32x128 (Scalar.ofBits .f32 0x7E800000#32))) x,
    select (cmpf .olt x (broadcast S32x128 (Scalar.ofBits .f32 0x3F800000#32))) (broadcast S32x128 1#32) (broadcast S32x128 127#32))

def searchV (x : FVec Ideal S32x128 .f32) : FVec Ideal S32x128 .f32 × IVec S32x128 32 :=
  stepV (Scalar.ofBits .f32 0x40000000#32) (Scalar.ofBits .f32 0x3F000000#32) 1#32
  (stepV (Scalar.ofBits .f32 0x40800000#32) (Scalar.ofBits .f32 0x3E800000#32) 2#32
  (stepV (Scalar.ofBits .f32 0x41800000#32) (Scalar.ofBits .f32 0x3D800000#32) 4#32
  (stepV (Scalar.ofBits .f32 0x43800000#32) (Scalar.ofBits .f32 0x3B800000#32) 8#32
  (stepV (Scalar.ofBits .f32 0x47800000#32) (Scalar.ofBits .f32 0x37800000#32) 16#32
  (stepV (Scalar.ofBits .f32 0x4F800000#32) (Scalar.ofBits .f32 0x2F800000#32) 32#32
  (stepV (Scalar.ofBits .f32 0x5F800000#32) (Scalar.ofBits .f32 0x1F800000#32) 64#32 (startV x)))))))

set_option maxHeartbeats 1000000 in
theorem fieldV_eq (v : FVec Ideal S32x128 .f32) : fieldV (F := Ideal) v
    = select (cmpf .olt (minimumf v (broadcast S32x128 (Scalar.ofBits .f32 0x7B000000#32))) (broadcast S32x128 (Scalar.ofBits .f32 0x00800000#32))) (broadcast S32x128 0#32)
      (searchV (minimumf v (broadcast S32x128 (Scalar.ofBits .f32 0x7B000000#32)))).2 := by
  unfold fieldV
  dsimp only [searchV, stepV, startV]

theorem stepV_at {p : FVec Ideal S32x128 .f32 × IVec S32x128 32} {i : S32x128.Idx} {q : EReal × BitVec 32} (h : (p.1 i, p.2 i) = q) (c ci : Ideal .f32) (k : BitVec 32) :
    ((stepV c ci k p).1 i, (stepV c ci k p).2 i) = stepS c ci k q := by rw [← h]; rfl

theorem searchV_at (x : FVec Ideal S32x128 .f32) (i : S32x128.Idx) : ((searchV x).1 i, (searchV x).2 i) = searchS (x i) := by
  unfold searchV searchS
  exact stepV_at (stepV_at (stepV_at (stepV_at (stepV_at (stepV_at (stepV_at (q := startS (x i)) rfl _ _ _) _ _ _) _ _ _) _ _ _) _ _ _) _ _ _) _ _ _

theorem fieldV_at (v : FVec Ideal S32x128 .f32) (i : S32x128.Idx) : fieldV (F := Ideal) v i = fieldS (v i) := by
  rw [fieldV_eq]
  have h := congrArg Prod.snd (searchV_at (minimumf v (broadcast S32x128 (Scalar.ofBits .f32 0x7B000000#32))) i)
  dsimp only at h
  unfold fieldS
  generalize searchV (minimumf v (broadcast S32x128 (Scalar.ofBits .f32 0x7B000000#32))) = q at h ⊢
  have e : (minimumf v (broadcast S32x128 (Scalar.ofBits .f32 0x7B000000#32)) : FVec Ideal S32x128 .f32) i = min (v i) (Ideal.ofBits .f32 0x7B000000#32) := rfl
  rw [e] at h
  rw [← h]
  rfl

theorem sel_of {α : Type} (p : Prop) [Decidable p] (x y : α) : Scalar.select (BitVec.ofBool (decide p)) x y = if p then x else y := by
  by_cases h : p
  · rw [if_pos h, decide_eq_true h]; rfl
  · rw [if_neg h, decide_eq_false h]; rfl

theorem sel_ge (x y : EReal) {α : Type} (a b : α) : Scalar.select (Ideal.cmp .oge x y) a b = if y ≤ x then a else b := sel_of _ _ _
theorem sel_lt (x y : EReal) {α : Type} (a b : α) : Scalar.select (Ideal.cmp .olt x y) a b = if x < y then a else b := sel_of _ _ _

/-- The value is in `[2 ^ j, 2 ^ (j + 1))` and `f` is counted. -/
def St (p : EReal × BitVec 32) (f j : Nat) : Prop := ∃ m : ℝ, p.1 = (m : EReal) ∧ p.2 = BitVec.ofNat 32 f ∧ (2 : ℝ) ^ j ≤ m ∧ m < (2 : ℝ) ^ (j + 1)

theorem St.step {p : EReal × BitVec 32} {f j : Nat} (h : St p f j) (k : Nat) {c ci : EReal} (hc : c = (((2 : ℝ) ^ k : ℝ) : EReal)) (hi : ci = ((((2 : ℝ) ^ k)⁻¹ : ℝ) : EReal)) (hj : j < 2 * k) :
    ∃ f' j', St (stepS c ci (BitVec.ofNat 32 k) p) f' j' ∧ f' + j' = f + j ∧ j' < k := by
  obtain ⟨m, h1, h2, h3, h4⟩ := h
  unfold stepS
  rw [h1, h2, hc, hi, sel_ge, sel_ge]
  by_cases hk : k ≤ j
  · have hm : (2 : ℝ) ^ k ≤ m := (pow_le_pow_right₀ (by norm_num) hk).trans h3
    rw [if_pos (by exact_mod_cast hm), if_pos (by exact_mod_cast hm)]
    refine ⟨f + k, j - k, ⟨m * ((2 : ℝ) ^ k)⁻¹, by rw [EReal.coe_mul], ?_, ?_, ?_⟩, by omega, by omega⟩
    · show BitVec.ofNat 32 f + BitVec.ofNat 32 k = _
      rw [← BitVec.ofNat_add]
    · rw [← div_eq_mul_inv, le_div_iff₀ (by positivity), ← pow_add]
      rwa [Nat.sub_add_cancel hk]
    · rw [← div_eq_mul_inv, div_lt_iff₀ (by positivity), ← pow_add]
      rwa [show j - k + 1 + k = j + 1 by omega]
  · have hm : m < (2 : ℝ) ^ k := lt_of_lt_of_le h4 (pow_le_pow_right₀ (by norm_num) (by omega))
    rw [if_neg (by rw [not_le]; exact_mod_cast hm), if_neg (by rw [not_le]; exact_mod_cast hm)]
    exact ⟨f, j, ⟨m, rfl, rfl, h3, h4⟩, rfl, by omega⟩

theorem search_St (x : EReal) {f j : Nat} (h : St (startS x) f j) (hj : j < 128) : (searchS x).2 = BitVec.ofNat 32 (f + j) := by
  have up (k : Nat) (hk : k < 128) (b : BitVec 32) (e : b = BitVec.ofNat 32 ((127 + k) * 2 ^ 23)) : Ideal.ofBits .f32 b = (((2 : ℝ) ^ k : ℝ) : EReal) := by
    rw [e, pow_bits _ (by omega) (by omega), show (((127 + k : ℕ) : ℤ) - 127) = (k : ℤ) by push_cast; ring, zpow_natCast]
  have dn (k : Nat) (hk : k < 127) (b : BitVec 32) (e : b = BitVec.ofNat 32 ((127 - k) * 2 ^ 23)) : Ideal.ofBits .f32 b = ((((2 : ℝ) ^ k)⁻¹ : ℝ) : EReal) := by
    rw [e, pow_bits _ (by omega) (by omega), show (((127 - k : ℕ) : ℤ) - 127) = -(k : ℤ) by omega, zpow_neg, zpow_natCast]
  unfold searchS
  obtain ⟨f1, j1, h1, e1, l1⟩ := h.step 64 (up 64 (by decide) 0x5F800000#32 rfl) (dn 64 (by decide) 0x1F800000#32 rfl) hj
  obtain ⟨f2, j2, h2, e2, l2⟩ := h1.step 32 (up 32 (by decide) 0x4F800000#32 rfl) (dn 32 (by decide) 0x2F800000#32 rfl) l1
  obtain ⟨f3, j3, h3, e3, l3⟩ := h2.step 16 (up 16 (by decide) 0x47800000#32 rfl) (dn 16 (by decide) 0x37800000#32 rfl) l2
  obtain ⟨f4, j4, h4, e4, l4⟩ := h3.step 8 (up 8 (by decide) 0x43800000#32 rfl) (dn 8 (by decide) 0x3B800000#32 rfl) l3
  obtain ⟨f5, j5, h5, e5, l5⟩ := h4.step 4 (up 4 (by decide) 0x41800000#32 rfl) (dn 4 (by decide) 0x3D800000#32 rfl) l4
  obtain ⟨f6, j6, h6, e6, l6⟩ := h5.step 2 (up 2 (by decide) 0x40800000#32 rfl) (dn 2 (by decide) 0x3E800000#32 rfl) l5
  obtain ⟨f7, j7, h7, e7, l7⟩ := h6.step 1 (up 1 (by decide) 0x40000000#32 rfl) (dn 1 (by decide) 0x3F000000#32 rfl) l6
  obtain ⟨m, -, h8, -, -⟩ := h7
  refine h8.trans (congrArg _ ?_)
  omega

/-- The field of a value in `[2 ^ n, 2 ^ (n + 1))`. -/
theorem fieldS_of (v : EReal) (x : ℝ) (n : ℤ) (hx : min v (Ideal.ofBits .f32 0x7B000000#32) = (x : EReal)) (h0 : -126 ≤ n) (h1 : n ≤ 119) (hl : (2 : ℝ) ^ n ≤ x) (hu : x < (2 : ℝ) ^ (n + 1)) :
    fieldS v = BitVec.ofNat 32 (n + 127).toNat := by
  have one : (1 : ℝ) < 2 := by norm_num
  unfold fieldS
  rw [hx, sel_lt, wm126, if_neg (by
    rw [not_lt]
    exact_mod_cast (zpow_le_zpow_right₀ one.le h0).trans hl)]
  by_cases hn : n < 0
  · have hs : (x : EReal) < (((2 : ℝ) ^ (0 : ℤ) : ℝ) : EReal) := by
      exact EReal.coe_lt_coe_iff.mpr (lt_of_lt_of_le hu (zpow_le_zpow_right₀ one.le (by omega)))
    have hst : St (startS (x : EReal)) 1 (n + 126).toNat := by
      unfold startS
      rw [sel_lt, sel_lt, w0, if_pos hs, if_pos hs, w126]
      refine ⟨x * (2 : ℝ) ^ (126 : ℤ), by rw [EReal.coe_mul], rfl, ?_, ?_⟩
      · rw [← zpow_natCast, show ((n + 126).toNat : ℤ) = n + 126 by omega, zpow_add₀ (by norm_num)]
        exact mul_le_mul_of_nonneg_right hl (by positivity)
      · rw [← zpow_natCast, show (((n + 126).toNat + 1 : ℕ) : ℤ) = (n + 1) + 126 by omega, zpow_add₀ (by norm_num)]
        exact mul_lt_mul_of_pos_right hu (by positivity)
    rw [search_St _ hst (by omega)]
    exact congrArg _ (by omega)
  · have hs : ¬ (x : EReal) < (((2 : ℝ) ^ (0 : ℤ) : ℝ) : EReal) := by
      rw [not_lt]
      exact EReal.coe_le_coe_iff.mpr ((zpow_le_zpow_right₀ one.le (by omega : (0 : ℤ) ≤ n)).trans hl)
    have hst : St (startS (x : EReal)) 127 n.toNat := by
      unfold startS
      rw [sel_lt, sel_lt, w0, if_neg hs, if_neg hs]
      refine ⟨x, rfl, rfl, ?_, ?_⟩
      · rwa [← zpow_natCast, show (n.toNat : ℤ) = n by omega]
      · rwa [← zpow_natCast, show ((n.toNat + 1 : ℕ) : ℤ) = n + 1 by omega]
    rw [search_St _ hst (by omega)]
    exact congrArg _ (by omega)

theorem fieldS_zero (v : EReal) (h : min v (Ideal.ofBits .f32 0x7B000000#32) < (((2 : ℝ) ^ (-126 : ℤ) : ℝ) : EReal)) : fieldS v = 0#32 := by
  unfold fieldS
  rw [sel_lt, wm126, if_pos h]

/-! ## The scale and its reciprocal -/

/-- The exponent of a block whose largest magnitude is `A`. -/
def expS (A : EReal) : BitVec 32 :=
  Scalar.select (IntOp.cmpi .eq (fieldS (A * Ideal.ofBits .f32 0x3B124925#32)) 0#32) 0#32 (IntOp.subi (fieldS (A * Ideal.ofBits .f32 0x3B124925#32)) 126#32)

def scaleS (A : EReal) : EReal := Ideal.ofBits .f32 (IntOp.shli .vector (IntOp.addi 127#32 (expS A)) 23#32)
def invS (A : EReal) : EReal := Ideal.ofBits .f32 (IntOp.shli .vector (IntOp.subi 127#32 (expS A)) 23#32)

theorem invV_at (a : FVec Ideal S32x128 .f32) (i : S32x128.Idx) : invV (F := Ideal) a i = invS (a i) := by
  unfold invV expV
  show Ideal.ofBits .f32 (IntOp.shli .vector (IntOp.subi 127#32 (Scalar.select (IntOp.cmpi .eq (fieldV (F := Ideal) (mulf a (broadcast S32x128 (Scalar.ofBits .f32 0x3B124925#32))) i) 0#32) 0#32
    (IntOp.subi (fieldV (F := Ideal) (mulf a (broadcast S32x128 (Scalar.ofBits .f32 0x3B124925#32))) i) 126#32))) 23#32) = _
  rw [fieldV_at]
  rfl

/-- The words of the scales, before the lanes past the blocks are dropped. -/
def scaleAll (a : FVec Ideal S32x128 .f32) : FVec Ideal S32x128 .f32 :=
  bitcastToFloat .f32 (shli (addi (broadcast S32x128 127#32) (expV (F := Ideal) a)) (broadcast S32x128 23#32))

theorem scaleAll_at (a : FVec Ideal S32x128 .f32) (i : S32x128.Idx) : scaleAll a i = scaleS (a i) := by
  unfold scaleAll expV
  show Ideal.ofBits .f32 (IntOp.shli .vector (IntOp.addi 127#32 (Scalar.select (IntOp.cmpi .eq (fieldV (F := Ideal) (mulf a (broadcast S32x128 (Scalar.ofBits .f32 0x3B124925#32))) i) 0#32) 0#32
    (IntOp.subi (fieldV (F := Ideal) (mulf a (broadcast S32x128 (Scalar.ofBits .f32 0x3B124925#32))) i) 126#32))) 23#32) = _
  rw [fieldV_at]
  rfl

/-- The exponent by logarithms. -/
def expR (A : EReal) : EReal :=
  Scalar.select (Ideal.cmp .olt (min A (Ideal.ofBits .f32 0x7F7FFFFF#32) * Ideal.ofBits .f32 0x3B124925#32) (Ideal.ofBits .f32 0x00800000#32)) (Ideal.ofBits .f32 0x00000000#32)
    (Ideal.liftRound Int.floor (Ideal.div (Ideal.log (min A (Ideal.ofBits .f32 0x7F7FFFFF#32) * Ideal.ofBits .f32 0x3B124925#32)) (Ideal.log (Ideal.ofBits .f32 0x40000000#32)))
      + Ideal.ofBits .f32 0x3F800000#32)

theorem exp_words : ∀ N : Fin 247, IntOp.shli .vector (IntOp.addi 127#32 (Scalar.select (IntOp.cmpi .eq (BitVec.ofNat 32 N.val) 0#32) 0#32 (IntOp.subi (BitVec.ofNat 32 N.val) 126#32))) 23#32
      = BitVec.ofNat 32 ((if N.val = 0 then 127 else N.val + 1) * 2 ^ 23)
    ∧ IntOp.shli .vector (IntOp.subi 127#32 (Scalar.select (IntOp.cmpi .eq (BitVec.ofNat 32 N.val) 0#32) 0#32 (IntOp.subi (BitVec.ofNat 32 N.val) 126#32))) 23#32
      = BitVec.ofNat 32 ((if N.val = 0 then 127 else 253 - N.val) * 2 ^ 23) := by decide +kernel

theorem bits_c : Ideal.ofBits .f32 0x3B124925#32 = (((9586981 : ℝ) / 2 ^ 32 : ℝ) : EReal) := by
  simp [Ideal.ofBits, Ideal.ieee, -EReal.coe_mul]; norm_num

theorem bits_max : Ideal.ofBits .f32 0x7F7FFFFF#32 = (((16777215 : ℝ) * 2 ^ 104 : ℝ) : EReal) := by
  simp [Ideal.ofBits, Ideal.ieee, -EReal.coe_mul]

/-- The largest power of two not above `v` is `2 ^ lg v`. -/
def lg (v : ℝ) : ℤ := ⌊Real.log v / Real.log 2⌋

theorem lg_le (v : ℝ) (h : 0 < v) : (2 : ℝ) ^ lg v ≤ v := by
  have h2 : 0 < Real.log 2 := Real.log_pos (by norm_num)
  rw [← Real.log_le_log_iff (by positivity) h, Real.log_zpow, ← le_div_iff₀ h2]
  exact Int.floor_le _

theorem lt_lg (v : ℝ) (h : 0 < v) : v < (2 : ℝ) ^ (lg v + 1) := by
  have h2 : 0 < Real.log 2 := Real.log_pos (by norm_num)
  rw [← Real.log_lt_log_iff h (by positivity), Real.log_zpow, ← div_lt_iff₀ h2]
  push_cast
  exact Int.lt_floor_add_one _

/-- The reference's exponent of a positive value. -/
theorem floor_log (v : ℝ) (h : 0 < v) : Ideal.liftRound Int.floor (Ideal.div (Ideal.log (v : EReal)) (Ideal.log (Ideal.ofBits .f32 0x40000000#32)))
      + Ideal.ofBits .f32 0x3F800000#32 = (((lg v + 1 : ℤ) : ℝ) : EReal) := by
  have e2 : Ideal.ofBits .f32 0x40000000#32 = ((2 : ℝ) : EReal) := by simpa using pow_bits 128 (by decide) (by decide)
  have hl : Real.log 2 ≠ 0 := (Real.log_pos (by norm_num)).ne'
  rw [e2, w0, Ideal.log_coe, Ideal.log_coe, if_neg (not_le.mpr h), if_neg (by norm_num), Ideal.div_coe hl, ← EReal.coe_mul, Ideal.liftRound_coe, mul_one_div, ← EReal.coe_add]
  unfold lg
  norm_num

/-- The two exponents are one. -/
theorem exp_eq (A : EReal) (hA : 0 ≤ A) : ∃ N : Fin 247, fieldS (A * Ideal.ofBits .f32 0x3B124925#32) = BitVec.ofNat 32 N.val
    ∧ expR A = (((if N.val = 0 then 0 else (N.val : ℤ) - 126 : ℤ) : ℝ) : EReal) := by
  have one : (1 : ℝ) < 2 := by norm_num
  have hc : (0 : ℝ) < 9586981 / 2 ^ 32 := by norm_num
  -- the values that the two take the exponent of
  obtain ⟨v, x, hv, hx, h120, hvx⟩ : ∃ v x : ℝ, min A (Ideal.ofBits .f32 0x7F7FFFFF#32) * Ideal.ofBits .f32 0x3B124925#32 = (v : EReal)
      ∧ min (A * Ideal.ofBits .f32 0x3B124925#32) (Ideal.ofBits .f32 0x7B000000#32) = (x : EReal) ∧ v < (2 : ℝ) ^ (120 : ℤ)
      ∧ ((v < (2 : ℝ) ^ (119 : ℤ) ∧ x = v) ∨ ((2 : ℝ) ^ (119 : ℤ) ≤ v ∧ x = (2 : ℝ) ^ (119 : ℤ))) := by
    rw [bits_c, bits_max, w119]
    induction A using EReal.rec with
    | bot => exact absurd hA (by simp)
    | top =>
      refine ⟨16777215 * 2 ^ 104 * (9586981 / 2 ^ 32), (2 : ℝ) ^ (119 : ℤ), ?_, ?_, by norm_num, .inr ⟨by norm_num, rfl⟩⟩
      · rw [min_eq_right le_top, ← EReal.coe_mul]
      · rw [EReal.top_mul_coe_of_pos hc, min_eq_right le_top]
    | coe a =>
      have mc : ∀ p q : ℝ, min (p : EReal) (q : EReal) = ((min p q : ℝ) : EReal) := fun p q => (EReal.coe_strictMono.monotone.map_min).symm
      refine ⟨min a (16777215 * 2 ^ 104) * (9586981 / 2 ^ 32), min (a * (9586981 / 2 ^ 32)) ((2 : ℝ) ^ (119 : ℤ)), ?_, ?_, ?_, ?_⟩
      · rw [mc, EReal.coe_mul]
      · rw [← EReal.coe_mul, mc]
      · refine lt_of_le_of_lt (mul_le_mul_of_nonneg_right (min_le_right _ _) hc.le) (by norm_num)
      · by_cases h : min a (16777215 * 2 ^ 104) * (9586981 / 2 ^ 32) < (2 : ℝ) ^ (119 : ℤ)
        · refine .inl ⟨h, ?_⟩
          have ha : a < 16777215 * 2 ^ 104 := by
            by_contra hh
            rw [min_eq_right (not_lt.mp hh)] at h
            norm_num at h
          rw [min_eq_left ha.le] at h ⊢
          exact min_eq_left h.le
        · refine .inr ⟨not_lt.mp h, min_eq_right ((not_lt.mp h).trans (mul_le_mul_of_nonneg_right (min_le_left _ _) hc.le))⟩
  unfold expR
  rw [hv, sel_lt, wm126]
  have h119 : (2 : ℝ) ^ (-126 : ℤ) < (2 : ℝ) ^ (119 : ℤ) := zpow_lt_zpow_right₀ one (by norm_num)
  by_cases hs : v < (2 : ℝ) ^ (-126 : ℤ)
  · refine ⟨0, ?_, ?_⟩
    · refine fieldS_zero _ ?_
      rw [hx]
      rcases hvx with ⟨-, e⟩ | ⟨h, -⟩
      · rw [e]; exact_mod_cast hs
      · linarith
    · rw [if_pos (by exact_mod_cast hs), Ideal.ofBits_zero_f32]
      simp
  · have hpos : 0 < v := lt_of_lt_of_le (by positivity) (not_lt.mp hs)
    have l1 := lg_le v hpos
    have l2 := lt_lg v hpos
    have n0 : -126 ≤ lg v := by
      by_contra hh
      exact hs (lt_of_lt_of_le l2 (zpow_le_zpow_right₀ one.le (by omega)))
    have n1 : lg v ≤ 119 := by
      by_contra hh
      exact absurd (lt_of_le_of_lt ((zpow_le_zpow_right₀ one.le (by omega : (120 : ℤ) ≤ lg v)).trans l1) h120) (lt_irrefl _)
    refine ⟨⟨(lg v + 127).toNat, by omega⟩, ?_, ?_⟩
    · refine fieldS_of _ x (lg v) hx n0 n1 ?_ ?_
      · rcases hvx with ⟨-, e⟩ | ⟨h, e⟩
        · rw [e]; exact l1
        · rw [e]; exact zpow_le_zpow_right₀ one.le n1
      · rcases hvx with ⟨-, e⟩ | ⟨h, e⟩
        · rw [e]; exact l2
        · rw [e]; exact lt_of_le_of_lt h l2
    · rw [if_neg (by exact_mod_cast hs), floor_log v hpos, if_neg (by show (lg v + 127).toNat ≠ 0; omega)]
      refine congrArg (fun z : ℤ => ((z : ℝ) : EReal)) ?_
      show lg v + 1 = ((lg v + 127).toNat : ℤ) - 126
      omega

theorem pow_two (z : ℤ) : Ideal.pow (Ideal.ofBits .f32 0x40000000#32) ((z : ℝ) : EReal) = (((2 : ℝ) ^ z : ℝ) : EReal) := by
  have e2 : Ideal.ofBits .f32 0x40000000#32 = ((2 : ℝ) : EReal) := by simpa using pow_bits 128 (by decide) (by decide)
  rw [e2, Ideal.pow_coe_coe]
  exact congrArg _ (Real.rpow_intCast 2 z)

/-- The kernel's scale is the power of two of the reference's exponent. -/
theorem scale_eq (A : EReal) (hA : 0 ≤ A) : scaleS A = Ideal.pow (Ideal.ofBits .f32 0x40000000#32) (expR A) := by
  obtain ⟨N, h1, h2⟩ := exp_eq A hA
  unfold scaleS expS
  rw [h1, h2, (exp_words N).1, pow_two, pow_bits _ (by split <;> omega) (by have := N.isLt; split <;> omega)]
  refine congrArg (fun z : ℤ => (((2 : ℝ) ^ z : ℝ) : EReal)) ?_
  split <;> push_cast <;> omega

theorem inv_eq (A : EReal) (hA : 0 ≤ A) : invS A = Ideal.pow (Ideal.ofBits .f32 0x40000000#32) (-expR A) := by
  obtain ⟨N, h1, h2⟩ := exp_eq A hA
  unfold invS expS
  rw [h1, h2, (exp_words N).2, ← EReal.coe_neg, ← Int.cast_neg, pow_two, pow_bits _ (by have := N.isLt; split <;> omega) (by have := N.isLt; split <;> omega)]
  refine congrArg (fun z : ℤ => (((2 : ℝ) ^ z : ℝ) : EReal)) ?_
  have := N.isLt
  split <;> push_cast <;> omega

end Cert.KernelIdeal.Loop

end
-- ==== Proof.KernelIdeal.Norm.lean ====
/- What a point's work leaves as the codes and the scales, over the extended reals. -/
module

public import proofs.«01_k».proof.Proof.KernelIdeal.Stats
public import proofs.«01_k».proof.Proof.KernelIdeal.Expo

@[expose] public section

noncomputable section

namespace Cert.KernelIdeal.Loop

open Idealize.ShloMosaic Idealize.SL.Sem Cert.Own Cert.KernelIdeal.Gen

/-! ## Values -/

/-- The largest magnitude of 128 values. -/
def amaxF (f : Nat → EReal) : EReal := (Finset.univ : Finset (Fin 128)).fold max (Ideal.ofBits .f32 0xFF800000#32) fun l => max (f l.val) (-f l.val)

theorem amaxF_nonneg (f : Nat → EReal) : 0 ≤ amaxF f := by
  unfold amaxF
  rw [Finset.le_fold_max]
  refine .inr ⟨0, Finset.mem_univ _, ?_⟩
  rcases le_total 0 (f 0) with h | h
  · exact le_max_of_le_left h
  · exact le_max_of_le_right (by rw [← neg_zero, EReal.neg_le_neg_iff]; exact h)

/-- The code of a value in a block whose largest magnitude is `A`. -/
def codeS (y A : EReal) : EReal := min (Ideal.ofBits .f32 0x43E00000#32) (max (Ideal.ofBits .f32 0xC3E00000#32) (y * invS A))

def atC (k : Nat) : S1x4096.Idx := fun a => match a with
  | ⟨0, _⟩ => (0 : Fin 1) | ⟨1, _⟩ => (⟨k % 4096, Nat.mod_lt _ (by decide)⟩ : Fin 4096)

/-- The normalised element. -/
def YN (b : Bufs Ideal) (r k : Nat) : EReal := CN b r k * rsN b r * (b.gamma (atC k) : EReal) + (b.beta (atC k) : EReal)

/-- The largest magnitude of block `k` of row `r`. -/
def AN (b : Bufs Ideal) (r k : Nat) : EReal := amaxF fun l => YN b r (128 * k + l)

theorem YN_same {b b' : Bufs Ideal} (h : Same b b') (r k : Nat) : YN b' r k = YN b r k := by unfold YN; rw [CN_same h, rsN_same h, h.gamma, h.beta]
theorem AN_same {b b' : Bufs Ideal} (h : Same b b') (r k : Nat) : AN b' r k = AN b r k := by unfold AN; simp only [YN_same h]

/-! ## The blocks -/

theorem bcast_row {α : Type} (v : S1x128.Idx → α) (j : S32x128.Idx) :
    broadcastTo S32x128 v broadcasts_S1x128_S32x128 j = v (fun a => match a with | ⟨0, _⟩ => (0 : Fin 1) | ⟨1, _⟩ => j 1) := by
  refine broadcastTo_apply _ _ j _ fun a => ?_
  match a with
  | ⟨0, _⟩ => rfl
  | ⟨1, _⟩ => rfl

theorem ld_row (k : Fin 32) (g : S1x4096.Idx → EReal) (j : S32x128.Idx) :
    broadcastTo S32x128 (shapeCast S1x128 (ld (rBlock1 k) g) shapeCasts_S1x128_S1x128 : FVec Ideal S1x128 .f32) broadcasts_S1x128_S32x128 j = g (atC (128 * k.val + (j 1).val)) := by
  refine (bcast_row _ j).trans ((congrFun (shapeCast_self _ _) _).trans ?_)
  have hk := k.isLt
  have hj : (j 1).val < 128 := (j 1).isLt
  refine congrArg g (funext fun a => Fin.ext ?_)
  match a with
  | ⟨0, _⟩ => rfl
  | ⟨1, _⟩ => show 128 * k.val + 1 * (j 1).val = (128 * k.val + (j 1).val) % 4096; omega

theorem yV_at (s : Fin 4) (b b' : Bufs Ideal) (hs : Same b b') (k : Fin 32) (hf : S32x4096.Idx → EReal) (h : ∀ y : S32x4096.Idx, hf y = CN b (32 * s.val + (y 0).val) (y 1).val) (j : S32x128.Idx) :
    yV (F := Ideal) (rowRstd s b) (ld (rBlock32 k) hf) (ld (rBlock1 k) b'.gamma) (ld (rBlock1 k) b'.beta) j = YN b (32 * s.val + (j 0).val) (128 * k.val + (j 1).val) := by
  have h0 : (((rBlock32 k).emb j) 0).val = (j 0).val := by show 0 + 1 * (j 0).val = _; omega
  have h1 : (((rBlock32 k).emb j) 1).val = 128 * k.val + (j 1).val := by show 128 * k.val + 1 * (j 1).val = _; omega
  unfold yV YN
  show (hf ((rBlock32 k).emb j) : EReal) * broadcastTo S32x128 (rowRstd s b) broadcasts_S32x1_S32x128 j
    * broadcastTo S32x128 (shapeCast S1x128 (ld (rBlock1 k) b'.gamma) shapeCasts_S1x128_S1x128 : FVec Ideal S1x128 .f32) broadcasts_S1x128_S32x128 j
    + broadcastTo S32x128 (shapeCast S1x128 (ld (rBlock1 k) b'.beta) shapeCasts_S1x128_S1x128 : FVec Ideal S1x128 .f32) broadcasts_S1x128_S32x128 j = _
  rw [h, h0, h1, bcast_col, rowRstd_at, ld_row, ld_row, hs.gamma, hs.beta]
  rfl

theorem lane_eq (l : Fin 128) (k : Fin 32) : IntOp.cmpi .eq (BitVec.ofNat 32 l.val) (BitVec.ofNat 32 k.val) = if l.val = k.val then 1#1 else 0#1 := by
  show BitVec.ofBool (BitVec.ofNat 32 l.val == BitVec.ofNat 32 k.val) = _
  by_cases h : l.val = k.val
  · rw [if_pos h, h]; simp
  · rw [if_neg h]
    have : BitVec.ofNat 32 l.val ≠ BitVec.ofNat 32 k.val := by
      intro e
      have := congrArg BitVec.toNat e
      simp only [BitVec.toNat_ofNat] at this
      omega
    rw [beq_eq_false_iff_ne.mpr this]; rfl

/-- The largest magnitudes after block `k`'s is put in lane `k`. -/
theorem amaxV_at (k : Fin 32) (amax y : FVec Ideal S32x128 .f32) (j : S32x128.Idx) (f : Nat → EReal) (hy : ∀ z : S32x128.Idx, (z 0).val = (j 0).val → y z = f (z 1).val) :
    amaxV (BitVec.ofNat 32 k.val) amax y j = if (j 1).val = k.val then amaxF f else amax j := by
  have e : broadcastTo S32x128 (shapeCast S32x1 (shapeCast S32x1
      (multiReduction .maximumf [1] S32 (absf y) 0xFF800000#32 reduces_S32x128_S32 (.inl rfl) rfl : FVec Ideal S32 .f32) shapeCasts_S32_S32x1 : FVec Ideal S32x1 .f32) shapeCasts_S32x1_S32x1 : FVec Ideal S32x1 .f32) broadcasts_S32x1_S32x128 j
      = amaxF f := by
    rw [bcast_col, shapeCast_self, cast_col]
    refine (Ideal.multiReduction_maximumf_single _ _ reduces_S32x128_S32 (.inl rfl) rfl _).trans ?_
    unfold amaxF
    refine congrArg (Finset.fold max (Ideal.ofBits .f32 0xFF800000#32) · Finset.univ) (funext fun l => ?_)
    exact congrArg (fun x : EReal => max x (-x)) (hy ((reduces_S32x128_S32 : S32x128.Reduces [1] S32).lift _ l) rfl)
  unfold amaxV
  show Scalar.select (IntOp.cmpi .eq (iota .tc S32x128 32 [1] iota_S32x128_d1_w32 j) (BitVec.ofNat 32 k.val)) _ (amax j) = _
  rw [iota_one]
  have hl := lane_eq ⟨(j 1).val, (j 1).isLt⟩ k
  dsimp only at hl
  rw [hl, e]
  by_cases h : (j 1).val = k.val
  · rw [if_pos h, if_pos h]; rfl
  · rw [if_neg h, if_neg h]; rfl

/-- After `m` blocks are normalised. -/
structure NInv (b : Bufs Ideal) (s : Fin 4) (m : Nat) (q : FVec Ideal S32x128 .f32 × Bufs Ideal) : Prop where
  amax : ∀ j : S32x128.Idx, (j 1).val < m → q.1 j = AN b (32 * s.val + (j 0).val) (j 1).val
  y : ∀ z : S32x4096.Idx, (z 1).val < 128 * m → q.2.y z = YN b (32 * s.val + (z 0).val) (z 1).val
  hf : ∀ z : S32x4096.Idx, q.2.hf z = CN b (32 * s.val + (z 0).val) (z 1).val
  same : Same b q.2

theorem NInv.step (b : Bufs Ideal) (s : Fin 4) (k : Fin 32) (q : FVec Ideal S32x128 .f32 × Bufs Ideal) (h : NInv b s k.val q) : NInv b s (k.val + 1) (normalP (rowRstd s b) k q) where
  same := h.same.trans (same_normal _ k q)
  hf z := h.hf z
  amax j hj := by
    refine (amaxV_at k q.1 _ j (fun l => YN b (32 * s.val + (j 0).val) (128 * k.val + l)) fun z hz => ?_).trans ?_
    · rw [yV_at s b q.2 h.same k q.2.hf h.hf, hz]
    · by_cases he : (j 1).val = k.val
      · rw [if_pos he, he]; rfl
      · rw [if_neg he, h.amax j (by omega)]
  y z hz := by
    show (rBlock32 k).overlay q.2.y (shapeCast S32x128 (yV (F := Ideal) (rowRstd s b) (ld (rBlock32 k) q.2.hf) (ld (rBlock1 k) q.2.gamma) (ld (rBlock1 k) q.2.beta)) shapeCasts_S32x128_S32x128 : FVec Ideal S32x128 .f32) z = _
    rw [shapeCast_self]
    by_cases hr : (z 1).val < 128 * k.val
    · rw [overlay_out _ _ _ _ _ _ 1 (.inl hr), h.y z hr]
    · refine (overlay_in _ _ _ _ _ z (fun a => match a with
        | ⟨0, _⟩ => z 0 | ⟨1, _⟩ => (⟨(z 1).val - 128 * k.val, by omega⟩ : Fin 128)) fun a => ?_).trans ?_
      · match a with
        | ⟨0, _⟩ => exact (Nat.zero_add _).symm
        | ⟨1, _⟩ => show (z 1).val = 128 * k.val + ((z 1).val - 128 * k.val); omega
      · refine (yV_at s b q.2 h.same k q.2.hf h.hf _).trans ?_
        refine congrArg (YN b _) ?_
        show 128 * k.val + ((z 1).val - 128 * k.val) = _; omega

theorem NInv.st4 (s : Fin 4) (b : Bufs Ideal) : NInv b s 32 (Loop.st4 s b) := by
  unfold Loop.st4
  refine upto_ind (normalP (rowRstd s b)) (fun k q => NInv b s k q) (fun k q hq => hq.step b s k q) (st := (zero128, (Loop.st3 s b).2)) ?_
  refine ⟨fun j hj => absurd hj (Nat.not_lt_zero _), fun z hz => absurd hz (Nat.not_lt_zero _), fun z => ?_, same_st3 s b⟩
  have : (z 1).val < 4096 := (z 1).isLt
  exact (CInv.st3 s b).done z (by omega)

/-! ## The codes and the scales -/

theorem keep_st4 {γ : Type} (g : Bufs Ideal → γ) (h1 : ∀ s t c q, g (stripP s t c q).2 = g q.2) (h2 : ∀ s t p b, g (maskP s t p b) = g b) (h3 : ∀ v k q, g (centreP v k q).2 = g q.2)
    (h4 : ∀ v k q, g (normalP v k q).2 = g q.2) (s : Fin 4) (b : Bufs Ideal) : g (Loop.st4 s b).2 = g b := by
  unfold Loop.st4
  refine (keep_upto g _ (h4 _) _ 32).trans ?_
  unfold Loop.st3
  refine (keep_upto g _ (h3 _) _ 32).trans ?_
  unfold Loop.st2
  refine (h2 _ _ _ _).trans ((h2 _ _ _ _).trans ?_)
  unfold Loop.st1
  refine (keep_upto g _ (h1 s 1) _ 8).trans ?_
  unfold st0
  exact keep_upto g _ (h1 s 0) _ 8

theorem keep_codes (s : Fin 4) (b : Bufs Ideal) : (Loop.st4 s b).2.codes = b.codes :=
  keep_st4 (fun b => b.codes) (fun _ _ _ _ => by unfold stripP; rfl) (fun _ _ _ _ => by unfold maskP; rfl) (fun _ _ _ => by unfold centreP; rfl) (fun _ _ _ => by unfold normalP; rfl) s b

theorem keep_scales (s : Fin 4) (b : Bufs Ideal) : (Loop.st4 s b).2.scales = b.scales :=
  keep_st4 (fun b => b.scales) (fun _ _ _ _ => by unfold stripP; rfl) (fun _ _ _ _ => by unfold maskP; rfl) (fun _ _ _ => by unfold centreP; rfl) (fun _ _ _ => by unfold normalP; rfl) s b

/-- The code of row `r` and column `k`. -/
def codeN (b : Bufs Ideal) (r k : Nat) : EReal := codeS (YN b r k) (AN b r (k / 128))

theorem codeV_at (k : Fin 32) (inv y : FVec Ideal S32x128 .f32) (j z : S32x128.Idx) (h0 : (z 0).val = (j 0).val) (h1 : (z 1).val = k.val) :
    codeV (F := Ideal) k inv y j = min (Ideal.ofBits .f32 0x43E00000#32) (max (Ideal.ofBits .f32 0xC3E00000#32) ((y j : EReal) * inv z)) := by
  unfold codeV
  show min (Ideal.ofBits .f32 0x43E00000#32) (max (Ideal.ofBits .f32 0xC3E00000#32) ((y j : EReal) *
    broadcastTo S32x128 (extractStridedSlice S32x1 ![0, k.val] inv (slices_col k) : FVec Ideal S32x1 .f32) broadcasts_S32x1_S32x128 j)) = _
  rw [bcast_col, extractStridedSlice_apply (s := S32x128) (t := S32x1) _ _ _ (at1 j) z fun a => ?_]
  match a with
  | ⟨0, _⟩ => show (z 0).val = 0 + (j 0).val; omega
  | ⟨1, _⟩ => show (z 1).val = k.val + 0; omega

/-- The codes are done in the first `32·n` rows, and in the first `m` blocks of the next 32. -/
def CDone (b : Bufs Ideal) (n m : Nat) (X : S128x4096.Idx → EReal) : Prop :=
  ∀ y : S128x4096.Idx, ((y 0).val < 32 * n ∨ ((y 0).val < 32 * n + 32 ∧ (y 1).val < 128 * m)) → X y = codeN b (y 0).val (y 1).val

theorem CDone.step (b : Bufs Ideal) (s : Fin 4) (amax : FVec Ideal S32x128 .f32) (k : Fin 32) (Y : S32x4096.Idx → EReal)
    (ha : ∀ j : S32x128.Idx, (j 1).val < 32 → amax j = AN b (32 * s.val + (j 0).val) (j 1).val) (hy : ∀ z : S32x4096.Idx, Y z = YN b (32 * s.val + (z 0).val) (z 1).val)
    (X : S128x4096.Idx → EReal) (h : CDone b s.val k.val X) : CDone b s.val (k.val + 1) ((rBlock s k).overlay X (codeV (F := Ideal) k (invV (F := Ideal) amax) (ld (rBlock32 k) Y))) := by
  intro y hyy
  by_cases hr : 32 * s.val ≤ (y 0).val ∧ (y 0).val < 32 * s.val + 32 ∧ 128 * k.val ≤ (y 1).val ∧ (y 1).val < 128 * k.val + 128
  · let j : S32x128.Idx := fun a => match a with
      | ⟨0, _⟩ => (⟨(y 0).val - 32 * s.val, by omega⟩ : Fin 32) | ⟨1, _⟩ => (⟨(y 1).val - 128 * k.val, by omega⟩ : Fin 128)
    let z : S32x128.Idx := fun a => match a with
      | ⟨0, _⟩ => (⟨(y 0).val - 32 * s.val, by omega⟩ : Fin 32) | ⟨1, _⟩ => (⟨k.val, by have := k.isLt; omega⟩ : Fin 128)
    refine (overlay_in _ _ _ _ _ y j fun a => ?_).trans ?_
    · match a with
      | ⟨0, _⟩ => show (y 0).val = 32 * s.val + ((y 0).val - 32 * s.val); omega
      | ⟨1, _⟩ => show (y 1).val = 128 * k.val + ((y 1).val - 128 * k.val); omega
    · rw [codeV_at k _ _ j z rfl rfl, invV_at, ha z k.isLt]
      unfold codeN codeS
      have h0 : (((rBlock32 k).emb j) 0).val = (y 0).val - 32 * s.val := by show 0 + 1 * ((y 0).val - 32 * s.val) = _; omega
      have h1 : (((rBlock32 k).emb j) 1).val = (y 1).val := by show 128 * k.val + 1 * ((y 1).val - 128 * k.val) = _; omega
      have e : ld (rBlock32 k) Y j = YN b (y 0).val (y 1).val := by
        show Y ((rBlock32 k).emb j) = _
        rw [hy, h0, h1]
        exact congrArg (fun r => YN b r _) (by omega)
      rw [e, show 32 * s.val + (z 0).val = (y 0).val by show 32 * s.val + ((y 0).val - 32 * s.val) = _; omega, show (z 1).val = (y 1).val / 128 by show k.val = _; omega]
  · have hout : X y = codeN b (y 0).val (y 1).val := by
      refine h y ?_
      rcases hyy with hyy | hyy
      · exact .inl hyy
      · by_cases h32 : (y 0).val < 32 * s.val
        · exact .inl h32
        · refine .inr ⟨hyy.1, ?_⟩
          by_contra hc
          exact hr ⟨by omega, hyy.1, by omega, by omega⟩
    by_cases h0 : 32 * s.val ≤ (y 0).val ∧ (y 0).val < 32 * s.val + 32
    · rw [overlay_out _ _ _ _ _ _ 1, hout]
      show (y 1).val < 128 * k.val ∨ 128 * k.val + 128 ≤ (y 1).val
      by_contra hc
      exact hr ⟨h0.1, h0.2, by omega, by omega⟩
    · rw [overlay_out _ _ _ _ _ _ 0, hout]
      show (y 0).val < 32 * s.val ∨ 32 * s.val + 32 ≤ (y 0).val
      omega

theorem CDone.st5 (b : Bufs Ideal) (s : Fin 4) (h : CDone b s.val 0 b.codes) : CDone b (s.val + 1) 0 (Loop.st5 s b).codes := by
  have hn := NInv.st4 s b
  have hy : ∀ z : S32x4096.Idx, (Loop.st4 s b).2.y z = YN b (32 * s.val + (z 0).val) (z 1).val := fun z => hn.y z (by have : (z 1).val < 4096 := (z 1).isLt; omega)
  have key : CDone b s.val 32 (Loop.st5 s b).codes ∧ (Loop.st5 s b).y = (Loop.st4 s b).2.y := by
    unfold Loop.st5
    refine upto_ind (codeP s (invV (F := Ideal) (Loop.st4 s b).1)) (fun k q => CDone b s.val k q.2.codes ∧ q.2.y = (Loop.st4 s b).2.y) (fun k q hq => ?_)
      (st := (⟨⟩, scaleP s (Loop.st4 s b).1 (Loop.st4 s b).2)) ⟨?_, by unfold scaleP; rfl⟩
    · refine ⟨?_, by unfold codeP; exact hq.2⟩
      exact CDone.step b s (Loop.st4 s b).1 k q.2.y hn.amax (by rw [hq.2]; exact hy) q.2.codes hq.1
    · have e : (scaleP s (Loop.st4 s b).1 (Loop.st4 s b).2).codes = b.codes := (by unfold scaleP; rfl : _ = (Loop.st4 s b).2.codes).trans (keep_codes s b)
      show CDone b s.val 0 (scaleP s (Loop.st4 s b).1 (Loop.st4 s b).2).codes
      rw [e]; exact h
  intro y hy'
  have : (y 1).val < 4096 := (y 1).isLt
  exact key.1 y (by omega)

theorem CDone.same {b b' : Bufs Ideal} (h : Same b b') {n m : Nat} {X : S128x4096.Idx → EReal} : CDone b' n m X ↔ CDone b n m X := by
  unfold CDone codeN; simp only [YN_same h, AN_same h]

/-- The scales are done in the first `32·n` rows. -/
def ZDone (b : Bufs Ideal) (n : Nat) (X : S128x32.Idx → EReal) : Prop := ∀ y : S128x32.Idx, (y 0).val < 32 * n → X y = scaleS (AN b (y 0).val (y 1).val)

theorem ZDone.same {b b' : Bufs Ideal} (h : Same b b') {n : Nat} {X : S128x32.Idx → EReal} : ZDone b' n X ↔ ZDone b n X := by
  unfold ZDone; simp only [AN_same h]

theorem scaleV_at (a : FVec Ideal S32x128 .f32) (j : S32x32.Idx) (z : S32x128.Idx) (h0 : (z 0).val = (j 0).val) (h1 : (z 1).val = (j 1).val) : scaleV (F := Ideal) a j = scaleS (a z) := by
  rw [← scaleAll_at]
  unfold scaleV scaleAll
  refine extractStridedSlice_apply _ _ _ j z fun a => ?_
  match a with
  | ⟨0, _⟩ => show (z 0).val = 0 + (j 0).val; omega
  | ⟨1, _⟩ => show (z 1).val = 0 + (j 1).val; omega

theorem ZDone.st5 (b : Bufs Ideal) (s : Fin 4) (h : ZDone b s.val b.scales) : ZDone b (s.val + 1) (Loop.st5 s b).scales := by
  have hn := NInv.st4 s b
  have e : (Loop.st5 s b).scales = (rScale s).overlay b.scales (scaleV (F := Ideal) (Loop.st4 s b).1) := by
    unfold Loop.st5
    refine (keep_upto (fun b => b.scales) _ (fun k q => by unfold codeP; rfl) _ 32).trans ?_
    rw [← keep_scales s b]
    unfold scaleP
    rfl
  rw [e]
  intro y hy
  by_cases hr : (y 0).val < 32 * s.val
  · rw [overlay_out _ _ _ _ _ _ 0 (.inl hr)]; exact h y hr
  · let j : S32x32.Idx := fun a => match a with
      | ⟨0, _⟩ => (⟨(y 0).val - 32 * s.val, by omega⟩ : Fin 32) | ⟨1, _⟩ => y 1
    let z : S32x128.Idx := fun a => match a with
      | ⟨0, _⟩ => (⟨(y 0).val - 32 * s.val, by omega⟩ : Fin 32) | ⟨1, _⟩ => (⟨(y 1).val, lt_of_lt_of_le (y 1).isLt (by decide)⟩ : Fin 128)
    refine (overlay_in _ _ _ _ _ y j fun a => ?_).trans ?_
    · match a with
      | ⟨0, _⟩ => show (y 0).val = 32 * s.val + ((y 0).val - 32 * s.val); omega
      | ⟨1, _⟩ => exact (Nat.zero_add _).symm
    · rw [scaleV_at _ j z rfl rfl, hn.amax z (y 1).isLt]
      refine congrArg (fun r => scaleS (AN b r _)) ?_
      show 32 * s.val + ((y 0).val - 32 * s.val) = _; omega

theorem quant_rows (b : Bufs Ideal) : CDone b 4 0 (rowsP b).2.codes ∧ ZDone b 4 (rowsP b).2.scales ∧ Same b (rowsP b).2 := by
  unfold rowsP
  refine upto_ind subP (fun k q => CDone b k 0 q.2.codes ∧ ZDone b k q.2.scales ∧ Same b q.2) (fun s q h => ?_) (st := ((zeroRow, zeroRow), b)) ?_
  · exact ⟨(CDone.same h.2.2).mp (CDone.st5 q.2 s ((CDone.same h.2.2).mpr h.1)), (ZDone.same h.2.2).mp (ZDone.st5 q.2 s ((ZDone.same h.2.2).mpr h.2.1)), h.2.2.trans (same_st5 s q.2)⟩
  · exact ⟨fun y hy => by omega, fun y hy => by omega, Same.rfl' b⟩

theorem work_codes (i : grid0.Coords) (b : Bufs Ideal) (y : S128x4096.Idx) : (workP i b).codes y = codeN b (y 0).val (y 1).val := by
  have h : (y 0).val < 128 := (y 0).isLt
  exact (quant_rows b).1 y (.inl (by omega))

theorem work_scales (i : grid0.Coords) (b : Bufs Ideal) (y : S128x32.Idx) : (workP i b).scales y = scaleS (AN b (y 0).val (y 1).val) := by
  have h : (y 0).val < 128 := (y 0).isLt
  exact (quant_rows b).2.1 y (by omega)

end Cert.KernelIdeal.Loop

end
-- ==== Proof.KernelIdeal.Quant.lean ====
/- The codes and the scales that the program leaves, over the extended reals. -/
module

public import proofs.«01_k».proof.Proof.KernelIdeal.Norm
public import proofs.«01_k».proof.Proof.KernelIdeal.Final

@[expose] public section

noncomputable section

namespace Cert.KernelIdeal.Loop

open Idealize.ShloMosaic Idealize.ShloMosaic.TcCoe Idealize.SL.Sem Cert.Own Cert.KernelIdeal.Gen
open Idealize.ShloMosaic.Pipeline (RDat Dat)

variable (m : (ℓ : Loc nD τ sig) → Buf (Elt Ideal) ℓ) (c : Dev nD)

/-- The normalised element of row `r` and column `k`, of the residual sums, the weights and the biases. -/
def yOf (H : S2048x4096.Idx → EReal) (g bt : S4096.Idx → EReal) (r k : Nat) : EReal :=
  cOf H r k * rstdOf H r * (shapeCast S1x4096 g shapeCasts_S4096_S1x4096 (atC k) : EReal) + shapeCast S1x4096 bt shapeCasts_S4096_S1x4096 (atC k)

/-- The largest magnitude of a block. -/
def amaxOf (H : S2048x4096.Idx → EReal) (g bt : S4096.Idx → EReal) (r q : Nat) : EReal := amaxF fun l => yOf H g bt r (128 * q + l)

def codeOf (H : S2048x4096.Idx → EReal) (g bt : S4096.Idx → EReal) (r k : Nat) : EReal := codeS (yOf H g bt r k) (amaxOf H g bt r (k / 128))

def gM : S4096.Idx → EReal := m ((c.tc : Thread nD τ).loc main_arg4)
def bM : S4096.Idx → EReal := m ((c.tc : Thread nD τ).loc main_arg5)

theorem V4 : V m c main_v4 = shapeCast S1x4096 (gM m c) shapeCasts_S4096_S1x4096 := by entry_read; rfl
theorem V5 : V m c main_v5 = shapeCast S1x4096 (bM m c) shapeCasts_S4096_S1x4096 := by entry_read; rfl

theorem idx45 : ∀ t : Fin cfg0.N, win0_4.index t 1 = 0 ∧ win0_5.index t 1 = 0 := (by decide +kernel : ∀ t : Fin grid0.N, _)
theorem idx67 : ∀ t : Fin cfg0.N, (win0_6.index t 0 = t.val ∧ win0_6.index t 1 = 0) ∧ (win0_7.index t 0 = t.val ∧ win0_7.index t 1 = 0) := (by decide +kernel : ∀ t : Fin grid0.N, _)

theorem in4 (t : Fin cfg0.N) (k : Nat) : iblk m c 4 t (atC k) = V m c main_v4 (atC k) := by
  show V m c main_v4 (((cfg0.win 4).blk t).view.emb (atC k)) = _
  refine congrArg (V m c main_v4) (funext fun a => Fin.ext ?_)
  match a with
  | ⟨0, _⟩ => blk_simp; rfl
  | ⟨1, _⟩ => blk_simp; rw [(idx45 t).1]; exact (Nat.zero_mul _).symm ▸ Nat.zero_add _

theorem in5 (t : Fin cfg0.N) (k : Nat) : iblk m c 5 t (atC k) = V m c main_v5 (atC k) := by
  show V m c main_v5 (((cfg0.win 5).blk t).view.emb (atC k)) = _
  refine congrArg (V m c main_v5) (funext fun a => Fin.ext ?_)
  match a with
  | ⟨0, _⟩ => blk_simp; rfl
  | ⟨1, _⟩ => blk_simp; rw [(idx45 t).2]; exact (Nat.zero_mul _).symm ▸ Nat.zero_add _

theorem good_Y {t : Fin cfg0.N} {b : Bufs Ideal} (hb : Good c m t b) (r k : Nat) (hr : r < 128) : YN b r k = yOf (hM m c) (gM m c) (bM m c) (128 * t.val + r) k := by
  unfold YN yOf
  rw [good_C m c hb _ _ hr, good_rs m c hb _ hr, hb.gamma, hb.beta, in4, in5, V4, V5]

theorem good_A {t : Fin cfg0.N} {b : Bufs Ideal} (hb : Good c m t b) (r q : Nat) (hr : r < 128) : AN b r q = amaxOf (hM m c) (gM m c) (bM m c) (128 * t.val + r) q := by
  unfold AN amaxOf; simp only [good_Y m c hb _ _ hr]

theorem codes_final {r : PUnit × MemSt nD τ sig (Elt Ideal)} (h : RDat.FramePost cfg0 (fun c => rdat c m) (V m) r) :
    r.2.mem ((c.tc : Thread nD τ).loc main_v6_0) = fun y : S2048x4096.Idx => codeOf (hM m c) (gM m c) (bM m c) (y 0).val (y 1).val := by
  obtain ⟨after, hL, hA⟩ := RDat.FramePost.exists_exact h c
  refine (hA 6).trans ?_
  refine Dat.arrAt_eq_of_covers _ 6 _ (by decide +kernel) fun t hf y => ?_
  obtain ⟨Y, -, b, hb, hX⟩ := hL 6 t hf
  have h0 : (y 0).val < 128 := (y 0).isLt
  have e0 : ((((cfg0.win 6).blk t).view.emb y) 0).val = win0_6.index t 0 * 128 + (y 0).val := by blk_simp
  have e1 : ((((cfg0.win 6).blk t).view.emb y) 1).val = win0_6.index t 1 * 4096 + (y 1).val := by blk_simp
  rw [(idx67 t).1.1] at e0
  rw [(idx67 t).1.2] at e1
  show after 6 t y = codeOf (hM m c) (gM m c) (bM m c) ((((cfg0.win 6).blk t).view.emb y) 0).val ((((cfg0.win 6).blk t).view.emb y) 1).val
  rw [hX, e0, e1, Nat.mul_comm t.val, Nat.zero_mul, Nat.zero_add]
  refine (work_codes (grid0.coords t) b y).trans ?_
  unfold codeN codeOf
  rw [good_Y m c hb _ _ h0, good_A m c hb _ _ h0]

theorem scales_final {r : PUnit × MemSt nD τ sig (Elt Ideal)} (h : RDat.FramePost cfg0 (fun c => rdat c m) (V m) r) :
    r.2.mem ((c.tc : Thread nD τ).loc main_v6_1) = fun y : S2048x32.Idx => scaleS (amaxOf (hM m c) (gM m c) (bM m c) (y 0).val (y 1).val) := by
  obtain ⟨after, hL, hA⟩ := RDat.FramePost.exists_exact h c
  refine (hA 7).trans ?_
  refine Dat.arrAt_eq_of_covers _ 7 _ (by decide +kernel) fun t hf y => ?_
  obtain ⟨Y, -, b, hb, hX⟩ := hL 7 t hf
  have h0 : (y 0).val < 128 := (y 0).isLt
  have e0 : ((((cfg0.win 7).blk t).view.emb y) 0).val = win0_7.index t 0 * 128 + (y 0).val := by blk_simp
  have e1 : ((((cfg0.win 7).blk t).view.emb y) 1).val = win0_7.index t 1 * 32 + (y 1).val := by blk_simp
  rw [(idx67 t).2.1] at e0
  rw [(idx67 t).2.2] at e1
  show after 7 t y = scaleS (amaxOf (hM m c) (gM m c) (bM m c) ((((cfg0.win 7).blk t).view.emb y) 0).val ((((cfg0.win 7).blk t).view.emb y) 1).val)
  rw [hX, e0, e1, Nat.mul_comm t.val, Nat.zero_mul, Nat.zero_add]
  refine (work_scales (grid0.coords t) b y).trans ?_
  rw [good_A m c hb _ _ h0]

end Cert.KernelIdeal.Loop

end
-- ==== Proof.RefQ.lean ====
/- The reference's codes and scales are those the kernel is proved to leave, over the extended reals. -/
module

public import proofs.«01_k».proof.Proof.KernelIdeal.Quant
public import proofs.«01_k».proof.Proof.Ref

@[expose] public section

noncomputable section

namespace Cert.Ref

open Idealize.ShloMosaic Cert.ReferenceIdeal Cert.ReferenceIdeal.Gen
open Cert.KernelIdeal.Loop (rstdOf cOf rowOf hAll yOf amaxOf codeOf amaxF amaxF_nonneg atC scaleS invS scale_eq inv_eq expR codeS)

variable (m0 m1 : S2x1024x4096.Idx → Ideal .bf16) (m2 : S4096.Idx → Ideal .f32) (m3 : S2x1024x4096.Idx → BitVec 32) (m4 m5 : S4096.Idx → Ideal .f32)

/-- A weight, broadcast over the rows by the reference, is the kernel's one row of it. -/
theorem weight_at (x : S4096.Idx → Ideal .f32) (y : S2x1024.Idx) (k : Fin 4096) :
    broadcastInDim S2x1024x4096 ![0, 1, 2] bcast_S1x1x4096_S2x1024x4096_0_1_2 (broadcastInDim S1x1x4096 ![2] bcast_S4096_S1x1x4096_2 x) (ix3 (y 0) (y 1) k)
    = shapeCast Cert.KernelIdeal.S1x4096 x Cert.KernelIdeal.Gen.shapeCasts_S4096_S1x4096 (atC k.val) := by
  let k3 : S1x1x4096.Idx := fun a => match a with | ⟨0, _⟩ => (0 : Fin 1) | ⟨1, _⟩ => (0 : Fin 1) | ⟨2, _⟩ => k
  let k1 : S4096.Idx := fun a => match a with | ⟨0, _⟩ => k
  refine (broadcastInDim_apply _ _ _ _ k3 fun a => ?_).trans ((broadcastInDim_apply _ _ _ k3 k1 fun a => ?_).trans
    (shapeCast_apply x _ (atC k.val) k1 ?_).symm)
  · match a with
    | ⟨0, _⟩ => rfl
    | ⟨1, _⟩ => rfl
    | ⟨2, _⟩ => rfl
  · match a with
    | ⟨0, _⟩ => rfl
  · refine (Shape.rowMajor_val_one k1).trans (Eq.trans ?_ (Shape.rowMajor_val_two (atC k.val)).symm)
    have := k.isLt
    show k.val = 0 * 4096 + k.val % 4096
    omega

/-- The reference's normalised elements. -/
def yR : FVec Ideal S2x1024x4096 .f32 :=
  addf (mulf (mulf (centredR m0 m1 m2 m3) (broadcastInDim S2x1024x4096 ![0, 1, 2] bcast_S2x1024x1_S2x1024x4096_0_1_2
      (broadcastInDim S2x1024x1 ![0, 1] bcast_S2x1024_S2x1024x1_0_1 (rstdR m0 m1 m2 m3))))
    (broadcastInDim S2x1024x4096 ![0, 1, 2] bcast_S1x1x4096_S2x1024x4096_0_1_2 (broadcastInDim S1x1x4096 ![2] bcast_S4096_S1x1x4096_2 m4)))
    (broadcastInDim S2x1024x4096 ![0, 1, 2] bcast_S1x1x4096_S2x1024x4096_0_1_2 (broadcastInDim S1x1x4096 ![2] bcast_S4096_S1x1x4096_2 m5))

theorem yR_at (y : S2x1024.Idx) (k : Fin 4096) : yR m0 m1 m2 m3 m4 m5 (ix3 (y 0) (y 1) k) = yOf (hAll (F := Ideal) m0 m1 m2 m3) m4 m5 (rowOf y) k.val := by
  unfold yR yOf
  rw [← centredR_at, ← congrFun (rstd_eq m0 m1 m2 m3) y, ← col_at (rstdR m0 m1 m2 m3) y k, ← weight_at m4 y k, ← weight_at m5 y k]
  rfl

/-- In blocks of 128. -/
def blocksR : FVec Ideal S2x1024x32x128 .f32 := shapeCast S2x1024x32x128 (yR m0 m1 m2 m3 m4 m5) shapeCasts_S2x1024x4096_S2x1024x32x128

theorem blocksR_at (w : S2x1024x32x128.Idx) : blocksR m0 m1 m2 m3 m4 m5 w = yOf (hAll (F := Ideal) m0 m1 m2 m3) m4 m5 (1024 * (w 0).val + (w 1).val) (128 * (w 2).val + (w 3).val) := by
  have g2 : (w 2).val < 32 := (w 2).isLt
  have g3 : (w 3).val < 128 := (w 3).isLt
  let y : S2x1024.Idx := fun a => match a with | ⟨0, _⟩ => w 0 | ⟨1, _⟩ => w 1
  let k : Fin 4096 := ⟨128 * (w 2).val + (w 3).val, by omega⟩
  refine (shapeCast_apply (yR m0 m1 m2 m3 m4 m5) _ w (ix3 (y 0) (y 1) k) ?_).trans (yR_at m0 m1 m2 m3 m4 m5 y k)
  refine (Shape.rowMajor_val_three _).trans (Eq.trans ?_ (Shape.rowMajor_val_four w).symm)
  show ((w 0).val * 1024 + (w 1).val) * 4096 + (128 * (w 2).val + (w 3).val) = (((w 0).val * 1024 + (w 1).val) * 32 + (w 2).val) * 128 + (w 3).val
  omega

/-- The blocks' largest magnitudes. -/
def amaxR : FVec Ideal S2x1024x32 .f32 :=
  Host.reduce FloatOps.maximumf (Host.absf (blocksR m0 m1 m2 m3 m4 m5)) (constant S_ .f32 0xFF800000#32) reducesTo_S2x1024x32x128_S2x1024x32_d3 h_S_

theorem reduces_last : S2x1024x32x128.Reduces [3] S2x1024x32 := by decide

theorem amaxR_at (z : S2x1024x32.Idx) : amaxR m0 m1 m2 m3 m4 m5 z = amaxOf (hAll (F := Ideal) m0 m1 m2 m3) m4 m5 (1024 * (z 0).val + (z 1).val) (z 2).val := by
  unfold amaxR
  refine (Host.reduce_eq_fold_single _ _ _ _ reduces_last h_S_ z).trans ?_
  unfold amaxOf amaxF
  refine congrArg (Finset.fold max (Ideal.ofBits .f32 0xFF800000#32) · Finset.univ) (funext fun l => ?_)
  exact congrArg (fun x : EReal => max x (-x)) (blocksR_at m0 m1 m2 m3 m4 m5 (reduces_last.lift z l))

/-- The exponents, of the largest magnitudes. -/
def quotR (A : FVec Ideal S2x1024x32 .f32) : FVec Ideal S2x1024x32 .f32 :=
  mulf (minimumf A (broadcastInDim S2x1024x32 ![] bcast_S_S2x1024x32 (constant S_ .f32 0x7F7FFFFF#32)))
    (broadcastInDim S2x1024x32 ![] bcast_S_S2x1024x32 (constant S_ .f32 0x3B124925#32))

def exponR (A : FVec Ideal S2x1024x32 .f32) : FVec Ideal S2x1024x32 .f32 :=
  select (cmpf .olt (quotR A) (broadcastInDim S2x1024x32 ![] bcast_S_S2x1024x32 (constant S_ .f32 0x00800000#32)))
    (broadcastInDim S2x1024x32 ![] bcast_S_S2x1024x32 (id (constant S_ .f32 0x00000000#32)))
    (addf (Host.floor (Host.divf (Host.log (quotR A)) (broadcastInDim S2x1024x32 ![] bcast_S_S2x1024x32 (Host.log (constant S_ .f32 0x40000000#32)))))
      (broadcastInDim S2x1024x32 ![] bcast_S_S2x1024x32 (constant S_ .f32 0x3F800000#32)))

def scaleR (A : FVec Ideal S2x1024x32 .f32) : FVec Ideal S2x1024x32 .f32 := Host.powf (broadcastInDim S2x1024x32 ![] bcast_S_S2x1024x32 (constant S_ .f32 0x40000000#32)) (exponR A)
def invR (A : FVec Ideal S2x1024x32 .f32) : FVec Ideal S2x1024x32 .f32 := Host.powf (broadcastInDim S2x1024x32 ![] bcast_S_S2x1024x32 (constant S_ .f32 0x40000000#32)) (Host.negf (exponR A))

theorem scaleR_pow (A : FVec Ideal S2x1024x32 .f32) (z : S2x1024x32.Idx) : scaleR A z = Ideal.pow (Ideal.ofBits .f32 0x40000000#32) (expR (A z)) := rfl
theorem invR_pow (A : FVec Ideal S2x1024x32 .f32) (z : S2x1024x32.Idx) : invR A z = Ideal.pow (Ideal.ofBits .f32 0x40000000#32) (-expR (A z)) := rfl

theorem scaleR_at (z : S2x1024x32.Idx) : scaleR (amaxR m0 m1 m2 m3 m4 m5) z = scaleS (amaxOf (hAll (F := Ideal) m0 m1 m2 m3) m4 m5 (1024 * (z 0).val + (z 1).val) (z 2).val) := by
  rw [scaleR_pow, amaxR_at]
  exact (scale_eq _ (amaxF_nonneg _)).symm

theorem invR_at (z : S2x1024x32.Idx) : invR (amaxR m0 m1 m2 m3 m4 m5) z = invS (amaxOf (hAll (F := Ideal) m0 m1 m2 m3) m4 m5 (1024 * (z 0).val + (z 1).val) (z 2).val) := by
  rw [invR_pow, amaxR_at]
  exact (inv_eq _ (amaxF_nonneg _)).symm

theorem scales_eq : shapeCast S2048x32 (scaleR (amaxR m0 m1 m2 m3 m4 m5)) shapeCasts_S2x1024x32_S2048x32
    = fun y : S2048x32.Idx => scaleS (amaxOf (hAll (F := Ideal) m0 m1 m2 m3) m4 m5 (y 0).val (y 1).val) := by
  funext y
  have g0 : (y 0).val < 2048 := (y 0).isLt
  let z : S2x1024x32.Idx := fun a => match a with
    | ⟨0, _⟩ => (⟨(y 0).val / 1024, by omega⟩ : Fin 2) | ⟨1, _⟩ => (⟨(y 0).val % 1024, by omega⟩ : Fin 1024) | ⟨2, _⟩ => y 1
  refine (shapeCast_apply (scaleR (amaxR m0 m1 m2 m3 m4 m5)) _ y z ?_).trans ((scaleR_at m0 m1 m2 m3 m4 m5 z).trans ?_)
  · refine (Shape.rowMajor_val_three z).trans (Eq.trans ?_ (Shape.rowMajor_val_two y).symm)
    show ((y 0).val / 1024 * 1024 + (y 0).val % 1024) * 32 + (y 1).val = (y 0).val * 32 + (y 1).val
    omega
  · refine congrArg (fun r => scaleS (amaxOf _ m4 m5 r _)) ?_
    show 1024 * ((y 0).val / 1024) + (y 0).val % 1024 = _; omega

/-- The codes, of the blocks and the reciprocal scales. -/
def codeR (B : FVec Ideal S2x1024x32x128 .f32) (I : FVec Ideal S2x1024x32 .f32) : FVec Ideal S2x1024x32x128 .fp8e4m3 :=
  Host.convertf .fp8e4m3 (minimumf (broadcastInDim S2x1024x32x128 ![] bcast_S_S2x1024x32x128 (id (constant S_ .f32 0x43E00000#32)))
    (maximumf (broadcastInDim S2x1024x32x128 ![] bcast_S_S2x1024x32x128 (id (constant S_ .f32 0xC3E00000#32)))
      (mulf B (broadcastInDim S2x1024x32x128 ![0, 1, 2, 3] bcast_S2x1024x32x1_S2x1024x32x128_0_1_2_3
        (broadcastInDim S2x1024x32x1 ![0, 1, 2] bcast_S2x1024x32_S2x1024x32x1_0_1_2 I)))))

theorem block_at {α : Type} (v : S2x1024x32.Idx → α) (w : S2x1024x32x128.Idx) (z : S2x1024x32.Idx) (h0 : z 0 = w 0) (h1 : z 1 = w 1) (h2 : z 2 = w 2) :
    broadcastInDim S2x1024x32x128 ![0, 1, 2, 3] bcast_S2x1024x32x1_S2x1024x32x128_0_1_2_3 (broadcastInDim S2x1024x32x1 ![0, 1, 2] bcast_S2x1024x32_S2x1024x32x1_0_1_2 v) w = v z := by
  let u : S2x1024x32x1.Idx := fun a => match a with | ⟨0, _⟩ => w 0 | ⟨1, _⟩ => w 1 | ⟨2, _⟩ => w 2 | ⟨3, _⟩ => (0 : Fin 1)
  refine (broadcastInDim_apply _ _ _ w u fun a => ?_).trans (broadcastInDim_apply _ _ _ u z fun a => ?_)
  · match a with
    | ⟨0, _⟩ => rfl
    | ⟨1, _⟩ => rfl
    | ⟨2, _⟩ => rfl
    | ⟨3, _⟩ => rfl
  · match a with
    | ⟨0, _⟩ => exact congrArg Fin.val h0
    | ⟨1, _⟩ => exact congrArg Fin.val h1
    | ⟨2, _⟩ => exact congrArg Fin.val h2

theorem codeR_min (B : FVec Ideal S2x1024x32x128 .f32) (I : FVec Ideal S2x1024x32 .f32) (w : S2x1024x32x128.Idx) :
    codeR B I w = min (Ideal.ofBits .f32 0x43E00000#32) (max (Ideal.ofBits .f32 0xC3E00000#32)
      ((B w : EReal) * I (fun a => match a with | ⟨0, _⟩ => w 0 | ⟨1, _⟩ => w 1 | ⟨2, _⟩ => w 2))) := by
  rw [← block_at I w _ rfl rfl rfl]
  rfl

theorem codeR_at (w : S2x1024x32x128.Idx) : codeR (blocksR m0 m1 m2 m3 m4 m5) (invR (amaxR m0 m1 m2 m3 m4 m5)) w
    = codeS (yOf (hAll (F := Ideal) m0 m1 m2 m3) m4 m5 (1024 * (w 0).val + (w 1).val) (128 * (w 2).val + (w 3).val))
      (amaxOf (hAll (F := Ideal) m0 m1 m2 m3) m4 m5 (1024 * (w 0).val + (w 1).val) (w 2).val) := by
  rw [codeR_min, blocksR_at, invR_at]
  unfold codeS
  rfl

theorem codes_eq : shapeCast S2048x4096 (codeR (blocksR m0 m1 m2 m3 m4 m5) (invR (amaxR m0 m1 m2 m3 m4 m5))) shapeCasts_S2x1024x32x128_S2048x4096
    = fun y : S2048x4096.Idx => codeOf (hAll (F := Ideal) m0 m1 m2 m3) m4 m5 (y 0).val (y 1).val := by
  funext y
  have g0 : (y 0).val < 2048 := (y 0).isLt
  have g1 : (y 1).val < 4096 := (y 1).isLt
  let w : S2x1024x32x128.Idx := fun a => match a with
    | ⟨0, _⟩ => (⟨(y 0).val / 1024, by omega⟩ : Fin 2) | ⟨1, _⟩ => (⟨(y 0).val % 1024, by omega⟩ : Fin 1024)
    | ⟨2, _⟩ => (⟨(y 1).val / 128, by omega⟩ : Fin 32) | ⟨3, _⟩ => (⟨(y 1).val % 128, by omega⟩ : Fin 128)
  refine (shapeCast_apply (codeR (blocksR m0 m1 m2 m3 m4 m5) (invR (amaxR m0 m1 m2 m3 m4 m5))) _ y w ?_).trans ((codeR_at m0 m1 m2 m3 m4 m5 w).trans ?_)
  · refine (Shape.rowMajor_val_four w).trans (Eq.trans ?_ (Shape.rowMajor_val_two y).symm)
    show (((y 0).val / 1024 * 1024 + (y 0).val % 1024) * 32 + (y 1).val / 128) * 128 + (y 1).val % 128 = (y 0).val * 4096 + (y 1).val
    omega
  · unfold codeOf
    rw [show 1024 * (w 0).val + (w 1).val = (y 0).val by show 1024 * ((y 0).val / 1024) + (y 0).val % 1024 = _; omega,
      show 128 * (w 2).val + (w 3).val = (y 1).val by show 128 * ((y 1).val / 128) + (y 1).val % 128 = _; omega]

end Cert.Ref

end
-- ==== Proof.KernelIdeal.Mask.lean ====
/- The mask that the program leaves, over the extended reals. -/
module

public import proofs.«01_k».proof.Proof.KernelIdeal.Norm
public import proofs.«01_k».proof.Proof.KernelIdeal.Final
public import Idealize.ShloMosaic.Lib.MatmulPlain
public import Idealize.ShloMosaic.Lib.KernelVsHost.SublaneAllReduce

@[expose] public section

noncomputable section

namespace Cert.KernelIdeal.Loop

open Idealize.ShloMosaic Idealize.ShloMosaic.TcCoe Idealize.SL.Sem Cert.Own Cert.KernelIdeal.Gen
open Idealize.ShloMosaic.Pipeline (RDat Dat)

/-! ## The weights -/

/-- The lane that row `x` of strip `k / 32`'s weights goes to. -/
def laneW (x k : BitVec 32) : BitVec 32 :=
  IntOp.addi k (Scalar.select (IntOp.andi (IntOp.cmpi .ne (IntOp.subi ((IntOp.cmpi .sgt x 0#32).setWidth 32) ((IntOp.cmpi .slt x 0#32).setWidth 32))
      (Scalar.subi (Scalar.extui (Scalar.cmpi .sgt 8#32 0#32) : BitVec 32) (Scalar.extui (Scalar.cmpi .slt 8#32 0#32)))) (IntOp.cmpi .ne (IntOp.remsi .vector x 8#32) 0#32))
    (IntOp.subi (IntOp.divsi .vector x 8#32) 1#32) (IntOp.divsi .vector x 8#32))

/-- The weight of row `x`. -/
def bitW (x : BitVec 32) : BitVec 32 :=
  IntOp.shli .vector 1#32 (Scalar.select (IntOp.andi (IntOp.xori (IntOp.cmpi .slt (IntOp.remsi .vector x (Scalar.select (Scalar.cmpi .eq 8#32 0#32) 1#32 8#32)) 0#32)
      (Scalar.cmpi .slt (Scalar.select (Scalar.cmpi .eq 8#32 0#32) 1#32 8#32) 0#32)) (IntOp.cmpi .ne (IntOp.remsi .vector x (Scalar.select (Scalar.cmpi .eq 8#32 0#32) 1#32 8#32)) 0#32))
    (IntOp.addi (IntOp.remsi .vector x (Scalar.select (Scalar.cmpi .eq 8#32 0#32) 1#32 8#32)) (Scalar.select (Scalar.cmpi .eq 8#32 0#32) 1#32 8#32))
    (IntOp.remsi .vector x (Scalar.select (Scalar.cmpi .eq 8#32 0#32) 1#32 8#32)))

theorem lane_words : ∀ (c : Fin 8) (k : Fin 256), laneW (BitVec.ofNat 32 k.val) (BitVec.ofNat 32 (32 * c.val)) = BitVec.ofNat 32 (32 * c.val + k.val / 8) := by decide +kernel
theorem bit_words : ∀ k : Fin 256, bitW (BitVec.ofNat 32 k.val) = BitVec.ofNat 32 (2 ^ (k.val % 8)) ∧ (BitVec.ofNat 32 (2 ^ (k.val % 8))).toInt = ((2 ^ (k.val % 8) : Nat) : Int) := by decide +kernel

theorem packW_at (k : BitVec 32) (j : S256x256.Idx) : packW (F := Ideal) k j
    = (((Scalar.select (IntOp.cmpi .eq (iota .tc S256x256 32 [1] iota_S256x256_d1_w32 j) (laneW (iota .tc S256x256 32 [0] iota_S256x256_d0_w32 j) k))
      (bitW (iota .tc S256x256 32 [0] iota_S256x256_d0_w32 j)) 0#32).toInt : ℝ) : EReal) := rfl

theorem eq_words (a b : Nat) (ha : a < 2 ^ 32) (hb : b < 2 ^ 32) : IntOp.cmpi .eq (BitVec.ofNat 32 a) (BitVec.ofNat 32 b) = if a = b then 1#1 else 0#1 := by
  show BitVec.ofBool (BitVec.ofNat 32 a == BitVec.ofNat 32 b) = _
  by_cases h : a = b
  · rw [if_pos h, h]; simp
  · rw [if_neg h]
    have : BitVec.ofNat 32 a ≠ BitVec.ofNat 32 b := by
      intro e
      have := congrArg BitVec.toNat e
      simp only [BitVec.toNat_ofNat] at this
      omega
    rw [beq_eq_false_iff_ne.mpr this]; rfl

/-- The weight of column `K` of a tile for its byte `n`. -/
def wN (K n : Nat) : EReal := if n = K / 8 then (((2 ^ (K % 8) : Nat) : ℝ) : EReal) else 0

theorem packW_wN (c : Fin 8) (j : S256x256.Idx) : packW (F := Ideal) (BitVec.ofNat 32 (32 * c.val)) j = wN (256 * c.val + (j 0).val) (j 1).val := by
  have h0 : (j 0).val < 256 := (j 0).isLt
  have h1 : (j 1).val < 256 := (j 1).isLt
  have hc := c.isLt
  have e1 := lane_words c ⟨(j 0).val, h0⟩
  have e2 := bit_words ⟨(j 0).val, h0⟩
  dsimp only at e1 e2
  rw [packW_at, iota_one, iota_one, e1, e2.1, eq_words _ _ (by omega) (by omega)]
  unfold wN
  by_cases h : (j 1).val = 32 * c.val + (j 0).val / 8
  · rw [if_pos h, if_pos (by omega), show (256 * c.val + (j 0).val) % 8 = (j 0).val % 8 by omega]
    show (((BitVec.ofNat 32 (2 ^ ((j 0).val % 8))).toInt : ℝ) : EReal) = _
    rw [e2.2]
    rfl
  · rw [if_neg h, if_neg (by omega)]
    show (((0#32 : BitVec 32).toInt : ℝ) : EReal) = 0
    simp

theorem fillP_w (c : Fin 8) (q : PUnit.{1} × Bufs Ideal) : (fillP c q).2.w
    = (rW c).overlay q.2.w (shapeCast S1x256x256 (packW (F := Ideal) (BitVec.ofNat 32 (32 * c.val))) shapeCasts_S256x256_S1x256x256 : FVec Ideal S1x256x256 .bf16) := by
  unfold fillP; rfl

theorem fills_w (b : Bufs Ideal) (z : S8x256x256.Idx) : (fillsP b).w z = wN (256 * (z 0).val + (z 1).val) (z 2).val := by
  have h : ∀ z : S8x256x256.Idx, (z 0).val < 8 → (fillsP b).w z = wN (256 * (z 0).val + (z 1).val) (z 2).val := by
    unfold fillsP
    refine upto_ind fillP (fun n q => ∀ z : S8x256x256.Idx, (z 0).val < n → q.2.w z = wN (256 * (z 0).val + (z 1).val) (z 2).val) (fun c q hq z hz => ?_)
      (st := (⟨⟩, b)) fun z hz => absurd hz (Nat.not_lt_zero _)
    rw [fillP_w]
    by_cases hr : (z 0).val < c.val
    · rw [overlay_out _ _ _ _ _ _ 0 (.inl hr), hq z hr]
    · let j : S1x256x256.Idx := fun a => match a with | ⟨0, _⟩ => (0 : Fin 1) | ⟨1, _⟩ => z 1 | ⟨2, _⟩ => z 2
      let i : S256x256.Idx := fun a => match a with | ⟨0, _⟩ => z 1 | ⟨1, _⟩ => z 2
      refine (overlay_in _ _ _ _ _ z j fun a => ?_).trans ((shapeCast_apply _ _ j i ?_).trans ((packW_wN c i).trans ?_))
      · match a with
        | ⟨0, _⟩ => show (z 0).val = c.val + 0; omega
        | ⟨1, _⟩ => exact (Nat.zero_add _).symm
        | ⟨2, _⟩ => exact (Nat.zero_add _).symm
      · refine (Shape.rowMajor_val_two i).trans (Eq.trans ?_ (Shape.rowMajor_val_three j).symm)
        show (z 1).val * 256 + (z 2).val = (0 * 256 + (z 1).val) * 256 + (z 2).val
        omega
      · rw [show (z 0).val = c.val by omega]
  exact h z (z 0).isLt

/-! ## The bytes -/

/-- Whether the element of row `r` and column `k` is kept. -/
def kN (b : Bufs Ideal) (r k : Nat) : BitVec 1 := IntOp.cmpi .uge (b.rand (at2 r k)) 429496730#32

theorem kN_same {b b' : Bufs Ideal} (h : Same b b') (r k : Nat) : kN b' r k = kN b r k := by unfold kN; rw [h.rand]

/-- A bit as a number. -/
def bitE (k : BitVec 1) : EReal := Scalar.select k (Ideal.ofBits .f32 0x3F800000#32) (Ideal.ofBits .f32 0x00000000#32)

theorem bitE_eq (k : BitVec 1) : bitE k = ((k.toNat : ℝ) : EReal) := by
  unfold bitE
  rcases BitVec.eq_zero_or_eq_one k with h | h <;> subst h
  · show Ideal.ofBits .f32 0x00000000#32 = _
    rw [Ideal.ofBits_zero_f32]; simp
  · show Ideal.ofBits .f32 0x3F800000#32 = _
    simp [Ideal.ofBits, Ideal.ieee, -EReal.coe_mul]
    norm_num

theorem packV_at (p : FVec Ideal S32x256 .f32) (k : IVec S32x256 1) (w : S1x256x256.Idx → EReal) (j : S32x256.Idx) :
    packV (F := Ideal) p k w j = (p j : EReal) + ∑ l : Fin 256, bitE (k (ValueIdx.ix2 (j 0) l)) * w (ValueIdx.ix3 (0 : Fin 1) l (j 1)) := by
  have ej : j = ValueIdx.ix2 (j 0) (j 1) := by
    funext a
    match a with
    | ⟨0, _⟩ => rfl
    | ⟨1, _⟩ => rfl
  unfold packV
  show (p j : EReal) + _ = _
  refine congrArg ((p j : EReal) + ·) ?_
  generalize hl : (truncf .bf16 (select k (broadcast S32x256 (Scalar.ofBits .f32 0x3F800000#32 : Ideal .f32)) (broadcast S32x256 (Scalar.ofBits .f32 0x00000000#32))) bitsLt_bf16_f32 : FVec Ideal S32x256 .bf16) = L
  generalize hr : (shapeCast S256x256 w shapeCasts_S1x256x256_S256x256 : FVec Ideal S256x256 .bf16) = R
  have e := Ideal.matmul_plain_apply (M := 32) (K := 256) (N := 256) none L R (constant S32x256 .f32 0x00000000#32) (j 0) (j 1)
  rw [ej]
  refine Eq.trans e ?_
  show Ideal.ofBits .f32 0x00000000#32 + _ = _
  rw [Ideal.ofBits_zero_f32, zero_add]
  refine Finset.sum_congr rfl fun l _ => ?_
  subst hl hr
  refine congrArg (bitE (k (ValueIdx.ix2 (j 0) l)) * ·) (shapeCast_apply w _ _ (ValueIdx.ix3 (0 : Fin 1) l (j 1)) ?_)
  refine (Shape.rowMajor_val_three _).trans (Eq.trans ?_ (Shape.rowMajor_val_two _).symm)
  show (0 * 256 + l.val) * 256 + (j 1).val = l.val * 256 + (j 1).val
  omega

/-- After `m` strips of a tile. -/
structure PInv (b : Bufs Ideal) (s t m : Nat) (q : (FVec Ideal S32x128 .f32 × FVec Ideal S32x256 .f32) × Bufs Ideal) : Prop where
  pk : ∀ j : S32x256.Idx, q.1.2 j = ∑ K ∈ Finset.range (256 * m), bitE (kN b (32 * s + (j 0).val) (2048 * t + K)) * wN K (j 1).val
  same : Same b q.2

/-- The weights are in their buffer. -/
def WOk (b : Bufs Ideal) : Prop := ∀ z : S8x256x256.Idx, b.w z = wN (256 * (z 0).val + (z 1).val) (z 2).val

theorem WOk.same {b b' : Bufs Ideal} (h : Same b b') (hw : WOk b) : WOk b' := fun z => by rw [h.w]; exact hw z

theorem PInv.strip (b : Bufs Ideal) (hw : WOk b) (s : Fin 4) (t : Fin 2) (c : Fin 8) (q : (FVec Ideal S32x128 .f32 × FVec Ideal S32x256 .f32) × Bufs Ideal)
    (h : PInv b s.val t.val c.val q) : PInv b s.val t.val (c.val + 1) (stripP s t c q) where
  same := h.same.trans (same_strip s t c q)
  pk j := by
    refine (packV_at q.1.2 (keepV (F := Ideal) (ld (rStrip s t c) q.2.rand)) (ld (rW c) q.2.w) j).trans ?_
    rw [h.pk j, Nat.mul_succ, Finset.sum_range_add, ← Fin.sum_univ_eq_sum_range (fun x => bitE (kN b (32 * s.val + (j 0).val) (2048 * t.val + (256 * c.val + x))) * wN (256 * c.val + x) (j 1).val) 256]
    refine congrArg (_ + ·) (Finset.sum_congr rfl fun l _ => ?_)
    have hj : (j 0).val < 32 := (j 0).isLt
    have hl := l.isLt
    have hs := s.isLt
    have ht := t.isLt
    have hc := c.isLt
    have e1 : keepV (F := Ideal) (ld (rStrip s t c) q.2.rand) (ValueIdx.ix2 (j 0) l) = kN b (32 * s.val + (j 0).val) (2048 * t.val + (256 * c.val + l.val)) := by
      unfold keepV kN
      rw [shapeCast_self, ← h.same.rand]
      show IntOp.cmpi .uge (q.2.rand ((rStrip s t c).emb (ValueIdx.ix2 (j 0) l))) 429496730#32 = _
      refine congrArg (fun z => IntOp.cmpi .uge (q.2.rand z) 429496730#32) (funext fun a => Fin.ext ?_)
      match a with
      | ⟨0, _⟩ => show 32 * s.val + 1 * (j 0).val = (32 * s.val + (j 0).val) % 128; omega
      | ⟨1, _⟩ => show 256 * (8 * t.val + c.val) + 1 * l.val = (2048 * t.val + (256 * c.val + l.val)) % 4096; omega
    have e2 : ld (rW c) q.2.w (ValueIdx.ix3 (0 : Fin 1) l (j 1)) = wN (256 * c.val + l.val) (j 1).val := by
      show q.2.w ((rW c).emb (ValueIdx.ix3 (0 : Fin 1) l (j 1))) = _
      rw [h.same.w, hw]
      have a0 : (((rW c).emb (ValueIdx.ix3 (0 : Fin 1) l (j 1))) 0).val = c.val := by show c.val + 1 * 0 = _; omega
      have a1 : (((rW c).emb (ValueIdx.ix3 (0 : Fin 1) l (j 1))) 1).val = l.val := by show 0 + 1 * l.val = _; omega
      have a2 : (((rW c).emb (ValueIdx.ix3 (0 : Fin 1) l (j 1))) 2).val = (j 1).val := by show 0 + 1 * (j 1).val = _; omega
      rw [a0, a1, a2]
    rw [e1, e2]

theorem zero256_at (j : S32x256.Idx) : (zero256 : FVec Ideal S32x256 .f32) j = (0 : EReal) := Ideal.ofBits_zero_f32

theorem PInv.st0 (s : Fin 4) (b : Bufs Ideal) (hw : WOk b) : PInv b s.val 0 8 (Loop.st0 s b) := by
  unfold Loop.st0
  refine upto_ind (stripP s 0) (fun n q => PInv b s.val 0 n q) (fun c q hq => PInv.strip b hw s 0 c q hq) (st := ((zero128, zero256), b)) ⟨fun j => ?_, Same.rfl' b⟩
  exact (zero256_at j).trans (by simp)

theorem PInv.st1 (s : Fin 4) (b : Bufs Ideal) (hw : WOk b) : PInv b s.val 1 8 (Loop.st1 s b) := by
  unfold Loop.st1
  refine upto_ind (stripP s 1) (fun n q => PInv b s.val 1 n q) (fun c q hq => PInv.strip b hw s 1 c q hq) (st := (((Loop.st0 s b).1.1, zero256), (Loop.st0 s b).2)) ⟨fun j => ?_, same_st0 s b⟩
  exact (zero256_at j).trans (by simp)

/-- A tile's sum is over the eight columns of a byte. -/
theorem sum_byte (f : Nat → EReal) (n : Nat) (hn : n < 256) : ∑ K ∈ Finset.range (256 * 8), f K * wN K n = ∑ i ∈ Finset.range 8, f (8 * n + i) * (((2 ^ i : Nat) : ℝ) : EReal) := by
  rw [show 256 * 8 = 8 * 256 from rfl, ← sum_blocks (fun K => f K * wN K n) 8 256, Finset.sum_eq_single n]
  · refine Finset.sum_congr rfl fun i hi => ?_
    have := Finset.mem_range.mp hi
    unfold wN
    rw [if_pos (by omega), show (8 * n + i) % 8 = i by omega]
  · intro c _ hc
    refine Finset.sum_eq_zero fun i hi => ?_
    have := Finset.mem_range.mp hi
    unfold wN
    rw [if_neg (by omega), mul_zero]
  · intro h
    exact absurd (Finset.mem_range.mpr hn) h

/-- The byte of eight bits, the first the lowest. -/
def byteN (k : Nat → BitVec 1) : BitVec 8 :=
  ((Finset.univ : Finset (Fin 8)).fold IntOp.addi 0#32 fun i => IntOp.shli .host ((k i.val).setWidth 32) (BitVec.ofNat 32 i.val)).setWidth 8

theorem fptosi_nat (N : Nat) (h : N < 256) : Ideal.fptosi 32 ((N : ℝ) : EReal) = BitVec.ofNat 32 N := by
  unfold Ideal.fptosi
  rw [Ideal.toIntClamped_coe, if_pos (Nat.cast_nonneg N), Int.floor_natCast]
  rw [min_eq_right (by norm_num; omega), max_eq_right (by norm_num)]
  exact BitVec.ofInt_natCast 32 N

theorem byte_words : ∀ k0 k1 k2 k3 k4 k5 k6 k7 : BitVec 1,
    (BitVec.ofNat 32 (k0.toNat * 2 ^ 0 + k1.toNat * 2 ^ 1 + k2.toNat * 2 ^ 2 + k3.toNat * 2 ^ 3 + k4.toNat * 2 ^ 4 + k5.toNat * 2 ^ 5 + k6.toNat * 2 ^ 6 + k7.toNat * 2 ^ 7)).setWidth 8
    = (IntOp.addi (IntOp.shli .host (k0.setWidth 32) 0#32) (IntOp.addi (IntOp.shli .host (k1.setWidth 32) 1#32) (IntOp.addi (IntOp.shli .host (k2.setWidth 32) 2#32) (IntOp.addi (IntOp.shli .host (k3.setWidth 32) 3#32)
      (IntOp.addi (IntOp.shli .host (k4.setWidth 32) 4#32) (IntOp.addi (IntOp.shli .host (k5.setWidth 32) 5#32) (IntOp.addi (IntOp.shli .host (k6.setWidth 32) 6#32) (IntOp.addi (IntOp.shli .host (k7.setWidth 32) 7#32) 0#32)))))))).setWidth 8 := by
  decide +kernel

theorem fold8 (f : BitVec 32 → BitVec 32 → BitVec 32) [Std.Commutative f] [Std.Associative f] (b : BitVec 32) (g : Fin 8 → BitVec 32) :
    (Finset.univ : Finset (Fin 8)).fold f b g = f (g 0) (f (g 1) (f (g 2) (f (g 3) (f (g 4) (f (g 5) (f (g 6) (f (g 7) b))))))) := by
  simp only [Fin.univ_succ, Finset.fold_cons, Finset.fold_map, Finset.univ_unique, Finset.fold_singleton]
  rfl

theorem byte_eq (k : Nat → BitVec 1) : (Ideal.fptosi 32 (∑ i ∈ Finset.range 8, bitE (k i) * (((2 ^ i : Nat) : ℝ) : EReal))).setWidth 8 = byteN k := by
  have e : (∑ i ∈ Finset.range 8, bitE (k i) * (((2 ^ i : Nat) : ℝ) : EReal))
      = (((k 0).toNat * 2 ^ 0 + (k 1).toNat * 2 ^ 1 + (k 2).toNat * 2 ^ 2 + (k 3).toNat * 2 ^ 3 + (k 4).toNat * 2 ^ 4 + (k 5).toNat * 2 ^ 5 + (k 6).toNat * 2 ^ 6 + (k 7).toNat * 2 ^ 7 : Nat) : ℝ) := by
    simp only [Finset.sum_range_succ, Finset.sum_range_zero, zero_add, bitE_eq, ← EReal.coe_mul, ← EReal.coe_add]
    push_cast
    rfl
  have b0 := (k 0).isLt
  have b1 := (k 1).isLt
  have b2 := (k 2).isLt
  have b3 := (k 3).isLt
  have b4 := (k 4).isLt
  have b5 := (k 5).isLt
  have b6 := (k 6).isLt
  have b7 := (k 7).isLt
  rw [e, fptosi_nat _ (by omega), byte_words]
  unfold byteN
  rw [fold8]
  rfl

theorem byteV_at (b : Bufs Ideal) (s t : Nat) (q : (FVec Ideal S32x128 .f32 × FVec Ideal S32x256 .f32) × Bufs Ideal) (h : PInv b s t 8 q) (j : S32x256.Idx) :
    byteV (F := Ideal) q.1.2 j = byteN fun i => kN b (32 * s + (j 0).val) (8 * (256 * t + (j 1).val) + i) := by
  show (Ideal.fptosi 32 (q.1.2 j)).setWidth 8 = _
  rw [h.pk j, sum_byte (fun K => bitE (kN b (32 * s + (j 0).val) (2048 * t + K))) (j 1).val (j 1).isLt]
  refine (byte_eq fun i => kN b (32 * s + (j 0).val) (2048 * t + (8 * (j 1).val + i))).trans ?_
  refine congrArg byteN (funext fun i => congrArg (kN b _) ?_)
  omega

/-! ## Row after row -/

/-- The mask is done in the first `32·n` rows. -/
def MDone (b : Bufs Ideal) (n : Nat) (X : S128x512.Idx → BitVec 8) : Prop := ∀ y : S128x512.Idx, (y 0).val < 32 * n → X y = byteN fun i => kN b (y 0).val (8 * (y 1).val + i)

theorem MDone.same {b b' : Bufs Ideal} (h : Same b b') {n : Nat} {X : S128x512.Idx → BitVec 8} : MDone b' n X ↔ MDone b n X := by
  unfold MDone; simp only [kN_same h]

theorem tile_at (b : Bufs Ideal) (s : Fin 4) (t : Fin 2) (q : (FVec Ideal S32x128 .f32 × FVec Ideal S32x256 .f32) × Bufs Ideal) (h : PInv b s.val t.val 8 q)
    (X : S128x512.Idx → BitVec 8) (y : S128x512.Idx) (h0 : 32 * s.val ≤ (y 0).val ∧ (y 0).val < 32 * s.val + 32) (h1 : 256 * t.val ≤ (y 1).val ∧ (y 1).val < 256 * t.val + 256) :
    (rTile s t).overlay X (byteV (F := Ideal) q.1.2) y = byteN fun i => kN b (y 0).val (8 * (y 1).val + i) := by
  let j : S32x256.Idx := fun a => match a with
    | ⟨0, _⟩ => (⟨(y 0).val - 32 * s.val, by omega⟩ : Fin 32) | ⟨1, _⟩ => (⟨(y 1).val - 256 * t.val, by omega⟩ : Fin 256)
  refine (overlay_in _ _ _ _ _ y j fun a => ?_).trans ((byteV_at b s.val t.val q h j).trans ?_)
  · match a with
    | ⟨0, _⟩ => show (y 0).val = 32 * s.val + ((y 0).val - 32 * s.val); omega
    | ⟨1, _⟩ => show (y 1).val = 256 * t.val + ((y 1).val - 256 * t.val); omega
  · rw [show 32 * s.val + (j 0).val = (y 0).val by show 32 * s.val + ((y 0).val - 32 * s.val) = _; omega,
      show 256 * t.val + (j 1).val = (y 1).val by show 256 * t.val + ((y 1).val - 256 * t.val) = _; omega]

theorem keep_mask1 (s : Fin 4) (b : Bufs Ideal) : (Loop.st1 s b).2.mask = b.mask := by
  unfold Loop.st1
  refine (keep_upto (fun b => b.mask) (stripP s 1) (fun k q => by unfold stripP; rfl) _ 8).trans ?_
  unfold Loop.st0
  exact keep_upto (fun b => b.mask) (stripP s 0) (fun k q => by unfold stripP; rfl) ((zero128, zero256), b) 8

theorem keep_mask5 (s : Fin 4) (b : Bufs Ideal) : (Loop.st5 s b).mask = (Loop.st2 s b).mask := by
  have h4 : (Loop.st4 s b).2.mask = (Loop.st2 s b).mask := by
    unfold Loop.st4
    refine (keep_upto (fun b => b.mask) _ (fun k q => by unfold normalP; rfl) _ 32).trans ?_
    unfold Loop.st3
    exact keep_upto (fun b => b.mask) _ (fun k q => by unfold centreP; rfl) (zero128, Loop.st2 s b) 32
  rw [← h4]
  generalize hq : Loop.st4 s b = q
  unfold Loop.st5
  rw [hq]
  refine (keep_upto (fun b => b.mask) _ (fun k q => by unfold codeP; rfl) _ 32).trans ?_
  show (scaleP s q.1 q.2).mask = q.2.mask
  unfold scaleP; rfl

theorem mask2 (s : Fin 4) (b : Bufs Ideal) : (Loop.st2 s b).mask
    = (rTile s 1).overlay ((rTile s 0).overlay b.mask (byteV (F := Ideal) (Loop.st0 s b).1.2)) (byteV (F := Ideal) (Loop.st1 s b).1.2) := by
  rw [← keep_mask1 s b]
  generalize hp : Loop.st1 s b = p
  generalize hq : Loop.st0 s b = q
  unfold Loop.st2
  rw [hp, hq]
  unfold maskP
  rfl

theorem MDone.st5 (b : Bufs Ideal) (hw : WOk b) (s : Fin 4) (h : MDone b s.val b.mask) : MDone b (s.val + 1) (Loop.st5 s b).mask := by
  rw [keep_mask5, mask2]
  intro y hy
  have g1 : (y 1).val < 512 := (y 1).isLt
  by_cases hr : (y 0).val < 32 * s.val
  · rw [overlay_out _ _ _ _ _ _ 0 (.inl hr), overlay_out _ _ _ _ _ _ 0 (.inl hr), h y hr]
  · by_cases h1 : (y 1).val < 256
    · rw [overlay_out _ _ _ _ _ _ 1 (.inl (by show (y 1).val < 256 * 1; omega))]
      exact tile_at b s 0 _ (PInv.st0 s b hw) _ y ⟨by omega, by omega⟩ ⟨by show 256 * 0 ≤ _; omega, by show _ < 256 * 0 + 256; omega⟩
    · exact tile_at b s 1 _ (PInv.st1 s b hw) _ y ⟨by omega, by omega⟩ ⟨by show 256 * 1 ≤ _; omega, by show _ < 256 * 1 + 256; omega⟩

theorem mask_rows (b : Bufs Ideal) (hw : WOk b) : MDone b 4 (rowsP b).2.mask ∧ Same b (rowsP b).2 := by
  unfold rowsP
  refine upto_ind subP (fun k q => MDone b k q.2.mask ∧ Same b q.2) (fun s q h => ?_) (st := ((zeroRow, zeroRow), b)) ⟨fun y hy => by omega, Same.rfl' b⟩
  exact ⟨(MDone.same h.2).mp (MDone.st5 q.2 (hw.same h.2) s ((MDone.same h.2).mpr h.1)), h.2.trans (same_st5 s q.2)⟩

theorem work_mask (i : grid0.Coords) (b : Bufs Ideal) (hw : WOk b) (y : S128x512.Idx) : (workP i b).mask y = byteN fun i => kN b (y 0).val (8 * (y 1).val + i) := by
  have h : (y 0).val < 128 := (y 0).isLt
  exact (mask_rows b hw).1 y (by omega)

/-! ## At the end -/

variable (m : (ℓ : Loc nD τ sig) → Buf (Elt Ideal) ℓ) (c : Dev nD)

/-- Whether an element is kept, of the array of random words. -/
def keptOf (x : S2x1024x4096.Idx → BitVec 32) (r k : Nat) : BitVec 1 :=
  IntOp.cmpi .uge (shapeCast S2048x4096 x shapeCasts_S2x1024x4096_S2048x4096 (atG r k)) 429496730#32

def randM : S2x1024x4096.Idx → BitVec 32 := m ((c.tc : Thread nD τ).loc main_arg3)

theorem good_K {t : Fin cfg0.N} {b : Bufs Ideal} (hb : Good c m t b) (r k : Nat) (hr : r < 128) : kN b r k = keptOf (randM m c) (128 * t.val + r) k := by
  have ht : t.val < 16 := t.isLt
  unfold kN keptOf
  rw [hb.rand, in2, V2]
  refine congrArg (fun z => IntOp.cmpi .uge (shapeCast S2048x4096 (randM m c) shapeCasts_S2x1024x4096_S2048x4096 z) 429496730#32) (funext fun a => Fin.ext ?_)
  match a with
  | ⟨0, _⟩ =>
    have e : ((((cfg0.win 11).blk t).view.emb (at2 r k)) 0).val = win0_11.index t 0 * 128 + r % 128 := by blk_simp; rfl
    rw [(idx11 t).1] at e
    refine e.trans ?_
    show t.val * 128 + r % 128 = (128 * t.val + r) % 2048
    omega
  | ⟨1, _⟩ =>
    have e : ((((cfg0.win 11).blk t).view.emb (at2 r k)) 1).val = win0_11.index t 1 * 4096 + k % 4096 := by blk_simp; rfl
    rw [(idx11 t).2] at e
    refine e.trans ?_
    show 0 * 4096 + k % 4096 = k % 4096
    omega

theorem good_W {t : Fin cfg0.N} {b : Bufs Ideal} (hb : Good c m t b) : WOk b := by
  obtain ⟨b₀, h⟩ := hb.w
  intro z
  rw [h, fills_w]

theorem idx8 : ∀ t : Fin cfg0.N, win0_8.index t 0 = t.val ∧ win0_8.index t 1 = 0 := (by decide +kernel : ∀ t : Fin grid0.N, _)

theorem mask_final {r : PUnit × MemSt nD τ sig (Elt Ideal)} (h : RDat.FramePost cfg0 (fun c => rdat c m) (V m) r) :
    r.2.mem ((c.tc : Thread nD τ).loc main_v6_2) = fun y : S2048x512.Idx => byteN fun i => keptOf (randM m c) (y 0).val (8 * (y 1).val + i) := by
  obtain ⟨after, hL, hA⟩ := RDat.FramePost.exists_exact h c
  refine (hA 8).trans ?_
  refine Dat.arrAt_eq_of_covers _ 8 _ (by decide +kernel) fun t hf y => ?_
  obtain ⟨Y, -, b, hb, hX⟩ := hL 8 t hf
  have h0 : (y 0).val < 128 := (y 0).isLt
  have e0 : ((((cfg0.win 8).blk t).view.emb y) 0).val = win0_8.index t 0 * 128 + (y 0).val := by blk_simp
  have e1 : ((((cfg0.win 8).blk t).view.emb y) 1).val = win0_8.index t 1 * 512 + (y 1).val := by blk_simp
  rw [(idx8 t).1] at e0
  rw [(idx8 t).2] at e1
  show after 8 t y = byteN fun i => keptOf (randM m c) ((((cfg0.win 8).blk t).view.emb y) 0).val (8 * ((((cfg0.win 8).blk t).view.emb y) 1).val + i)
  rw [hX, e0, e1, Nat.mul_comm t.val, Nat.zero_mul, Nat.zero_add]
  refine (work_mask (grid0.coords t) b (good_W m c hb) y).trans ?_
  refine congrArg byteN (funext fun i => good_K m c hb _ _ h0)

end Cert.KernelIdeal.Loop

end
-- ==== Proof.RefM.lean ====
/- The reference's mask is the one the kernel is proved to leave. -/
module

public import proofs.«01_k».proof.Proof.KernelIdeal.Mask
public import proofs.«01_k».proof.Proof.Ref

@[expose] public section

noncomputable section

namespace Cert.Ref

open Idealize.ShloMosaic Cert.ReferenceIdeal Cert.ReferenceIdeal.Gen
open Cert.KernelIdeal.Loop (byteN keptOf atG)

variable (m3 : S2x1024x4096.Idx → BitVec 32)

/-- The reference's kept elements, in groups of eight. -/
def keptR : S2x1024x512x8.Idx → BitVec 1 :=
  shapeCast S2x1024x512x8 (cmpi .uge m3 (broadcastInDim S2x1024x4096 ![] bcast_S_S2x1024x4096 (constantI S_ 32 429496730#32))) shapeCasts_S2x1024x4096_S2x1024x512x8

theorem keptR_at (w : S2x1024x512x8.Idx) : keptR m3 w = keptOf m3 (1024 * (w 0).val + (w 1).val) (8 * (w 2).val + (w 3).val) := by
  have g0 : (w 0).val < 2 := (w 0).isLt
  have g1 : (w 1).val < 1024 := (w 1).isLt
  have g2 : (w 2).val < 512 := (w 2).isLt
  have g3 : (w 3).val < 8 := (w 3).isLt
  let k : S2x1024x4096.Idx := fun a => match a with | ⟨0, _⟩ => w 0 | ⟨1, _⟩ => w 1 | ⟨2, _⟩ => (⟨8 * (w 2).val + (w 3).val, by omega⟩ : Fin 4096)
  refine (shapeCast_apply (cmpi .uge m3 (broadcastInDim S2x1024x4096 ![] bcast_S_S2x1024x4096 (constantI S_ 32 429496730#32))) _ w k ?_).trans ?_
  · refine (Shape.rowMajor_val_three k).trans (Eq.trans ?_ (Shape.rowMajor_val_four w).symm)
    show ((w 0).val * 1024 + (w 1).val) * 4096 + (8 * (w 2).val + (w 3).val) = (((w 0).val * 1024 + (w 1).val) * 512 + (w 2).val) * 8 + (w 3).val
    omega
  · unfold keptOf
    show IntOp.cmpi .uge (m3 k) 429496730#32 = IntOp.cmpi .uge (m3 (Shape.reshapeEquiv shapeCasts_S2x1024x4096_S2048x4096 _)) 429496730#32
    rw [at_row]
    refine congrArg (fun z => IntOp.cmpi .uge (m3 z) 429496730#32) (funext fun a => Fin.ext ?_)
    match a with
    | ⟨0, _⟩ => show (w 0).val = (1024 * (w 0).val + (w 1).val) % 2048 / 1024; omega
    | ⟨1, _⟩ => show (w 1).val = (1024 * (w 0).val + (w 1).val) % 2048 % 1024; omega
    | ⟨2, _⟩ => show 8 * (w 2).val + (w 3).val = (8 * (w 2).val + (w 3).val) % 4096; omega

/-- The places of the bits in a byte. -/
def placeR : S2x1024x512x8.Idx → BitVec 32 :=
  broadcastInDim S2x1024x512x8 ![0, 1, 2, 3] bcast_S1x1x1x8_S2x1024x512x8_0_1_2_3 (broadcastInDim S1x1x1x8 ![3] bcast_S8_S1x1x1x8_3 (iotaInDim S8 32 0))

theorem placeR_at (w : S2x1024x512x8.Idx) : placeR w = BitVec.ofNat 32 (w 3).val := by
  let k4 : S1x1x1x8.Idx := fun a => match a with | ⟨0, _⟩ => (0 : Fin 1) | ⟨1, _⟩ => (0 : Fin 1) | ⟨2, _⟩ => (0 : Fin 1) | ⟨3, _⟩ => w 3
  let k1 : S8.Idx := fun a => match a with | ⟨0, _⟩ => w 3
  refine (broadcastInDim_apply _ _ _ w k4 fun a => ?_).trans ((broadcastInDim_apply _ _ _ k4 k1 fun a => ?_).trans rfl)
  · match a with
    | ⟨0, _⟩ => rfl
    | ⟨1, _⟩ => rfl
    | ⟨2, _⟩ => rfl
    | ⟨3, _⟩ => rfl
  · match a with
    | ⟨0, _⟩ => rfl

theorem reduces_bits : S2x1024x512x8.Reduces [3] S2x1024x512 := by decide

/-- The bytes, of the kept elements and the places. -/
def bytesR (K : S2x1024x512x8.Idx → BitVec 1) (P : S2x1024x512x8.Idx → BitVec 32) : S2x1024x512.Idx → BitVec 8 :=
  trunci 8 (Host.reduce IntOp.addi (Host.shli (extui 32 K natLt_1_32) P) (constantI S_ 32 0#32) reducesTo_S2x1024x512x8_S2x1024x512_d3 h_S_) natLt_8_32

theorem bytesR_at (K : S2x1024x512x8.Idx → BitVec 1) (P : S2x1024x512x8.Idx → BitVec 32) (z : S2x1024x512.Idx) : bytesR K P z
    = ((Finset.univ : Finset (Fin 8)).fold IntOp.addi 0#32 fun i => IntOp.shli .host ((K (reduces_bits.lift z i)).setWidth 32) (P (reduces_bits.lift z i))).setWidth 8 := by
  unfold bytesR
  show BitVec.setWidth 8 (Host.reduce IntOp.addi (Host.shli (extui 32 K natLt_1_32) P) (constantI S_ 32 0#32) reducesTo_S2x1024x512x8_S2x1024x512_d3 h_S_ z) = _
  rw [Host.reduce_eq_fold_single IntOp.addi (Host.shli (extui 32 K natLt_1_32) P) (constantI S_ 32 0#32) _ reduces_bits h_S_ z]
  rfl

theorem mask_at (z : S2x1024x512.Idx) : bytesR (keptR m3) placeR z = byteN fun i => keptOf m3 (1024 * (z 0).val + (z 1).val) (8 * (z 2).val + i) := by
  rw [bytesR_at]
  unfold byteN
  refine congrArg (fun f : Fin 8 → BitVec 32 => ((Finset.univ : Finset (Fin 8)).fold IntOp.addi 0#32 f).setWidth 8) (funext fun i => ?_)
  rw [keptR_at, placeR_at]
  rfl

theorem mask_eq : shapeCast S2048x512 (bytesR (keptR m3) placeR) shapeCasts_S2x1024x512_S2048x512
    = fun y : S2048x512.Idx => byteN fun i => keptOf m3 (y 0).val (8 * (y 1).val + i) := by
  funext y
  have g0 : (y 0).val < 2048 := (y 0).isLt
  let z : S2x1024x512.Idx := fun a => match a with
    | ⟨0, _⟩ => (⟨(y 0).val / 1024, by omega⟩ : Fin 2) | ⟨1, _⟩ => (⟨(y 0).val % 1024, by omega⟩ : Fin 1024) | ⟨2, _⟩ => y 1
  refine (shapeCast_apply (bytesR (keptR m3) placeR) _ y z ?_).trans ((mask_at m3 z).trans ?_)
  · refine (Shape.rowMajor_val_three z).trans (Eq.trans ?_ (Shape.rowMajor_val_two y).symm)
    show ((y 0).val / 1024 * 1024 + (y 0).val % 1024) * 512 + (y 1).val = (y 0).val * 512 + (y 1).val
    omega
  · refine congrArg byteN (funext fun i => congrArg (fun r => keptOf m3 r _) ?_)
    show 1024 * ((y 0).val / 1024) + (y 0).val % 1024 = _; omega

end Cert.Ref

end
-- ==== Proof.lean ====
module

public import proofs.«01_k».proof.Defs
public import proofs.«01_k».proof.Proof.Kernel.Body
public import proofs.«01_k».proof.Proof.Ref
public import proofs.«01_k».proof.Proof.RefQ
public import proofs.«01_k».proof.Proof.RefM
public import proofs.«01_k».proof.Proof.Gen.ReferenceIdeal
public import Idealize.ShloMosaic.Lib.Claim
public import Idealize.ShloMosaic.Adequacy
public import Idealize.ShloMosaic.Init

@[expose] public section

noncomputable section

namespace Cert.Proof

open Idealize.ShloMosaic Idealize.SL.Sem

theorem quiescent_R : Cert.quiescent_ReferenceIdeal := by
  intro m g _
  refine θ_run_mono (?_ : θ_run _ _ _ fun r => ∀ c : Dev Cert.ReferenceIdeal.nD, _) (fun r h => ⟨h, sem_eq_zero_of_no_sems (by decide) r.2⟩)
  hlo_run

theorem run_stats (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v6_0) = (fun y : Cert.KernelIdeal.S2048x4096.Idx => Cert.KernelIdeal.Loop.codeOf (Cert.KernelIdeal.Loop.hM m c) (Cert.KernelIdeal.Loop.gM m c) (Cert.KernelIdeal.Loop.bM m c) (y 0).val (y 1).val)
      ∧ r.2.mem ((c.tc : Thread Cert.KernelIdeal.nD Cert.KernelIdeal.τ).loc Cert.KernelIdeal.main_v6_1) = (fun y : Cert.KernelIdeal.S2048x32.Idx => Cert.KernelIdeal.Loop.scaleS (Cert.KernelIdeal.Loop.amaxOf (Cert.KernelIdeal.Loop.hM m c) (Cert.KernelIdeal.Loop.gM m c) (Cert.KernelIdeal.Loop.bM m c) (y 0).val (y 1).val))
      ∧ r.2.mem ((c.tc : Thread Cert.KernelIdeal.nD Cert.KernelIdeal.τ).loc Cert.KernelIdeal.main_v6_2) = (fun y : Cert.KernelIdeal.S2048x512.Idx => Cert.KernelIdeal.Loop.byteN fun i => Cert.KernelIdeal.Loop.keptOf (Cert.KernelIdeal.Loop.randM m c) (y 0).val (8 * (y 1).val + i))
      ∧ r.2.mem ((c.tc : Thread Cert.KernelIdeal.nD Cert.KernelIdeal.τ).loc Cert.KernelIdeal.main_v6_3) = (fun y => Cert.KernelIdeal.Loop.meanOf (Cert.KernelIdeal.Loop.hM m c) (Cert.KernelIdeal.Loop.rowOf y))
      ∧ r.2.mem ((c.tc : Thread Cert.KernelIdeal.nD Cert.KernelIdeal.τ).loc Cert.KernelIdeal.main_v6_4) = (fun y => Cert.KernelIdeal.Loop.rstdOf (Cert.KernelIdeal.Loop.hM m c) (Cert.KernelIdeal.Loop.rowOf y))
      ∧ r.2.mem ((c.tc : Thread Cert.KernelIdeal.nD Cert.KernelIdeal.τ).loc Cert.KernelIdeal.main_v6_5) = Cert.KernelIdeal.Loop.hM m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0) ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1) ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2) ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3) ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4) ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  θ_run_mono (θ_run_and (Cert.KernelIdeal.Loop.run m g) (Cert.KernelIdeal.Loop.quiet m g)) fun r h c =>
    ⟨Cert.KernelIdeal.Loop.codes_final m c h.1.1, Cert.KernelIdeal.Loop.scales_final m c h.1.1, Cert.KernelIdeal.Loop.mask_final m c h.1.1, Cert.KernelIdeal.Loop.mean_final m c h.1.1, Cert.KernelIdeal.Loop.rstd_final m c h.1.1, Cert.KernelIdeal.Loop.h_final m c h.1.1, h.2.1 c⟩

set_option maxRecDepth 20000 in
set_option maxHeartbeats 1000000 in
theorem algebraic : Cert.algebraic_KernelIdeal_ReferenceIdeal := by
  pair_intro
  · exact run_stats m g
  · hlo_run
    · simp -implicitDefEqProofs only [StableHlo.TRef.toBuf, StableHlo.TRef.ofBuf, cast_cast, cast_eq]
      exact Cert.Ref.codes_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
    · simp -implicitDefEqProofs only [StableHlo.TRef.toBuf, StableHlo.TRef.ofBuf, cast_cast, cast_eq]
      exact Cert.Ref.scales_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
    · exact Cert.Ref.mask_eq (m ((c.tc : Thread Cert.KernelIdeal.nD Cert.KernelIdeal.τ).loc Cert.KernelIdeal.main_arg3))
    · exact Cert.Ref.mean_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    · exact Cert.Ref.rstd_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    · exact Cert.Ref.h_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))

theorem claim : Cert.Claim := ⟨Cert.Kernel.Gen.facts, Cert.KernelIdeal.Gen.facts, Cert.ReferenceIdeal.Gen.facts,
  fun m g _ => Cert.Kernel.Loop.quiet m g,
  fun m g _ => Cert.KernelIdeal.Loop.quiet m g,
  quiescent_R,
  trivial, algebraic⟩

end Cert.Proof

end
